-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_normal [hPre_normal : Cert.Pre_normal.Facts] (m : (ℓ : Loc Cert.KernelIdeal.nD Cert.KernelIdeal.τ Cert.KernelIdeal.sig) → Buf (Elt Ideal) ℓ) : Prop :=
  ∀ c : Dev Cert.KernelIdeal.nD,
    (Cert.Pre_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_normal [hPre_normal : Cert.Pre_normal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_normal [hKernelIdeal : Cert.KernelIdeal.Facts] [hPre_normal : Cert.Pre_normal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_normal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_normal [hReferenceIdeal : Cert.ReferenceIdeal.Facts] [hPre_normal : Cert.Pre_normal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_normal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.bf16_pair.Statement Cert.KernelIdeal.S192x128 Cert.KernelIdeal.S96x128
  ∧ IdealRules.bf16_pair.SelectZeroStatement Cert.KernelIdeal.S96x128
  ∧ IdealRules.bf16_pair.Statement Cert.KernelIdeal.S64x128 Cert.KernelIdeal.S32x128

def algebraic_KernelIdeal_ReferenceIdeal_pre_normal [hKernelIdeal : Cert.KernelIdeal.Facts] [hReferenceIdeal : Cert.ReferenceIdeal.Facts] [hPre_normal : Cert.Pre_normal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_normal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39_0)) (v1 : (c : Dev Cert.KernelIdeal.nD) → Buf (Elt Ideal) ((c.tc : Thread Cert.KernelIdeal.nD Cert.KernelIdeal.τ).loc Cert.KernelIdeal.main_v39_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_0) = v0 c
          ∧ r.2.mem ((c.tc : Thread Cert.KernelIdeal.nD Cert.KernelIdeal.τ).loc Cert.KernelIdeal.main_v39_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_v121_7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_normal : Cert.Pre_normal.Facts),
    quiescent_Kernel (hKernel := hKernel)
    ∧ quiescent_KernelIdeal (hKernelIdeal := hKernelIdeal)
    ∧ quiescent_KernelIdeal_pre_normal (hKernelIdeal := hKernelIdeal) (hPre_normal := hPre_normal)
    ∧ quiescent_ReferenceIdeal (hReferenceIdeal := hReferenceIdeal)
    ∧ quiescent_ReferenceIdeal_pre_normal (hReferenceIdeal := hReferenceIdeal) (hPre_normal := hPre_normal)
    ∧ preserves_Kernel_KernelIdeal
    ∧ algebraic_KernelIdeal_ReferenceIdeal_pre_normal (hKernelIdeal := hKernelIdeal) (hReferenceIdeal := hReferenceIdeal) (hPre_normal := hPre_normal)
-- ==== Pre_normal.lean ====
abbrev S2x1024x36x192 : Shape := ⟨4, ![2, 1024, 36, 192]⟩
abbrev S2x1024x36x6 : Shape := ⟨4, ![2, 1024, 36, 6]⟩
abbrev S2x1024x36x128 : Shape := ⟨4, ![2, 1024, 36, 128]⟩
abbrev S2x1024x36 : Shape := ⟨3, ![2, 1024, 36]⟩
abbrev S2x36x192x128 : Shape := ⟨4, ![2, 36, 192, 128]⟩
abbrev S_ : Shape := ⟨0, ![]⟩

class Facts : Prop where
  bcast_S_S2x1024x36x192 : S_.BroadcastsInDim S2x1024x36x192 (![] : Fin 0 → Fin S2x1024x36x192.rank)
  bcast_S_S2x1024x36x6 : S_.BroadcastsInDim S2x1024x36x6 (![] : Fin 0 → Fin S2x1024x36x6.rank)
  bcast_S_S2x1024x36x128 : S_.BroadcastsInDim S2x1024x36x128 (![] : Fin 0 → Fin S2x1024x36x128.rank)
  bcast_S_S2x1024x36 : S_.BroadcastsInDim S2x1024x36 (![] : Fin 0 → Fin S2x1024x36.rank)
  bcast_S_S2x36x192x128 : S_.BroadcastsInDim S2x36x192x128 (![] : Fin 0 → Fin S2x36x192x128.rank)

variable [Facts]

def fn_part1 {F : FTy → Type} [FloatOps F] (main_arg3 : IVec S2x1024x36x6 8) (main_arg4 : FVec F S2x1024x36x128 .bf16) (main_arg5 : FVec F S2x1024x36x192 .f32) (main_arg6 : FVec F S2x1024x36 .f32) (main_arg7 : FVec F S2x36x192x128 .f32) (main_v4 : IVec S2x1024x36x192 1) (main_v9 : IVec S2x1024x36x192 1) (main_v14 : IVec S2x1024x36x6 1) (main_v16 : IVec S2x1024x36x6 1) : IVec S2x1024x36x192 1 × IVec S2x1024x36x192 1 × IVec S2x1024x36x6 1 × IVec S2x1024x36x6 1 × IVec S2x1024x36x128 1 × IVec S2x1024x36x192 1 × IVec S2x1024x36 1 × IVec S2x36x192x128 1 :=
  let main_c_6 : IVec S_ 8 := constantI S_ 8 254#8
  let main_v17 : IVec S2x1024x36x6 8 := broadcastInDim S2x1024x36x6 ![] bcast_S_S2x1024x36x6 main_c_6
  let main_v18 : IVec S2x1024x36x6 1 := cmpi .ule main_arg3 main_v17
  let main_v19 : IVec S2x1024x36x6 1 := andi main_v16 main_v18
  let main_v20 : FVec F S2x1024x36x128 .bf16 := Host.absf main_arg4
  let main_cst : FVec F S_ .bf16 := constant S_ .bf16 0x7F80#16
  let main_v21 : FVec F S2x1024x36x128 .bf16 := broadcastInDim S2x1024x36x128 ![] bcast_S_S2x1024x36x128 main_cst
  let main_v22 : IVec S2x1024x36x128 1 := cmpf .olt main_v20 main_v21
  let main_v23 : FVec F S2x1024x36x192 .f32 := Host.absf main_arg5
  let main_cst_7 : FVec F S_ .f32 := constant S_ .f32 0x7F800000#32
  let main_v24 : FVec F S2x1024x36x192 .f32 := broadcastInDim S2x1024x36x192 ![] bcast_S_S2x1024x36x192 main_cst_7
  let main_v25 : IVec S2x1024x36x192 1 := cmpf .olt main_v23 main_v24
  let main_v26 : FVec F S2x1024x36 .f32 := Host.absf main_arg6
  let main_cst_8 : FVec F S_ .f32 := constant S_ .f32 0x7F800000#32
  let main_v27 : FVec F S2x1024x36 .f32 := broadcastInDim S2x1024x36 ![] bcast_S_S2x1024x36 main_cst_8
  let main_v28 : IVec S2x1024x36 1 := cmpf .olt main_v26 main_v27
  let main_v29 : FVec F S2x36x192x128 .f32 := Host.absf main_arg7
  let main_cst_9 : FVec F S_ .f32 := constant S_ .f32 0x7F800000#32
  let main_v30 : FVec F S2x36x192x128 .f32 := broadcastInDim S2x36x192x128 ![] bcast_S_S2x36x192x128 main_cst_9
  let main_v31 : IVec S2x36x192x128 1 := cmpf .olt main_v29 main_v30
  (main_v4, main_v9, main_v14, main_v19, main_v22, main_v25, main_v28, main_v31)

def fn {F : FTy → Type} [FloatOps F] (main_arg0 : IVec S2x1024x36x192 8) (main_arg1 : IVec S2x1024x36x6 8) (main_arg2 : IVec S2x1024x36x192 8) (main_arg3 : IVec S2x1024x36x6 8) (main_arg4 : FVec F S2x1024x36x128 .bf16) (main_arg5 : FVec F S2x1024x36x192 .f32) (main_arg6 : FVec F S2x1024x36 .f32) (main_arg7 : FVec F S2x36x192x128 .f32) : IVec S2x1024x36x192 1 × IVec S2x1024x36x192 1 × IVec S2x1024x36x6 1 × IVec S2x1024x36x6 1 × IVec S2x1024x36x128 1 × IVec S2x1024x36x192 1 × IVec S2x1024x36 1 × IVec S2x36x192x128 1 :=
  let main_c : IVec S_ 8 := constantI S_ 8 127#8
  let main_v0 : IVec S2x1024x36x192 8 := broadcastInDim S2x1024x36x192 ![] bcast_S_S2x1024x36x192 main_c
  let main_v1 : IVec S2x1024x36x192 1 := cmpi .ne main_arg0 main_v0
  let main_c_0 : IVec S_ 8 := constantI S_ 8 255#8
  let main_v2 : IVec S2x1024x36x192 8 := broadcastInDim S2x1024x36x192 ![] bcast_S_S2x1024x36x192 main_c_0
  let main_v3 : IVec S2x1024x36x192 1 := cmpi .ne main_arg0 main_v2
  let main_v4 : IVec S2x1024x36x192 1 := andi main_v1 main_v3
  let main_c_1 : IVec S_ 8 := constantI S_ 8 127#8
  let main_v5 : IVec S2x1024x36x192 8 := broadcastInDim S2x1024x36x192 ![] bcast_S_S2x1024x36x192 main_c_1
  let main_v6 : IVec S2x1024x36x192 1 := cmpi .ne main_arg2 main_v5
  let main_c_2 : IVec S_ 8 := constantI S_ 8 255#8
  let main_v7 : IVec S2x1024x36x192 8 := broadcastInDim S2x1024x36x192 ![] bcast_S_S2x1024x36x192 main_c_2
  let main_v8 : IVec S2x1024x36x192 1 := cmpi .ne main_arg2 main_v7
  let main_v9 : IVec S2x1024x36x192 1 := andi main_v6 main_v8
  let main_c_3 : IVec S_ 8 := constantI S_ 8 1#8
  let main_v10 : IVec S2x1024x36x6 8 := broadcastInDim S2x1024x36x6 ![] bcast_S_S2x1024x36x6 main_c_3
  let main_v11 : IVec S2x1024x36x6 1 := cmpi .uge main_arg1 main_v10
  let main_c_4 : IVec S_ 8 := constantI S_ 8 254#8
  let main_v12 : IVec S2x1024x36x6 8 := broadcastInDim S2x1024x36x6 ![] bcast_S_S2x1024x36x6 main_c_4
  let main_v13 : IVec S2x1024x36x6 1 := cmpi .ule main_arg1 main_v12
  let main_v14 : IVec S2x1024x36x6 1 := andi main_v11 main_v13
  let main_c_5 : IVec S_ 8 := constantI S_ 8 1#8
  let main_v15 : IVec S2x1024x36x6 8 := broadcastInDim S2x1024x36x6 ![] bcast_S_S2x1024x36x6 main_c_5
  let main_v16 : IVec S2x1024x36x6 1 := cmpi .uge main_arg3 main_v15
  fn_part1 (F := F) main_arg3 main_arg4 main_arg5 main_arg6 main_arg7 main_v4 main_v9 main_v14 main_v16
-- ==== Kernel.lean ====
abbrev S2x1024x36x192 : Shape := ⟨4, ![2, 1024, 36, 192]⟩
abbrev S2x1024x36x6 : Shape := ⟨4, ![2, 1024, 36, 6]⟩
abbrev S2x1024x36x128 : Shape := ⟨4, ![2, 1024, 36, 128]⟩
abbrev S2x1024x36 : Shape := ⟨3, ![2, 1024, 36]⟩
abbrev S2x36x192x128 : Shape := ⟨4, ![2, 36, 192, 128]⟩
abbrev S2x36x1024 : Shape := ⟨3, ![2, 36, 1024]⟩
abbrev S2x36x1x1024 : Shape := ⟨4, ![2, 36, 1, 1024]⟩
abbrev S_ : Shape := ⟨0, ![]⟩
abbrev S2x36x3x1024 : Shape := ⟨4, ![2, 36, 3, 1024]⟩
abbrev S2x36x6x1024 : Shape := ⟨4, ![2, 36, 6, 1024]⟩
abbrev S2x36x16x1024 : Shape := ⟨4, ![2, 36, 16, 1024]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S128x256 : Shape := ⟨2, ![128, 256]⟩
abbrev S2x36x192x1024 : Shape := ⟨4, ![2, 36, 192, 1024]⟩
abbrev S2x36x1024x128 : Shape := ⟨4, ![2, 36, 1024, 128]⟩
abbrev S2x1024x4608 : Shape := ⟨3, ![2, 1024, 4608]⟩
abbrev S1x4x192x128 : Shape := ⟨4, ![1, 4, 192, 128]⟩
abbrev S1x4x128x128 : Shape := ⟨4, ![1, 4, 128, 128]⟩
abbrev S1x4x16x128 : Shape := ⟨4, ![1, 4, 16, 128]⟩
abbrev S1x128x512 : Shape := ⟨3, ![1, 128, 512]⟩
abbrev S64x128 : Shape := ⟨2, ![64, 128]⟩
abbrev S32x128 : Shape := ⟨2, ![32, 128]⟩
abbrev S8x128 : Shape := ⟨2, ![8, 128]⟩
abbrev S1x1x1x128 : Shape := ⟨4, ![1, 1, 1, 128]⟩
abbrev S4x128 : Shape := ⟨2, ![4, 128]⟩
abbrev S128x8 : Shape := ⟨2, ![128, 8]⟩
abbrev S1x1x192x128 : Shape := ⟨4, ![1, 1, 192, 128]⟩
abbrev S192x128 : Shape := ⟨2, ![192, 128]⟩
abbrev S192x256 : Shape := ⟨2, ![192, 256]⟩
abbrev S256x256 : Shape := ⟨2, ![256, 256]⟩
abbrev S128x192 : Shape := ⟨2, ![128, 192]⟩
abbrev S96x128 : Shape := ⟨2, ![96, 128]⟩
abbrev S64x192 : Shape := ⟨2, ![64, 192]⟩
abbrev S8x128x1 : Shape := ⟨3, ![8, 128, 1]⟩
abbrev S32x256 : Shape := ⟨2, ![32, 256]⟩
abbrev S256x128 : Shape := ⟨2, ![256, 128]⟩
abbrev S64x256 : Shape := ⟨2, ![64, 256]⟩
abbrev S192x384 : Shape := ⟨2, ![192, 384]⟩
abbrev S128x384 : Shape := ⟨2, ![128, 384]⟩
abbrev S1x1x64x128 : Shape := ⟨4, ![1, 1, 64, 128]⟩
abbrev S1x64x128 : Shape := ⟨3, ![1, 64, 128]⟩
abbrev S192x1 : Shape := ⟨2, ![192, 1]⟩

abbrev nBuf : Space → Nat
  | .hbm => 86
  | .vmem => 17
  | .smem => 0
  | _ => 0

abbrev bufTy : (tb : Table) → Fin (tcTables nBuf tb) → BufTy
  | .hbm, ⟨0, _⟩ => ⟨S2x1024x36x192, .i8⟩
  | .hbm, ⟨1, _⟩ => ⟨S2x1024x36x6, .i8⟩
  | .hbm, ⟨2, _⟩ => ⟨S2x1024x36x192, .i8⟩
  | .hbm, ⟨3, _⟩ => ⟨S2x1024x36x6, .i8⟩
  | .hbm, ⟨4, _⟩ => ⟨S2x1024x36x128, .bf16⟩
  | .hbm, ⟨5, _⟩ => ⟨S2x1024x36x192, .f32⟩
  | .hbm, ⟨6, _⟩ => ⟨S2x1024x36, .f32⟩
  | .hbm, ⟨7, _⟩ => ⟨S2x36x192x128, .f32⟩
  | .hbm, ⟨8, _⟩ => ⟨S2x1024x36x192, .fp8e4m3⟩
  | .hbm, ⟨9, _⟩ => ⟨S2x1024x36x192, .fp8e4m3⟩
  | .hbm, ⟨10, _⟩ => ⟨S2x36x1024, .f32⟩
  | .hbm, ⟨11, _⟩ => ⟨S2x36x1x1024, .f32⟩
  | .hbm, ⟨12, _⟩ => ⟨S_, .f32⟩
  | .hbm, ⟨13, _⟩ => ⟨S2x36x3x1024, .f32⟩
  | .hbm, ⟨14, _⟩ => ⟨S2x36x6x1024, .i8⟩
  | .hbm, ⟨15, _⟩ => ⟨S2x36x6x1024, .i32⟩
  | .hbm, ⟨16, _⟩ => ⟨S_, .i32⟩
  | .hbm, ⟨17, _⟩ => ⟨S2x36x6x1024, .i32⟩
  | .hbm, ⟨18, _⟩ => ⟨S2x36x6x1024, .i32⟩
  | .hbm, ⟨19, _⟩ => ⟨S2x36x6x1024, .f32⟩
  | .hbm, ⟨20, _⟩ => ⟨S2x36x6x1024, .i8⟩
  | .hbm, ⟨21, _⟩ => ⟨S2x36x6x1024, .i32⟩
  | .hbm, ⟨22, _⟩ => ⟨S_, .i32⟩
  | .hbm, ⟨23, _⟩ => ⟨S2x36x6x1024, .i32⟩
  | .hbm, ⟨24, _⟩ => ⟨S2x36x6x1024, .i32⟩
  | .hbm, ⟨25, _⟩ => ⟨S2x36x6x1024, .f32⟩
  | .hbm, ⟨26, _⟩ => ⟨S2x36x16x1024, .f32⟩
  | .hbm, ⟨27, _⟩ => ⟨S128, .i32⟩
  | .hbm, ⟨28, _⟩ => ⟨S128x1, .i32⟩
  | .hbm, ⟨29, _⟩ => ⟨S128, .i32⟩
  | .hbm, ⟨30, _⟩ => ⟨S1x128, .i32⟩
  | .hbm, ⟨31, _⟩ => ⟨S_, .i32⟩
  | .hbm, ⟨32, _⟩ => ⟨S_, .i32⟩
  | .hbm, ⟨33, _⟩ => ⟨S128x1, .i32⟩
  | .hbm, ⟨34, _⟩ => ⟨S128x1, .i32⟩
  | .hbm, ⟨35, _⟩ => ⟨S128x1, .i32⟩
  | .hbm, ⟨36, _⟩ => ⟨S_, .i32⟩
  | .hbm, ⟨37, _⟩ => ⟨S128x1, .i32⟩
  | .hbm, ⟨38, _⟩ => ⟨S128x1, .i1⟩
  | .hbm, ⟨39, _⟩ => ⟨S128x1, .i32⟩
  | .hbm, ⟨40, _⟩ => ⟨S128x1, .i32⟩
  | .hbm, ⟨41, _⟩ => ⟨S_, .i32⟩
  | .hbm, ⟨42, _⟩ => ⟨S128x1, .i32⟩
  | .hbm, ⟨43, _⟩ => ⟨S128x1, .i1⟩
  | .hbm, ⟨44, _⟩ => ⟨S128x1, .i1⟩
  | .hbm, ⟨45, _⟩ => ⟨S_, .i32⟩
  | .hbm, ⟨46, _⟩ => ⟨S128x1, .i32⟩
  | .hbm, ⟨47, _⟩ => ⟨S128x1, .i32⟩
  | .hbm, ⟨48, _⟩ => ⟨S128x1, .i32⟩
  | .hbm, ⟨49, _⟩ => ⟨S_, .i32⟩
  | .hbm, ⟨50, _⟩ => ⟨S_, .i32⟩
  | .hbm, ⟨51, _⟩ => ⟨S1x128, .i32⟩
  | .hbm, ⟨52, _⟩ => ⟨S1x128, .i32⟩
  | .hbm, ⟨53, _⟩ => ⟨S1x128, .i32⟩
  | .hbm, ⟨54, _⟩ => ⟨S_, .i32⟩
  | .hbm, ⟨55, _⟩ => ⟨S1x128, .i32⟩
  | .hbm, ⟨56, _⟩ => ⟨S1x128, .i1⟩
  | .hbm, ⟨57, _⟩ => ⟨S1x128, .i32⟩
  | .hbm, ⟨58, _⟩ => ⟨S1x128, .i32⟩
  | .hbm, ⟨59, _⟩ => ⟨S_, .i32⟩
  | .hbm, ⟨60, _⟩ => ⟨S1x128, .i32⟩
  | .hbm, ⟨61, _⟩ => ⟨S1x128, .i1⟩
  | .hbm, ⟨62, _⟩ => ⟨S1x128, .i1⟩
  | .hbm, ⟨63, _⟩ => ⟨S_, .i32⟩
  | .hbm, ⟨64, _⟩ => ⟨S1x128, .i32⟩
  | .hbm, ⟨65, _⟩ => ⟨S1x128, .i32⟩
  | .hbm, ⟨66, _⟩ => ⟨S1x128, .i32⟩
  | .hbm, ⟨67, _⟩ => ⟨S128x128, .i32⟩
  | .hbm, ⟨68, _⟩ => ⟨S128x128, .i32⟩
  | .hbm, ⟨69, _⟩ => ⟨S128x128, .i1⟩
  | .hbm, ⟨70, _⟩ => ⟨S128x128, .i32⟩
  | .hbm, ⟨71, _⟩ => ⟨S128x128, .i32⟩
  | .hbm, ⟨72, _⟩ => ⟨S128x128, .i1⟩
  | .hbm, ⟨73, _⟩ => ⟨S128x128, .i1⟩
  | .hbm, ⟨74, _⟩ => ⟨S128x128, .i32⟩
  | .hbm, ⟨75, _⟩ => ⟨S128x128, .i32⟩
  | .hbm, ⟨76, _⟩ => ⟨S128x128, .i1⟩
  | .hbm, ⟨77, _⟩ => ⟨S128x128, .i1⟩
  | .hbm, ⟨78, _⟩ => ⟨S128x256, .i1⟩
  | .hbm, ⟨79, _⟩ => ⟨S128x256, .bf16⟩
  | .hbm, ⟨80, _⟩ => ⟨S2x36x192x1024, .fp8e4m3⟩
  | .hbm, ⟨81, _⟩ => ⟨S2x36x192x1024, .fp8e4m3⟩
  | .hbm, ⟨82, _⟩ => ⟨S2x36x192x1024, .f32⟩
  | .hbm, ⟨83, _⟩ => ⟨S2x36x1024x128, .bf16⟩
  | .hbm, ⟨84, _⟩ => ⟨S2x1024x4608, .bf16⟩
  | .hbm, ⟨85, _⟩ => ⟨S2x36x192x128, .f32⟩
  | .local _ .vmem, ⟨0, _⟩ => ⟨S1x4x192x128, .fp8e4m3⟩
  | .local _ .vmem, ⟨1, _⟩ => ⟨S1x4x192x128, .fp8e4m3⟩
  | .local _ .vmem, ⟨2, _⟩ => ⟨S1x4x192x128, .fp8e4m3⟩
  | .local _ .vmem, ⟨3, _⟩ => ⟨S1x4x192x128, .fp8e4m3⟩
  | .local _ .vmem, ⟨4, _⟩ => ⟨S1x4x192x128, .f32⟩
  | .local _ .vmem, ⟨5, _⟩ => ⟨S1x4x192x128, .f32⟩
  | .local _ .vmem, ⟨6, _⟩ => ⟨S1x4x128x128, .bf16⟩
  | .local _ .vmem, ⟨7, _⟩ => ⟨S1x4x128x128, .bf16⟩
  | .local _ .vmem, ⟨8, _⟩ => ⟨S1x4x16x128, .f32⟩
  | .local _ .vmem, ⟨9, _⟩ => ⟨S1x4x16x128, .f32⟩
  | .local _ .vmem, ⟨10, _⟩ => ⟨S128x256, .bf16⟩
  | .local _ .vmem, ⟨11, _⟩ => ⟨S1x4x192x128, .f32⟩
  | .local _ .vmem, ⟨12, _⟩ => ⟨S1x4x192x128, .f32⟩
  | .local _ .vmem, ⟨13, _⟩ => ⟨S1x128x512, .bf16⟩
  | .local _ .vmem, ⟨14, _⟩ => ⟨S1x128x512, .bf16⟩
  | .local _ .vmem, ⟨15, _⟩ => ⟨S1x4x192x128, .f32⟩
  | .local _ .vmem, ⟨16, _⟩ => ⟨S1x4x192x128, .f32⟩
  | _, _ => ⟨S2x1024x36x192, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_1 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_c : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_0 : Ref sig .tc := ⟨.hbm, 45, rfl⟩
abbrev main_call0_v12 : Ref sig .tc := ⟨.hbm, 46, rfl⟩
abbrev main_call0_v13 : Ref sig .tc := ⟨.hbm, 47, rfl⟩
abbrev main_v20 : Ref sig .tc := ⟨.hbm, 48, rfl⟩
abbrev main_c_2 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_c : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_0 : Ref sig .tc := ⟨.hbm, 63, rfl⟩
abbrev main_call1_v12 : Ref sig .tc := ⟨.hbm, 64, rfl⟩
abbrev main_call1_v13 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39_0 : Ref sig .tc := ⟨.hbm, 84, rfl⟩
abbrev main_v39_1 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [BitOps F]

abbrev grid0 : Pipeline.Grid := ⟨3, ![2, 9, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4x192x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x192x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4x192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x4x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x4x192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x4x192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== KernelIdeal.lean ====
variable {F : FTy → Type} [FloatOps F]
-- ==== ReferenceIdeal.lean ====
abbrev S2x1024x36x192 : Shape := ⟨4, ![2, 1024, 36, 192]⟩
abbrev S2x1024x36x6 : Shape := ⟨4, ![2, 1024, 36, 6]⟩
abbrev S2x1024x36x128 : Shape := ⟨4, ![2, 1024, 36, 128]⟩
abbrev S2x1024x36 : Shape := ⟨3, ![2, 1024, 36]⟩
abbrev S2x36x192x128 : Shape := ⟨4, ![2, 36, 192, 128]⟩
abbrev S_ : Shape := ⟨0, ![]⟩
abbrev S2x1024x36x6x32 : Shape := ⟨5, ![2, 1024, 36, 6, 32]⟩
abbrev S2x1024x36x6x1 : Shape := ⟨5, ![2, 1024, 36, 6, 1]⟩
abbrev S2x16x64x36x192 : Shape := ⟨5, ![2, 16, 64, 36, 192]⟩
abbrev S16x2x36x64x192 : Shape := ⟨5, ![16, 2, 36, 64, 192]⟩
abbrev S2x16x64x36x128 : Shape := ⟨5, ![2, 16, 64, 36, 128]⟩
abbrev S16x2x36x64x128 : Shape := ⟨5, ![16, 2, 36, 64, 128]⟩
abbrev S2x16x64x36 : Shape := ⟨4, ![2, 16, 64, 36]⟩
abbrev S16x2x36x64 : Shape := ⟨4, ![16, 2, 36, 64]⟩
abbrev S16x2x36x1x192 : Shape := ⟨5, ![16, 2, 36, 1, 192]⟩
abbrev S16x2x36x192 : Shape := ⟨4, ![16, 2, 36, 192]⟩
abbrev S64 : Shape := ⟨1, ![64]⟩
abbrev S64x1 : Shape := ⟨2, ![64, 1]⟩
abbrev S1x64 : Shape := ⟨2, ![1, 64]⟩
abbrev S16x2x36x64x64 : Shape := ⟨5, ![16, 2, 36, 64, 64]⟩
abbrev S64x64 : Shape := ⟨2, ![64, 64]⟩
abbrev S16x2x36x64x1 : Shape := ⟨5, ![16, 2, 36, 64, 1]⟩
abbrev S1x1x1x64x64 : Shape := ⟨5, ![1, 1, 1, 64, 64]⟩
abbrev S1x2x36x64x192 : Shape := ⟨5, ![1, 2, 36, 64, 192]⟩
abbrev S2x36x64x192 : Shape := ⟨4, ![2, 36, 64, 192]⟩
abbrev S1x2x36x64x64 : Shape := ⟨5, ![1, 2, 36, 64, 64]⟩
abbrev S2x36x64x64 : Shape := ⟨4, ![2, 36, 64, 64]⟩
abbrev S1x2x36x64x128 : Shape := ⟨5, ![1, 2, 36, 64, 128]⟩
abbrev S2x36x64x128 : Shape := ⟨4, ![2, 36, 64, 128]⟩
abbrev S1x2x36x192 : Shape := ⟨4, ![1, 2, 36, 192]⟩
abbrev S2x36x192 : Shape := ⟨3, ![2, 36, 192]⟩
abbrev S2x36x192x1 : Shape := ⟨4, ![2, 36, 192, 1]⟩
abbrev S2x1024x4608 : Shape := ⟨3, ![2, 1024, 4608]⟩

abbrev nBuf : Space → Nat
  | .hbm => 217
  | .vmem => 4
  | .smem => 0
  | _ => 0

abbrev hbmTy0_0 (i : Nat) : BufTy := match i % 128 with
  | 0 => ⟨S2x1024x36x192, .i8⟩
  | 1 => ⟨S2x1024x36x6, .i8⟩
  | 2 => ⟨S2x1024x36x192, .i8⟩
  | 3 => ⟨S2x1024x36x6, .i8⟩
  | 4 => ⟨S2x1024x36x128, .bf16⟩
  | 5 => ⟨S2x1024x36x192, .f32⟩
  | 6 => ⟨S2x1024x36, .f32⟩
  | 7 => ⟨S2x36x192x128, .f32⟩
  | 8 => ⟨S2x1024x36x192, .fp8e4m3⟩
  | 9 => ⟨S2x1024x36x192, .fp8e4m3⟩
  | 10 => ⟨S2x1024x36x192, .bf16⟩
  | 11 => ⟨S2x1024x36x192, .bf16⟩
  | 12 => ⟨S2x1024x36x6, .i32⟩
  | 13 => ⟨S_, .i32⟩
  | 14 => ⟨S2x1024x36x6, .i32⟩
  | 15 => ⟨S2x1024x36x6, .i32⟩
  | 16 => ⟨S2x1024x36x6, .f32⟩
  | 17 => ⟨S_, .f32⟩
  | 18 => ⟨S2x1024x36x6, .f32⟩
  | 19 => ⟨S2x1024x36x6, .f32⟩
  | 20 => ⟨S2x1024x36x6, .bf16⟩
  | 21 => ⟨S2x1024x36x6x32, .bf16⟩
  | 22 => ⟨S2x1024x36x6x1, .bf16⟩
  | 23 => ⟨S2x1024x36x6x32, .bf16⟩
  | 24 => ⟨S2x1024x36x6x32, .bf16⟩
  | 25 => ⟨S2x1024x36x192, .bf16⟩
  | 26 => ⟨S2x16x64x36x192, .bf16⟩
  | 27 => ⟨S16x2x36x64x192, .bf16⟩
  | 28 => ⟨S2x1024x36x6, .i32⟩
  | 29 => ⟨S_, .i32⟩
  | 30 => ⟨S2x1024x36x6, .i32⟩
  | 31 => ⟨S2x1024x36x6, .i32⟩
  | 32 => ⟨S2x1024x36x6, .f32⟩
  | 33 => ⟨S_, .f32⟩
  | 34 => ⟨S2x1024x36x6, .f32⟩
  | 35 => ⟨S2x1024x36x6, .f32⟩
  | 36 => ⟨S2x1024x36x6, .bf16⟩
  | 37 => ⟨S2x1024x36x6x32, .bf16⟩
  | 38 => ⟨S2x1024x36x6x1, .bf16⟩
  | 39 => ⟨S2x1024x36x6x32, .bf16⟩
  | 40 => ⟨S2x1024x36x6x32, .bf16⟩
  | 41 => ⟨S2x1024x36x192, .bf16⟩
  | 42 => ⟨S2x16x64x36x192, .bf16⟩
  | 43 => ⟨S16x2x36x64x192, .bf16⟩
  | 44 => ⟨S2x16x64x36x128, .bf16⟩
  | 45 => ⟨S16x2x36x64x128, .bf16⟩
  | 46 => ⟨S2x16x64x36x192, .f32⟩
  | 47 => ⟨S16x2x36x64x192, .f32⟩
  | 48 => ⟨S2x16x64x36, .f32⟩
  | 49 => ⟨S16x2x36x64, .f32⟩
  | 50 => ⟨S_, .f32⟩
  | 51 => ⟨S_, .f32⟩
  | 52 => ⟨S16x2x36x64x192, .f32⟩
  | 53 => ⟨S16x2x36x1x192, .f32⟩
  | 54 => ⟨S16x2x36x192, .f32⟩
  | 55 => ⟨S16x2x36x64x192, .f32⟩
  | 56 => ⟨S16x2x36x64x192, .bf16⟩
  | 57 => ⟨S16x2x36x64x192, .bf16⟩
  | 58 => ⟨S16x2x36x64x192, .f32⟩
  | 59 => ⟨S16x2x36x64x192, .bf16⟩
  | 60 => ⟨S16x2x36x64x192, .bf16⟩
  | 61 => ⟨S16x2x36x64x192, .f32⟩
  | 62 => ⟨S16x2x36x64x192, .f32⟩
  | 63 => ⟨S16x2x36x64x192, .bf16⟩
  | 64 => ⟨S16x2x36x64x192, .bf16⟩
  | 65 => ⟨S16x2x36x1x192, .f32⟩
  | 66 => ⟨S16x2x36x64x192, .f32⟩
  | 67 => ⟨S16x2x36x64x192, .f32⟩
  | 68 => ⟨S16x2x36x64x192, .f32⟩
  | 69 => ⟨S16x2x36x64x192, .bf16⟩
  | 70 => ⟨S16x2x36x64x192, .bf16⟩
  | 71 => ⟨S64, .i32⟩
  | 72 => ⟨S64x1, .i32⟩
  | 73 => ⟨S64, .i32⟩
  | 74 => ⟨S1x64, .i32⟩
  | 75 => ⟨S16x2x36x64x64, .f32⟩
  | 76 => ⟨S64x64, .i32⟩
  | 77 => ⟨S64x64, .i32⟩
  | 78 => ⟨S64x64, .i1⟩
  | 79 => ⟨S16x2x36x64x1, .f32⟩
  | 80 => ⟨S16x2x36x64x64, .f32⟩
  | 81 => ⟨S16x2x36x64x64, .f32⟩
  | 82 => ⟨S_, .f32⟩
  | 83 => ⟨S_, .f32⟩
  | 84 => ⟨S16x2x36x64x64, .i1⟩
  | 85 => ⟨S16x2x36x64x64, .f32⟩
  | 86 => ⟨S16x2x36x64x64, .f32⟩
  | 87 => ⟨S16x2x36x64x64, .f32⟩
  | 88 => ⟨S64x64, .i32⟩
  | 89 => ⟨S64x64, .i32⟩
  | 90 => ⟨S64x64, .i1⟩
  | 91 => ⟨S_, .f32⟩
  | 92 => ⟨S_, .f32⟩
  | 93 => ⟨S16x2x36x64x64, .i1⟩
  | 94 => ⟨S16x2x36x64x64, .f32⟩
  | 95 => ⟨S16x2x36x64x64, .f32⟩
  | 96 => ⟨S64x64, .i32⟩
  | 97 => ⟨S64x64, .i32⟩
  | 98 => ⟨S_, .i32⟩
  | 99 => ⟨S64x64, .i32⟩
  | 100 => ⟨S64x64, .i32⟩
  | 101 => ⟨S64x64, .i1⟩
  | 102 => ⟨S64x64, .f32⟩
  | 103 => ⟨S1x1x1x64x64, .f32⟩
  | 104 => ⟨S16x2x36x64x64, .f32⟩
  | 105 => ⟨S16x2x36x64x64, .f32⟩
  | 106 => ⟨S16x2x36x64x64, .f32⟩
  | 107 => ⟨S1x1x1x64x64, .f32⟩
  | 108 => ⟨S16x2x36x64x64, .f32⟩
  | 109 => ⟨S16x2x36x64x64, .f32⟩
  | 110 => ⟨S16x2x36x64x64, .f32⟩
  | 111 => ⟨S16x2x36x64x64, .f32⟩
  | 112 => ⟨S1x1x1x64x64, .f32⟩
  | 113 => ⟨S16x2x36x64x64, .f32⟩
  | 114 => ⟨S16x2x36x64x64, .f32⟩
  | 115 => ⟨S16x2x36x64x64, .f32⟩
  | 116 => ⟨S16x2x36x64x64, .f32⟩
  | 117 => ⟨S1x1x1x64x64, .f32⟩
  | 118 => ⟨S16x2x36x64x64, .f32⟩
  | 119 => ⟨S16x2x36x64x64, .f32⟩
  | 120 => ⟨S16x2x36x64x64, .f32⟩
  | 121 => ⟨S16x2x36x64x64, .f32⟩
  | 122 => ⟨S1x1x1x64x64, .f32⟩
  | 123 => ⟨S16x2x36x64x64, .f32⟩
  | 124 => ⟨S16x2x36x64x64, .f32⟩
  | 125 => ⟨S16x2x36x64x64, .f32⟩
  | 126 => ⟨S16x2x36x64x64, .f32⟩
  | 127 => ⟨S1x1x1x64x64, .f32⟩
  | _ => ⟨S2x1024x36x192, .i8⟩

abbrev hbmTy0_1 (i : Nat) : BufTy := match i % 128 with
  | 0 => ⟨S16x2x36x64x64, .f32⟩
  | 1 => ⟨S16x2x36x64x64, .f32⟩
  | 2 => ⟨S16x2x36x64x64, .f32⟩
  | 3 => ⟨S16x2x36x64x1, .f32⟩
  | 4 => ⟨S16x2x36x64x192, .f32⟩
  | 5 => ⟨S16x2x36x64x192, .f32⟩
  | 6 => ⟨S16x2x36x64x192, .f32⟩
  | 7 => ⟨S16x2x36x64x192, .f32⟩
  | 8 => ⟨S16x2x36x64x1, .f32⟩
  | 9 => ⟨S16x2x36x64x128, .f32⟩
  | 10 => ⟨S16x2x36x64x128, .f32⟩
  | 11 => ⟨S16x2x36x64x128, .f32⟩
  | 12 => ⟨S16x2x36x64x128, .f32⟩
  | 13 => ⟨S16x2x36x64x192, .f32⟩
  | 14 => ⟨S16x2x36x64x192, .f32⟩
  | 15 => ⟨S16x2x36x192, .f32⟩
  | 16 => ⟨S_, .f32⟩
  | 17 => ⟨S16x2x36x64x128, .f32⟩
  | 18 => ⟨S_, .i32⟩
  | 19 => ⟨S16x2x36x64x192, .f32⟩
  | 20 => ⟨S16x2x36x64x64, .f32⟩
  | 21 => ⟨S16x2x36x64x192, .f32⟩
  | 22 => ⟨S16x2x36x64x128, .f32⟩
  | 23 => ⟨S16x2x36x64x192, .f32⟩
  | 24 => ⟨S16x2x36x192, .f32⟩
  | 25 => ⟨S_, .i32⟩
  | 26 => ⟨S2x36x192x128, .f32⟩
  | 27 => ⟨S16x2x36x64x128, .f32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S1x2x36x64x192, .f32⟩
  | 35 => ⟨S2x36x64x192, .f32⟩
  | 36 => ⟨S_, .i32⟩
  | 37 => ⟨S_, .i32⟩
  | 38 => ⟨S_, .i32⟩
  | 39 => ⟨S_, .i32⟩
  | 40 => ⟨S1x2x36x64x64, .f32⟩
  | 41 => ⟨S2x36x64x64, .f32⟩
  | 42 => ⟨S_, .i32⟩
  | 43 => ⟨S_, .i32⟩
  | 44 => ⟨S_, .i32⟩
  | 45 => ⟨S_, .i32⟩
  | 46 => ⟨S1x2x36x64x192, .f32⟩
  | 47 => ⟨S2x36x64x192, .f32⟩
  | 48 => ⟨S_, .i32⟩
  | 49 => ⟨S_, .i32⟩
  | 50 => ⟨S_, .i32⟩
  | 51 => ⟨S_, .i32⟩
  | 52 => ⟨S1x2x36x64x128, .f32⟩
  | 53 => ⟨S2x36x64x128, .f32⟩
  | 54 => ⟨S_, .i32⟩
  | 55 => ⟨S_, .i32⟩
  | 56 => ⟨S_, .i32⟩
  | 57 => ⟨S_, .i32⟩
  | 58 => ⟨S1x2x36x64x192, .f32⟩
  | 59 => ⟨S2x36x64x192, .f32⟩
  | 60 => ⟨S_, .i32⟩
  | 61 => ⟨S_, .i32⟩
  | 62 => ⟨S_, .i32⟩
  | 63 => ⟨S1x2x36x192, .f32⟩
  | 64 => ⟨S2x36x192, .f32⟩
  | 65 => ⟨S2x36x64x128, .f32⟩
  | 66 => ⟨S2x36x64x128, .f32⟩
  | 67 => ⟨S2x36x64x128, .f32⟩
  | 68 => ⟨S2x36x64x128, .f32⟩
  | 69 => ⟨S2x36x64x128, .f32⟩
  | 70 => ⟨S_, .f32⟩
  | 71 => ⟨S2x36x64x128, .f32⟩
  | 72 => ⟨S2x36x64x128, .f32⟩
  | 73 => ⟨S2x36x192x1, .f32⟩
  | 74 => ⟨S2x36x192x128, .f32⟩
  | 75 => ⟨S2x36x192x128, .f32⟩
  | 76 => ⟨S2x36x192x128, .f32⟩
  | 77 => ⟨S2x36x192x128, .f32⟩
  | 78 => ⟨S1x2x36x64x128, .f32⟩
  | 79 => ⟨S_, .i32⟩
  | 80 => ⟨S_, .i32⟩
  | 81 => ⟨S_, .i32⟩
  | 82 => ⟨S_, .i32⟩
  | 83 => ⟨S16x2x36x64x128, .f32⟩
  | 84 => ⟨S_, .i32⟩
  | 85 => ⟨S_, .i32⟩
  | 86 => ⟨S2x16x64x36x128, .f32⟩
  | 87 => ⟨S2x1024x4608, .f32⟩
  | 88 => ⟨S2x1024x4608, .bf16⟩
  | _ => ⟨S2x1024x36x192, .i8⟩

abbrev hbmTy (i : Nat) : BufTy := match i / 128 with
  | 0 => hbmTy0_0 i
  | 1 => hbmTy0_1 i
  | _ => ⟨S2x1024x36x192, .i8⟩

abbrev bufTy : (tb : Table) → Fin (tcTables nBuf tb) → BufTy
  | .hbm, ⟨i, _⟩ => hbmTy i
  | .local _ .vmem, ⟨0, _⟩ => ⟨S2x1024x36x192, .fp8e4m3⟩
  | .local _ .vmem, ⟨1, _⟩ => ⟨S2x1024x36x192, .fp8e4m3⟩
  | .local _ .vmem, ⟨2, _⟩ => ⟨S2x1024x36x192, .bf16⟩
  | .local _ .vmem, ⟨3, _⟩ => ⟨S2x1024x36x192, .bf16⟩
  | _, _ => ⟨S2x1024x36x192, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_call0_cst : Ref sig .tc := ⟨.hbm, 50, rfl⟩
abbrev main_call0_v0 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_2 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_3 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_c_4 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_cst_5 : Ref sig .tc := ⟨.hbm, 144, rfl⟩
abbrev main_v120 : Ref sig .tc := ⟨.hbm, 145, rfl⟩
abbrev main_c_6 : Ref sig .tc := ⟨.hbm, 146, rfl⟩
abbrev main_v121_0 : Ref sig .tc := ⟨.hbm, 147, rfl⟩
abbrev main_v121_1 : Ref sig .tc := ⟨.hbm, 148, rfl⟩
abbrev main_v121_2 : Ref sig .tc := ⟨.hbm, 149, rfl⟩
abbrev main_v121_3 : Ref sig .tc := ⟨.hbm, 150, rfl⟩
abbrev main_v121_4 : Ref sig .tc := ⟨.hbm, 151, rfl⟩
abbrev main_v121_5 : Ref sig .tc := ⟨.hbm, 152, rfl⟩
abbrev main_v121_6 : Ref sig .tc := ⟨.hbm, 153, rfl⟩
abbrev main_v121_7 : Ref sig .tc := ⟨.hbm, 154, rfl⟩
abbrev main_v121_8 : Ref sig .tc := ⟨.hbm, 155, rfl⟩
abbrev main_while0c_c_15 : Ref sig .tc := ⟨.hbm, 156, rfl⟩
abbrev main_while0c_v125 : Ref sig .tc := ⟨.hbm, 157, rfl⟩
abbrev main_while0b_call3_c : Ref sig .tc := ⟨.hbm, 158, rfl⟩
abbrev main_while0b_call3_c_0 : Ref sig .tc := ⟨.hbm, 159, rfl⟩
abbrev main_while0b_call3_c_1 : Ref sig .tc := ⟨.hbm, 160, rfl⟩
abbrev main_while0b_call3_c_2 : Ref sig .tc := ⟨.hbm, 161, rfl⟩
abbrev main_while0b_call3_v0 : Ref sig .tc := ⟨.hbm, 162, rfl⟩
abbrev main_while0b_v125 : Ref sig .tc := ⟨.hbm, 163, rfl⟩
abbrev main_while0b_call4_c : Ref sig .tc := ⟨.hbm, 164, rfl⟩
abbrev main_while0b_call4_c_0 : Ref sig .tc := ⟨.hbm, 165, rfl⟩
abbrev main_while0b_call4_c_1 : Ref sig .tc := ⟨.hbm, 166, rfl⟩
abbrev main_while0b_call4_c_2 : Ref sig .tc := ⟨.hbm, 167, rfl⟩
abbrev main_while0b_call4_v0 : Ref sig .tc := ⟨.hbm, 168, rfl⟩
abbrev main_while0b_v126 : Ref sig .tc := ⟨.hbm, 169, rfl⟩
abbrev main_while0b_call5_c : Ref sig .tc := ⟨.hbm, 170, rfl⟩
abbrev main_while0b_call5_c_0 : Ref sig .tc := ⟨.hbm, 171, rfl⟩
abbrev main_while0b_call5_c_1 : Ref sig .tc := ⟨.hbm, 172, rfl⟩
abbrev main_while0b_call5_c_2 : Ref sig .tc := ⟨.hbm, 173, rfl⟩
abbrev main_while0b_call5_v0 : Ref sig .tc := ⟨.hbm, 174, rfl⟩
abbrev main_while0b_v127 : Ref sig .tc := ⟨.hbm, 175, rfl⟩
abbrev main_while0b_call6_c : Ref sig .tc := ⟨.hbm, 176, rfl⟩
abbrev main_while0b_call6_c_0 : Ref sig .tc := ⟨.hbm, 177, rfl⟩
abbrev main_while0b_call6_c_1 : Ref sig .tc := ⟨.hbm, 178, rfl⟩
abbrev main_while0b_call6_c_2 : Ref sig .tc := ⟨.hbm, 179, rfl⟩
abbrev main_while0b_call6_v0 : Ref sig .tc := ⟨.hbm, 180, rfl⟩
abbrev main_while0b_v128 : Ref sig .tc := ⟨.hbm, 181, rfl⟩
abbrev main_while0b_call7_c : Ref sig .tc := ⟨.hbm, 182, rfl⟩
abbrev main_while0b_call7_c_0 : Ref sig .tc := ⟨.hbm, 183, rfl⟩
abbrev main_while0b_call7_c_1 : Ref sig .tc := ⟨.hbm, 184, rfl⟩
abbrev main_while0b_call7_c_2 : Ref sig .tc := ⟨.hbm, 185, rfl⟩
abbrev main_while0b_call7_v0 : Ref sig .tc := ⟨.hbm, 186, rfl⟩
abbrev main_while0b_v129 : Ref sig .tc := ⟨.hbm, 187, rfl⟩
abbrev main_while0b_call8_c : Ref sig .tc := ⟨.hbm, 188, rfl⟩
abbrev main_while0b_call8_c_0 : Ref sig .tc := ⟨.hbm, 189, rfl⟩
abbrev main_while0b_call8_c_1 : Ref sig .tc := ⟨.hbm, 190, rfl⟩
abbrev main_while0b_call8_v0 : Ref sig .tc := ⟨.hbm, 191, rfl⟩
abbrev main_while0b_v130 : Ref sig .tc := ⟨.hbm, 192, rfl⟩
abbrev main_while0b_v131 : Ref sig .tc := ⟨.hbm, 193, rfl⟩
abbrev main_while0b_v132 : Ref sig .tc := ⟨.hbm, 194, rfl⟩
abbrev main_while0b_v133 : Ref sig .tc := ⟨.hbm, 195, rfl⟩
abbrev main_while0b_v134 : Ref sig .tc := ⟨.hbm, 196, rfl⟩
abbrev main_while0b_v135 : Ref sig .tc := ⟨.hbm, 197, rfl⟩
abbrev main_while0b_cst_15 : Ref sig .tc := ⟨.hbm, 198, rfl⟩
abbrev main_while0b_v136 : Ref sig .tc := ⟨.hbm, 199, rfl⟩
abbrev main_while0b_v137 : Ref sig .tc := ⟨.hbm, 200, rfl⟩
abbrev main_while0b_v138 : Ref sig .tc := ⟨.hbm, 201, rfl⟩
abbrev main_while0b_v139 : Ref sig .tc := ⟨.hbm, 202, rfl⟩
abbrev main_while0b_v140 : Ref sig .tc := ⟨.hbm, 203, rfl⟩
abbrev main_while0b_v141 : Ref sig .tc := ⟨.hbm, 204, rfl⟩
abbrev main_while0b_v142 : Ref sig .tc := ⟨.hbm, 205, rfl⟩
abbrev main_while0b_call9_v0 : Ref sig .tc := ⟨.hbm, 206, rfl⟩
abbrev main_while0b_call9_c : Ref sig .tc := ⟨.hbm, 207, rfl⟩
abbrev main_while0b_call9_c_0 : Ref sig .tc := ⟨.hbm, 208, rfl⟩
abbrev main_while0b_call9_c_1 : Ref sig .tc := ⟨.hbm, 209, rfl⟩
abbrev main_while0b_call9_c_2 : Ref sig .tc := ⟨.hbm, 210, rfl⟩
abbrev main_while0b_v143 : Ref sig .tc := ⟨.hbm, 211, rfl⟩
abbrev main_while0b_c_16 : Ref sig .tc := ⟨.hbm, 212, rfl⟩
abbrev main_while0b_v144 : Ref sig .tc := ⟨.hbm, 213, rfl⟩
abbrev main_v122 : Ref sig .tc := ⟨.hbm, 214, rfl⟩
abbrev main_v123 : Ref sig .tc := ⟨.hbm, 215, rfl⟩
abbrev main_v124 : Ref sig .tc := ⟨.hbm, 216, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev main_while0_count : Scf.Loop 32 := ⟨0#32, 16#32, 1#32⟩

abbrev grid0 : Pipeline.Grid := .none

abbrev stage0_0 : Fin 1 → Memref sig .tc .vmem S2x1024x36x192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x36x192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x36x192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x36x192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Spec.lean ====
/-  What one chunk of 64 tokens of one head computes, as sums of reals: gate sums, the triangular system, its solution by
    forward substitution, the output and the state after the chunk. -/
module

public import Idealize.ShloMosaic.Lib.MatmulPlain

@[expose] public section

noncomputable section

namespace Cert.Spec

open Finset

/-- A chunk of one head: queries, keys and gates by token and feature, values by token and column, one rate per token. -/
structure Chunk where
  q : ℕ → ℕ → ℝ
  k : ℕ → ℕ → ℝ
  g : ℕ → ℕ → ℝ
  v : ℕ → ℕ → ℝ
  b : ℕ → ℝ

/-- Forward substitution: the solution of `u t + ∑ s < t, A t s * u s = r t`. -/
def solve (A : ℕ → ℕ → ℝ) (r : ℕ → ℝ) (t : ℕ) : ℝ :=
  r t - ∑ s : Fin t, A t s.val * solve A r s.val
termination_by t
decreasing_by exact s.isLt

theorem solve_eq (A : ℕ → ℕ → ℝ) (r : ℕ → ℝ) (t : ℕ) : solve A r t = r t - ∑ s ∈ range t, A t s * solve A r s := by
  rw [solve, Finset.sum_range]

/-- A strictly lower triangular system has no other solution. -/
theorem solve_unique (n : ℕ) (A : ℕ → ℕ → ℝ) (r u : ℕ → ℝ) (hA : ∀ t < n, ∀ s < n, t ≤ s → A t s = 0)
    (hu : ∀ t < n, u t + ∑ s ∈ range n, A t s * u s = r t) : ∀ t < n, u t = solve A r t := by
  intro t
  induction t using Nat.strong_induction_on with
  | _ t ih =>
    intro ht
    have h := hu t ht
    have e : ∑ s ∈ range n, A t s * u s = ∑ s ∈ range t, A t s * solve A r s := by
      rw [← Finset.sum_subset (s₁ := range t) (Finset.range_subset_range.mpr ht.le)]
      · exact Finset.sum_congr rfl fun s hs => by rw [ih s (Finset.mem_range.mp hs) (by have := Finset.mem_range.mp hs; omega)]
      · intro s hs hs'
        rw [hA t ht s (Finset.mem_range.mp hs) (by have := Finset.mem_range.not.mp hs'; omega), zero_mul]
    rw [solve_eq, ← e]
    linarith

namespace Chunk
variable (h : Chunk)

/-- The gates summed up to a token. -/
def gc (t d : ℕ) : ℝ := ∑ s ∈ range (t + 1), h.g s d
def kpos (t d : ℕ) : ℝ := h.k t d * Real.exp (h.gc t d)
def qpos (t d : ℕ) : ℝ := h.q t d * Real.exp (h.gc t d)
def kneg (t d : ℕ) : ℝ := h.k t d * Real.exp (-h.gc t d)
def kdec (t d : ℕ) : ℝ := h.k t d * Real.exp (h.gc 63 d - h.gc t d)
/-- The system's strictly lower triangular matrix. -/
def A (t s : ℕ) : ℝ := if s < t then h.b t * ∑ d ∈ range 192, h.kpos t d * h.kneg s d else 0
/-- The queries against the keys, causal. -/
def Q (t s : ℕ) : ℝ := if s ≤ t then ∑ d ∈ range 192, h.qpos t d * h.kneg s d else 0
/-- The system's right hand side. -/
def r (S : ℕ → ℕ → ℝ) (t e : ℕ) : ℝ := h.b t * (h.v t e - ∑ d ∈ range 192, h.kpos t d * S d e)
/-- The system's solution. -/
def u (S : ℕ → ℕ → ℝ) (t e : ℕ) : ℝ := solve h.A (fun t => h.r S t e) t
/-- The output, scaled by `c`. -/
def out (c : ℝ) (S : ℕ → ℕ → ℝ) (t e : ℕ) : ℝ :=
  c * ((∑ d ∈ range 192, h.qpos t d * S d e) + ∑ s ∈ range 64, h.Q t s * h.u S s e)
/-- The state after the chunk. -/
def next (S : ℕ → ℕ → ℝ) (d e : ℕ) : ℝ := Real.exp (h.gc 63 d) * S d e + ∑ s ∈ range 64, h.kdec s d * h.u S s e

theorem A_upper (t s : ℕ) (hts : t ≤ s) : h.A t s = 0 := if_neg (by omega)

/-- Whatever solves the system is the solution. -/
theorem u_unique (S : ℕ → ℕ → ℝ) (e : ℕ) (w : ℕ → ℝ) (hw : ∀ t < 64, w t + ∑ s ∈ range 64, h.A t s * w s = h.r S t e) :
    ∀ t < 64, w t = h.u S t e :=
  solve_unique 64 h.A (fun t => h.r S t e) w (fun t _ s _ hts => h.A_upper t s hts) hw

end Chunk

end Cert.Spec

end
-- ==== Proof.Args.lean ====
/-  The whole computation as functions on reals: every head walks through its sixteen chunks, the state handed on. -/
module

public import proofs.«01_k».proof.Proof.Spec

@[expose] public section

noncomputable section

namespace Cert.Spec

/-- The arguments as reals: batch, token, head, then the argument's own coordinate. -/
structure Args where
  q : ℕ → ℕ → ℕ → ℕ → ℝ
  qs : ℕ → ℕ → ℕ → ℕ → ℝ
  k : ℕ → ℕ → ℕ → ℕ → ℝ
  ks : ℕ → ℕ → ℕ → ℕ → ℝ
  v : ℕ → ℕ → ℕ → ℕ → ℝ
  g : ℕ → ℕ → ℕ → ℕ → ℝ
  b : ℕ → ℕ → ℕ → ℝ
  h0 : ℕ → ℕ → ℕ → ℕ → ℝ

namespace Args
variable (a : Args)

/-- Chunk `c` of head `H` of batch `B`: codes times the scale of their group of 32 features (there are 192
    features). -/
def chunk (B H c : ℕ) : Chunk where
  q t d := if d < 192 then a.q B (64 * c + t) H d * a.qs B (64 * c + t) H (d / 32) else 0
  k t d := a.k B (64 * c + t) H d * a.ks B (64 * c + t) H (d / 32)
  g t d := a.g B (64 * c + t) H d
  v t e := a.v B (64 * c + t) H e
  b t := a.b B (64 * c + t) H

/-- The state before chunk `c`. -/
def st (B H : ℕ) : ℕ → ℕ → ℕ → ℝ
  | 0 => a.h0 B H
  | c + 1 => (a.chunk B H c).next (st B H c)

/-- The output at token `t`. -/
def o (s : ℝ) (B t H e : ℕ) : ℝ := (a.chunk B H (t / 64)).out s (a.st B H (t / 64)) (t % 64) e

end Args

end Cert.Spec

end
-- ==== Proof.RefArr.lean ====
/-  Arrays of reals of rank three, four and five, and what the reference's operations make of them: at the ideal instance every
    operation on arrays of reals gives the array of reals that the operation names. -/
module

public import Idealize.ShloMosaic.Lib.MatmulPlain
public import Idealize.ShloMosaic.Lib.ValueIdx
public import Idealize.ShloMosaic.Lib.Pipeline.Value

@[expose] public section

set_option maxRecDepth 16384

noncomputable section

namespace Cert.ReferenceIdeal.Arr

open Idealize.ShloMosaic Idealize.ShloMosaic.ValueIdx
open Finset

/-- Reals as an array of extended reals. -/
def up {s : Shape} (X : s.Idx → ℝ) : s.Idx → EReal := fun ix => ((X ix : ℝ) : EReal)

section
variable {s : Shape} (X Y : s.Idx → ℝ)

theorem addf_up (φ : FTy) : addf (F := Ideal) (s := s) (φ := φ) (up X) (up Y) = up fun i => X i + Y i := funext fun _ => (EReal.coe_add _ _).symm
theorem subf_up (φ : FTy) : subf (F := Ideal) (s := s) (φ := φ) (up X) (up Y) = up fun i => X i - Y i := funext fun _ => (EReal.coe_sub _ _).symm
theorem mulf_up (φ : FTy) : mulf (F := Ideal) (s := s) (φ := φ) (up X) (up Y) = up fun i => X i * Y i := funext fun _ => (EReal.coe_mul _ _).symm
theorem negf_up (φ : FTy) : Host.negf (F := Ideal) (s := s) (φ := φ) (up X) = up fun i => -X i := funext fun _ => (EReal.coe_neg _).symm
theorem exp_up (φ : FTy) : Host.exp (F := Ideal) (s := s) (φ := φ) (up X) = up fun i => Real.exp (X i) := rfl
theorem truncf_up (φ φ' : FTy) (h : φ.bits < φ'.bits) : truncf (F := Ideal) (s := s) (φ := φ') φ (up X) h = up X := rfl
theorem extf_up (φ φ' : FTy) (h : φ.bits < φ'.bits) : extf (F := Ideal) (s := s) (φ := φ) φ' (up X) h = up X := rfl
theorem select_up (c : IVec s 1) (p : s.Idx → Prop) [DecidablePred p] (hc : ∀ ix, c ix = if p ix then 1#1 else 0#1) :
    select c (up X) (up Y) = up fun i => if p i then X i else Y i := by
  funext ix
  show Scalar.select (c ix) _ _ = _
  rw [hc ix]
  by_cases h : p ix
  · simp only [up, h, if_true]; rfl
  · simp only [up, h, if_false]; rfl
end

theorem coe_sum (K : ℕ) (f : ℕ → ℝ) : ((∑ x ∈ range K, f x : ℝ) : EReal) = ∑ x : Fin K, ((f x.val : ℝ) : EReal) := by
  rw [Finset.sum_range]
  exact map_sum (⟨⟨Real.toEReal, EReal.coe_zero⟩, EReal.coe_add⟩ : ℝ →+ EReal) _ _

/-- A product over one axis. -/
theorem dot_up {sl sr so : Shape} (d : DotDims sl sr so) (φ φ' : FTy) (p : Option ContractPrecision) (K : ℕ) (hr : d.contr.rank = 1)
    (hs : d.contr.size ⟨0, by omega⟩ = K) (X : sl.Idx → ℝ) (Y : sr.Idx → ℝ) (L R : so.Idx → ℕ → ℝ)
    (hL : ∀ j k, X (d.lhsIdx j k) = L j (k ⟨0, by omega⟩).val) (hR : ∀ j k, Y (d.rhsIdx j k) = R j (k ⟨0, by omega⟩).val) :
    Host.dotGeneral (F := Ideal) (φ₁ := φ) (φ₂ := φ') d p (up X) (up Y) = up fun j => ∑ x ∈ range K, L j x * R j x := by
  funext j
  show FloatOps.dotGeneral d p .single _ _ j = _
  rw [Ideal.dotGeneral_apply, ← Equiv.sum_comp (contrEquiv1 d K hr hs).symm]
  show _ = ((∑ x ∈ range K, L j x * R j x : ℝ) : EReal)
  rw [coe_sum]
  refine Finset.sum_congr rfl fun x _ => ?_
  show ((X _ : ℝ) : EReal) * ((Y _ : ℝ) : EReal) = _
  rw [hL, hR, contrEquiv1_symm_val d K hr hs x]
  exact (EReal.coe_mul _ _).symm

variable (a b c d e : ℕ)

/-- Arrays by coordinates. -/
abbrev a5 (X : ℕ → ℕ → ℕ → ℕ → ℕ → ℝ) : (⟨5, ![a, b, c, d, e]⟩ : Shape).Idx → EReal :=
  up fun ix => X (ix 0).val (ix 1).val (ix 2).val (ix 3).val (ix 4).val
abbrev a4 (X : ℕ → ℕ → ℕ → ℕ → ℝ) : (⟨4, ![a, b, c, d]⟩ : Shape).Idx → EReal := up fun ix => X (ix 0).val (ix 1).val (ix 2).val (ix 3).val
abbrev a3 (X : ℕ → ℕ → ℕ → ℝ) : (⟨3, ![a, b, c]⟩ : Shape).Idx → EReal := up fun ix => X (ix 0).val (ix 1).val (ix 2).val

variable {a b c d e}

theorem a5_congr {X Y : ℕ → ℕ → ℕ → ℕ → ℕ → ℝ} (h : ∀ i j k l m, i < a → j < b → k < c → l < d → m < e → X i j k l m = Y i j k l m) :
    a5 a b c d e X = a5 a b c d e Y :=
  funext fun ix => congrArg _ (h _ _ _ _ _ (ix 0).isLt (ix 1).isLt (ix 2).isLt (ix 3).isLt (ix 4).isLt)
theorem a4_congr {X Y : ℕ → ℕ → ℕ → ℕ → ℝ} (h : ∀ i j k l, i < a → j < b → k < c → l < d → X i j k l = Y i j k l) : a4 a b c d X = a4 a b c d Y :=
  funext fun ix => congrArg _ (h _ _ _ _ (ix 0).isLt (ix 1).isLt (ix 2).isLt (ix 3).isLt)

/-- A reshape read through the positions of the two indices. -/
theorem shapeCast_up {s t : Shape} (X : s.Idx → ℝ) (h : s.ShapeCasts t) (f : t.Idx → s.Idx)
    (hf : ∀ j, (s.rowMajor (f j)).val = (t.rowMajor j).val) : shapeCast t (up X) h = up fun j => X (f j) :=
  funext fun j => shapeCast_apply (up X) h j (f j) (hf j)

/-- The start of a slice inside the array. -/
theorem clamp (n size w : ℕ) (h : n + w ≤ size) : min (max (n : ℤ) 0).toNat (size - w) = n := by omega

/-- A sum from the left is the sum. -/
theorem foldl_add {α : Type} (f : α → EReal) : ∀ (l : List α) (v : EReal), l.foldl (fun r n => r + f n) v = v + (l.map f).sum
  | [], v => by simp
  | x :: l, v => by rw [List.foldl_cons, foldl_add f l, List.map_cons, List.sum_cons, add_assoc]

/-- The window of 64 tokens. -/
abbrev Win : Shape := ⟨5, ![1, 1, 1, 64, 1]⟩

theorem win_numel : Win.numel = 64 := by decide

theorem win_val (n : Fin Win.numel) : ∀ a, (Win.rowMajor.symm n a).val = (![0, 0, 0, n.val, 0] : Fin 5 → ℕ) a := by
  have h := Shape.rowMajor_val_five (d := ![1, 1, 1, 64, 1]) (Win.rowMajor.symm n)
  rw [Equiv.apply_symm_apply] at h
  have h0 : (Win.rowMajor.symm n 0).val < 1 := (Win.rowMajor.symm n 0).isLt
  have h1 : (Win.rowMajor.symm n 1).val < 1 := (Win.rowMajor.symm n 1).isLt
  have h2 : (Win.rowMajor.symm n 2).val < 1 := (Win.rowMajor.symm n 2).isLt
  have h4 : (Win.rowMajor.symm n 4).val < 1 := (Win.rowMajor.symm n 4).isLt
  have h' : n.val = ((((Win.rowMajor.symm n 0).val * 1 + (Win.rowMajor.symm n 1).val) * 1 + (Win.rowMajor.symm n 2).val) * 64
    + (Win.rowMajor.symm n 3).val) * 1 + (Win.rowMajor.symm n 4).val := h
  intro a
  match a with
  | ⟨0, _⟩ => show (Win.rowMajor.symm n 0).val = 0; omega
  | ⟨1, _⟩ => show (Win.rowMajor.symm n 1).val = 0; omega
  | ⟨2, _⟩ => show (Win.rowMajor.symm n 2).val = 0; omega
  | ⟨3, _⟩ => show (Win.rowMajor.symm n 3).val = n.val; omega
  | ⟨4, _⟩ => show (Win.rowMajor.symm n 4).val = 0; omega

theorem window_sum (t : ℕ) (ht : t < 64) (f : ℕ → ℝ) :
    ∑ n ∈ range 64, (if 63 ≤ t + n then f (t + n - 63) else 0) = ∑ s ∈ range (t + 1), f s := by
  rw [← Finset.sum_filter]
  refine Finset.sum_bij' (fun n _ => t + n - 63) (fun s _ => s + 63 - t) ?_ ?_ ?_ ?_ ?_
  all_goals intro n hn
  all_goals simp only [Finset.mem_filter, Finset.mem_range] at hn ⊢
  all_goals omega

/-- The running sum over the tokens of a chunk. -/
theorem cumsum_up (X : ℕ → ℕ → ℕ → ℕ → ℕ → ℝ) {u : Shape} (init : u.Idx → EReal) (hu : 0 < u.numel) (h0 : init (Shape.Idx.first hu) = 0)
    (h : (⟨5, ![a, b, c, 64, e]⟩ : Shape).ReduceWindows ![1, 1, 1, 64, 1] ![1, 1, 1, 1, 1] ![0, 0, 0, 63, 0] ![0, 0, 0, 0, 0] ⟨5, ![a, b, c, 64, e]⟩) :
    Host.reduceWindowAdd (F := Ideal) (φ := .f32) ![1, 1, 1, 64, 1] ![1, 1, 1, 1, 1] ![0, 0, 0, 63, 0] ![0, 0, 0, 0, 0] (a5 a b c 64 e X) init h hu
      = a5 a b c 64 e fun i j k t m => ∑ s ∈ range (t + 1), X i j k s m := by
  funext j
  have h3 : (j 3).val < 64 := (j 3).isLt
  show Host.reduceWindow (· + ·) ![1, 1, 1, 64, 1] ![1, 1, 1, 1, 1] ![0, 0, 0, 63, 0] ![0, 0, 0, 0, 0] (a5 a b c 64 e X)
    (fun _ : (⟨0, ![]⟩ : Shape).Idx => init (Shape.Idx.first hu)) h (by decide) j = _
  unfold Host.reduceWindow
  rw [h0]
  dsimp only
  refine (foldl_add _ _ _).trans ?_
  rw [zero_add, ← Fin.sum_univ_def]
  show _ = ((∑ s ∈ range ((j 3).val + 1), X (j 0).val (j 1).val (j 2).val s (j 4).val : ℝ) : EReal)
  rw [← window_sum (j 3).val h3, coe_sum, ← Equiv.sum_comp (finCongr win_numel)]
  refine Finset.sum_congr rfl fun n _ => ?_
  have hn : n.val < 64 := lt_of_lt_of_eq n.isLt win_numel
  have hw := win_val n
  by_cases hin : 63 ≤ (j 3).val + n.val
  · have hin' : ∀ x : Fin 5, (![0, 0, 0, 63, 0] : Fin 5 → ℕ) x ≤ (j x).val * (![1, 1, 1, 1, 1] : Fin 5 → ℕ) x + (Win.rowMajor.symm n x).val
        ∧ (j x).val * (![1, 1, 1, 1, 1] : Fin 5 → ℕ) x + (Win.rowMajor.symm n x).val - (![0, 0, 0, 63, 0] : Fin 5 → ℕ) x < (![a, b, c, 64, e] : Fin 5 → ℕ) x := by
      intro x
      rw [hw x]
      match x with
      | ⟨0, _⟩ => exact ⟨Nat.zero_le _, by show (j 0).val * 1 + 0 - 0 < a; have : (j 0).val < a := (j 0).isLt; omega⟩
      | ⟨1, _⟩ => exact ⟨Nat.zero_le _, by show (j 1).val * 1 + 0 - 0 < b; have : (j 1).val < b := (j 1).isLt; omega⟩
      | ⟨2, _⟩ => exact ⟨Nat.zero_le _, by show (j 2).val * 1 + 0 - 0 < c; have : (j 2).val < c := (j 2).isLt; omega⟩
      | ⟨3, _⟩ => exact ⟨by show 63 ≤ (j 3).val * 1 + n.val; omega, by show (j 3).val * 1 + n.val - 63 < 64; omega⟩
      | ⟨4, _⟩ => exact ⟨Nat.zero_le _, by show (j 4).val * 1 + 0 - 0 < e; have : (j 4).val < e := (j 4).isLt; omega⟩
    refine (dif_pos hin').trans ?_
    show ((X ((j 0).val * 1 + (Win.rowMajor.symm n 0).val - 0) ((j 1).val * 1 + (Win.rowMajor.symm n 1).val - 0)
      ((j 2).val * 1 + (Win.rowMajor.symm n 2).val - 0) ((j 3).val * 1 + (Win.rowMajor.symm n 3).val - 63)
      ((j 4).val * 1 + (Win.rowMajor.symm n 4).val - 0) : ℝ) : EReal) = ((if 63 ≤ (j 3).val + n.val then X (j 0).val (j 1).val (j 2).val ((j 3).val + n.val - 63) (j 4).val else 0 : ℝ) : EReal)
    rw [if_pos hin, hw 0, hw 1, hw 2, hw 3, hw 4]
    show ((X ((j 0).val * 1 + 0 - 0) ((j 1).val * 1 + 0 - 0) ((j 2).val * 1 + 0 - 0) ((j 3).val * 1 + n.val - 63) ((j 4).val * 1 + 0 - 0) : ℝ) : EReal) = _
    simp only [Nat.mul_one, Nat.add_zero, Nat.sub_zero]
  · refine (dif_neg (fun hall => hin (by
      have h := (hall 3).1
      have h' : 63 ≤ (j 3).val * 1 + (Win.rowMajor.symm n 3).val := h
      rw [hw 3] at h'
      have h'' : 63 ≤ (j 3).val * 1 + n.val := h'
      omega))).trans ?_
    show (0 : EReal) = ((if 63 ≤ (j 3).val + n.val then X (j 0).val (j 1).val (j 2).val ((j 3).val + n.val - 63) (j 4).val else 0 : ℝ) : EReal)
    rw [if_neg hin, EReal.coe_zero]

end Cert.ReferenceIdeal.Arr

end
-- ==== Proof.Inputs.lean ====
/-  The arguments as reals: what a code, a scale code and a number stand for, and arrays read at natural coordinates. -/
module

public import proofs.«01_k».proof.Proof.Args
public import proofs.«01_k».proof.Proof.RefArr

@[expose] public section

set_option maxRecDepth 16384

noncomputable section

namespace Cert.Inputs

open Idealize.ShloMosaic Idealize.ShloMosaic.ValueIdx Cert.ReferenceIdeal.Arr Cert.Spec

/-- An array at natural coordinates; 0 outside. -/
def rd4 {a b c d : ℕ} (X : (⟨4, ![a, b, c, d]⟩ : Shape).Idx → ℝ) (i j k l : ℕ) : ℝ :=
  if h : i < a ∧ j < b ∧ k < c ∧ l < d then X (ValueIdx.ix4 ⟨i, h.1⟩ ⟨j, h.2.1⟩ ⟨k, h.2.2.1⟩ ⟨l, h.2.2.2⟩) else 0
def rd3 {a b c : ℕ} (X : (⟨3, ![a, b, c]⟩ : Shape).Idx → ℝ) (i j k : ℕ) : ℝ :=
  if h : i < a ∧ j < b ∧ k < c then X (ValueIdx.ix3 ⟨i, h.1⟩ ⟨j, h.2.1⟩ ⟨k, h.2.2⟩) else 0

theorem rd4_fin {a b c d : ℕ} (X : (⟨4, ![a, b, c, d]⟩ : Shape).Idx → ℝ) (i : Fin a) (j : Fin b) (k : Fin c) (l : Fin d) :
    rd4 X i.val j.val k.val l.val = X (ValueIdx.ix4 i j k l) := dif_pos ⟨i.isLt, j.isLt, k.isLt, l.isLt⟩
theorem rd3_fin {a b c : ℕ} (X : (⟨3, ![a, b, c]⟩ : Shape).Idx → ℝ) (i : Fin a) (j : Fin b) (k : Fin c) :
    rd3 X i.val j.val k.val = X (ValueIdx.ix3 i j k) := dif_pos ⟨i.isLt, j.isLt, k.isLt⟩
theorem a4_rd4 {a b c d : ℕ} (X : (⟨4, ![a, b, c, d]⟩ : Shape).Idx → ℝ) : up X = a4 a b c d (rd4 X) := by
  funext ix
  show ((X ix : ℝ) : EReal) = ((rd4 X _ _ _ _ : ℝ) : EReal)
  rw [rd4_fin X (ix 0) (ix 1) (ix 2) (ix 3)]
  congr 2
  funext b
  fin_cases b <;> rfl
theorem a3_rd3 {a b c : ℕ} (X : (⟨3, ![a, b, c]⟩ : Shape).Idx → ℝ) : up X = a3 a b c (rd3 X) := by
  funext ix
  show ((X ix : ℝ) : EReal) = ((rd3 X _ _ _ : ℝ) : EReal)
  rw [rd3_fin X (ix 0) (ix 1) (ix 2)]
  congr 2
  funext b
  fin_cases b <;> rfl

/-- What a scale code stands for. -/
def scale (b : BitVec 8) : ℝ := (2 : ℝ) ^ ((b.toNat : ℤ) - 127)
/-- What an eight bit code stands for. -/
def code (b : BitVec 8) : ℝ := (Ideal.ofBits .fp8e4m3 b : EReal).toReal

/-- The exponent bits put in place: a single precision number of that exponent. -/
theorem bits_scale : ∀ b : BitVec 8, (IntOp.shli .host (b.setWidth 32) 23#32).extractLsb' 31 1 = 0#1
    ∧ ((IntOp.shli .host (b.setWidth 32) 23#32).extractLsb' 23 8).toNat = b.toNat
    ∧ ((IntOp.shli .host (b.setWidth 32) 23#32).extractLsb' 0 23).toNat = 0 := by decide +kernel

/-- A single precision word with zero sign and fraction is a power of two. -/
theorem power (n : ℕ) (h1 : 1 ≤ n) (h2 : n ≤ 254) (w : BitVec 32) (e1 : w.extractLsb' 31 1 = 0#1)
    (e2 : (w.extractLsb' 23 8).toNat = n) (e3 : (w.extractLsb' 0 23).toNat = 0) :
    (Ideal.ieee 8 23 w : EReal) = (((2 : ℝ) ^ ((n : ℤ) - 127) : ℝ) : EReal) := by
  unfold Ideal.ieee
  simp only [e1, e2, e3]
  rw [if_neg (by omega), if_neg (by omega)]
  congr 1
  have e : ((n : ℤ) - (2 ^ (8 - 1) - 1) - (23 : ℕ)) = ((n : ℤ) - 127) + (-23) := by norm_num; ring
  rw [e, zpow_add₀ (by norm_num)]
  norm_num
  ring

theorem scale_bits (b : BitVec 8) (h1 : 1 ≤ b.toNat) (h2 : b.toNat ≤ 254) :
    (Ideal.ofBits .f32 (IntOp.shli .host (b.setWidth 32) 23#32) : EReal) = ((scale b : ℝ) : EReal) := by
  obtain ⟨e1, e2, e3⟩ := bits_scale b
  exact power b.toNat h1 h2 _ e1 e2 e3

theorem int_scale : ∀ b : BitVec 8, (IntOp.subi (b.setWidth 32) 127#32).toInt = (b.toNat : ℤ) - 127 := by decide +kernel

theorem two : FloatOps.ofBits (F := Ideal) .f32 (0x40000000#32) = (((2 : ℝ)) : EReal) := by
  have h := power 128 (by norm_num) (by norm_num) 0x40000000#32 (by decide) (by decide) (by decide)
  refine Eq.trans ?_ (h.trans ?_)
  · rfl
  · norm_num

theorem scale_pow (b : BitVec 8) :
    (Ideal.pow (FloatOps.ofBits (F := Ideal) .f32 (0x40000000#32)) (((IntOp.subi (b.setWidth 32) 127#32).toInt : ℝ) : EReal) : EReal)
      = ((scale b : ℝ) : EReal) := by
  rw [two, int_scale]
  show ((Real.rpow 2 _ : ℝ) : EReal) = _
  congr 1
  exact Real.rpow_intCast 2 _

theorem code_real (b : BitVec 8) (h1 : b ≠ 127#8) (h2 : b ≠ 255#8) : (Ideal.ofBits .fp8e4m3 b : EReal) = ((code b : ℝ) : EReal) := by
  have e : ∀ b : BitVec 8, b ≠ 127#8 → b ≠ 255#8 → ¬((b.extractLsb' 3 4).toNat = 15 ∧ (b.extractLsb' 0 3).toNat = 7) := by decide +kernel
  have : ∃ r : ℝ, (Ideal.ofBits .fp8e4m3 b : EReal) = (r : EReal) := by
    show ∃ r : ℝ, Ideal.e4m3fn b = (r : EReal)
    unfold Ideal.e4m3fn
    simp only []
    rw [if_neg (e b h1 h2)]
    split_ifs <;> exact ⟨_, rfl⟩
  obtain ⟨r, hr⟩ := this
  unfold code
  rw [hr, EReal.toReal_coe]

/-- The arguments are numbers, and the scale codes are exponents of normal numbers. -/
structure Fine (x0 x2 : (⟨4, ![2, 1024, 36, 192]⟩ : Shape).Idx → BitVec 8) (x1 x3 : (⟨4, ![2, 1024, 36, 6]⟩ : Shape).Idx → BitVec 8)
    (x4 : (⟨4, ![2, 1024, 36, 128]⟩ : Shape).Idx → EReal) (x5 : (⟨4, ![2, 1024, 36, 192]⟩ : Shape).Idx → EReal)
    (x6 : (⟨3, ![2, 1024, 36]⟩ : Shape).Idx → EReal) (x7 : (⟨4, ![2, 36, 192, 128]⟩ : Shape).Idx → EReal) : Prop where
  q : ∀ i, x0 i ≠ 127#8 ∧ x0 i ≠ 255#8
  k : ∀ i, x2 i ≠ 127#8 ∧ x2 i ≠ 255#8
  qs : ∀ i, 1 ≤ (x1 i).toNat ∧ (x1 i).toNat ≤ 254
  ks : ∀ i, 1 ≤ (x3 i).toNat ∧ (x3 i).toNat ≤ 254
  v : ∀ i, x4 i = (((x4 i).toReal : ℝ) : EReal)
  g : ∀ i, x5 i = (((x5 i).toReal : ℝ) : EReal)
  b : ∀ i, x6 i = (((x6 i).toReal : ℝ) : EReal)
  h0 : ∀ i, x7 i = (((x7 i).toReal : ℝ) : EReal)

/-- The reals the arguments stand for. -/
def argsOf (x0 x2 : (⟨4, ![2, 1024, 36, 192]⟩ : Shape).Idx → BitVec 8) (x1 x3 : (⟨4, ![2, 1024, 36, 6]⟩ : Shape).Idx → BitVec 8)
    (x4 : (⟨4, ![2, 1024, 36, 128]⟩ : Shape).Idx → EReal) (x5 : (⟨4, ![2, 1024, 36, 192]⟩ : Shape).Idx → EReal)
    (x6 : (⟨3, ![2, 1024, 36]⟩ : Shape).Idx → EReal) (x7 : (⟨4, ![2, 36, 192, 128]⟩ : Shape).Idx → EReal) : Args where
  q := rd4 fun i => code (x0 i)
  qs := rd4 fun i => scale (x1 i)
  k := rd4 fun i => code (x2 i)
  ks := rd4 fun i => scale (x3 i)
  v := rd4 fun i => (x4 i).toReal
  g := rd4 fun i => (x5 i).toReal
  b := rd3 fun i => (x6 i).toReal
  h0 := rd4 fun i => (x7 i).toReal

end Cert.Inputs

end
-- ==== Proof.PreFine.lean ====
/-  What the precondition says of the arguments: codes that are numbers, scale codes of normal numbers, finite floats. -/
module

public import proofs.«01_k».proof.Defs
public import proofs.«01_k».proof.Proof.Gen.Pre_normal
public import proofs.«01_k».proof.Proof.Inputs
public import Idealize.ShloMosaic.Lib.WordCmp

@[expose] public section

set_option maxRecDepth 16384

noncomputable section

namespace Cert.PreFine

open Idealize.ShloMosaic Cert.Inputs

theorem ne_of (b d : BitVec 8) (h : IntOp.cmpi .ne b d = 1#1) : b ≠ d := by
  intro e
  subst e
  revert h
  simp [IntOp.cmpi]
theorem andi_of : ∀ x y : BitVec 1, IntOp.andi x y = 1#1 → x = 1#1 ∧ y = 1#1 := by decide
theorem one_le (b : BitVec 8) (h : IntOp.cmpi .uge b 1#8 = 1#1) : 1 ≤ b.toNat := by
  revert b; decide
theorem le_254 (b : BitVec 8) (h : IntOp.cmpi .ule b 254#8 = 1#1) : b.toNat ≤ 254 := by
  revert b; decide
theorem inf32 : (Ideal.ofBits .f32 0x7F800000#32 : EReal) = ⊤ := by simp [Ideal.ofBits, Ideal.ieee]
theorem inf16 : (Ideal.ofBits .bf16 0x7F80#16 : EReal) = ⊤ := by simp [Ideal.ofBits, Ideal.ieee]

/-- A number of magnitude below infinity is a real. -/
theorem real_of (x : EReal) (h : BitVec.ofBool (decide (max x (-x) < ⊤)) = 1#1) : x = ((x.toReal : ℝ) : EReal) := by
  have h' : max x (-x) < ⊤ := by
    by_contra hn
    rw [decide_eq_false hn] at h
    exact absurd h (by decide)
  rw [max_lt_iff] at h'
  refine (EReal.coe_toReal h'.1.ne ?_).symm
  rintro rfl
  exact absurd h'.2 (by simp)
theorem real32 (x : EReal) (h : FloatOps.cmpf (F := Ideal) (φ := .f32) .olt (FloatOps.hostAbsf (F := Ideal) (φ := .f32) x) (Ideal.ofBits .f32 0x7F800000#32) = 1#1) :
    x = ((x.toReal : ℝ) : EReal) := by
  rw [inf32] at h
  refine real_of x ?_
  exact h
theorem real16 (x : EReal) (h : FloatOps.cmpf (F := Ideal) (φ := .bf16) .olt (FloatOps.hostAbsf (F := Ideal) (φ := .bf16) x) (Ideal.ofBits .bf16 0x7F80#16) = 1#1) :
    x = ((x.toReal : ℝ) : EReal) := by
  rw [inf16] at h
  refine real_of x ?_
  exact h

open Cert.KernelIdeal in
theorem fine {m : (ℓ : Loc nD τ sig) → Buf (Elt Ideal) ℓ} (h : Cert.Pre_KernelIdeal_normal m) (c : Dev nD) :
    Fine (m ((c.tc : Thread nD τ).loc main_arg0)) (m ((c.tc : Thread nD τ).loc main_arg2)) (m ((c.tc : Thread nD τ).loc main_arg1))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  obtain ⟨h1, h2, h3, h4, h5, h6, h7, h8⟩ := h c
  exact {
    q := fun i => have e := andi_of _ _ (congrFun h1 i); ⟨ne_of _ _ e.1, ne_of _ _ e.2⟩
    qs := fun i => have e := andi_of _ _ (congrFun h3 i); ⟨one_le _ e.1, le_254 _ e.2⟩
    k := fun i => have e := andi_of _ _ (congrFun h2 i); ⟨ne_of _ _ e.1, ne_of _ _ e.2⟩
    ks := fun i => have e := andi_of _ _ (congrFun h4 i); ⟨one_le _ e.1, le_254 _ e.2⟩
    v := fun i => real16 _ (congrFun h5 i)
    g := fun i => real32 _ (congrFun h6 i)
    b := fun i => real32 _ (congrFun h7 i)
    h0 := fun i => real32 _ (congrFun h8 i) }

end Cert.PreFine

end
-- ==== Proof.Head.lean ====
/-  What the kernel computes for one head of one grid step, as functions of the values it loads, stage by stage and in
    the kernel's own operations: the four heads are four instances of these functions. -/
module

public import proofs.«01_k».proof.Proof.Gen.KernelIdeal

@[expose] public section

set_option maxRecDepth 16384

noncomputable section

namespace Cert.KernelIdeal.Head

open Idealize.ShloMosaic Cert.KernelIdeal Cert.KernelIdeal.Gen

variable {F : FTy → Type} [FloatOps F]

/-! ## A float32 array as three bfloat16 arrays -/

section Split
variable {s : Shape}
/-- The high part. -/
def hi3 (x : FVec F s .f32) : FVec F s .bf16 := truncf .bf16 x bitsLt_bf16_f32
/-- What the high part leaves. -/
def rest3 (x : FVec F s .f32) : FVec F s .f32 := subf x (extf .f32 (hi3 x) bitsLt_bf16_f32)
/-- The middle part. -/
def mid3 (x : FVec F s .f32) : FVec F s .bf16 := truncf .bf16 (rest3 x) bitsLt_bf16_f32
/-- The low part. -/
def lo3 (x : FVec F s .f32) : FVec F s .bf16 :=
  truncf .bf16 (subf (rest3 x) (extf .f32 (mid3 x) bitsLt_bf16_f32)) bitsLt_bf16_f32
end Split

/-! ## Gates and dequantised codes -/

/-- Prefix sums of the gates (lanes 0 to 127) and their sums to the end of the chunk (lanes 128 to 255). -/
def gateSums (g : Vec F S1x1x192x128 .f32) (tri : Vec F S128x256 .bf16) : FVec F S192x256 .f32 :=
  let g2 : FVec F S192x128 .f32 := shapeCast S192x128 g shapeCasts_S1x1x192x128_S192x128
  let t2 : FVec F S128x256 .bf16 := shapeCast S128x256 tri shapeCasts_S128x256_S128x256
  addf
    (matmul dot_S192x256_S256x256_S192x256_1_0_0_1_n_n none
      (concatenate S192x256 1 [⟨S192x128, hi3 g2⟩, ⟨S192x128, mid3 g2⟩] concatenates_S192x128_S192x128_S192x256_d1)
      (concatenate S256x256 0 [⟨S128x256, t2⟩, ⟨S128x256, t2⟩] concatenates_S128x256_S128x256_S256x256_d0)
      (constant S192x256 .f32 0x00000000#32))
    (matmul dot_S192x128_S128x256_S192x256_1_0_0_1_n_n none (lo3 g2) t2 (constant S192x256 .f32 0x00000000#32))

/-- The prefix sums. -/
def gateSum (cs : FVec F S192x256 .f32) : FVec F S192x128 .f32 :=
  extractStridedSlice S192x128 ![0, 0] cs slices_S192x256_o0_0_S192x128
/-- The exponential of the prefix sums. -/
def ePos (cs : FVec F S192x256 .f32) : FVec F S192x128 .f32 := exp (gateSum cs)
/-- The exponential of minus the prefix sums. -/
def eNeg (cs : FVec F S192x256 .f32) : FVec F S192x128 .bf16 :=
  truncf .bf16 (exp (subf (broadcast S192x128 (Scalar.ofBits .f32 0x00000000#32)) (gateSum cs))) bitsLt_bf16_f32
/-- The exponential of the sums to the end of the chunk. -/
def eDec (cs : FVec F S192x256 .f32) : FVec F S192x128 .bf16 :=
  truncf .bf16 (exp (extractStridedSlice S192x128 ![0, 128] cs slices_S192x256_o0_128_S192x128)) bitsLt_bf16_f32

/-- One block's scales, repeated over its 32 rows. -/
def scaleRows (s : Vec F S1x1x1x128 .f32) : FVec F S32x128 .bf16 :=
  truncf .bf16 (broadcastTo S32x128
    (shapeCast S1x128 (shapeCast S1x128 s shapeCasts_S1x1x1x128_S1x128) shapeCasts_S1x128_S1x128 : FVec F S1x128 .f32)
    broadcasts_S1x128_S32x128) bitsLt_bf16_f32

/-- Codes times their blocks' scales. -/
def dequant (codes : Vec F S1x1x192x128 .fp8e4m3) (s0 s1 s2 s3 s4 s5 : Vec F S1x1x1x128 .f32) : FVec F S192x128 .bf16 :=
  let c : FVec F S192x128 .bf16 := extf .bf16 (shapeCast S192x128 codes shapeCasts_S1x1x192x128_S192x128 : FVec F S192x128 .fp8e4m3)
    bitsLt_fp8e4m3_bf16
  concatenate S192x128 0
    [⟨S32x128, mulf (extractStridedSlice S32x128 ![0, 0] c slices_S192x128_o0_0_S32x128) (scaleRows s0)⟩,
     ⟨S32x128, mulf (extractStridedSlice S32x128 ![32, 0] c slices_S192x128_o32_0_S32x128) (scaleRows s1)⟩,
     ⟨S32x128, mulf (extractStridedSlice S32x128 ![64, 0] c slices_S192x128_o64_0_S32x128) (scaleRows s2)⟩,
     ⟨S32x128, mulf (extractStridedSlice S32x128 ![96, 0] c slices_S192x128_o96_0_S32x128) (scaleRows s3)⟩,
     ⟨S32x128, mulf (extractStridedSlice S32x128 ![128, 0] c slices_S192x128_o128_0_S32x128) (scaleRows s4)⟩,
     ⟨S32x128, mulf (extractStridedSlice S32x128 ![160, 0] c slices_S192x128_o160_0_S32x128) (scaleRows s5)⟩]
    concatenates_S32x128_S32x128_S32x128_S32x128_S32x128_S32x128_S192x128_d0

/-! ## The products of queries and keys -/

/-- `k` and `q` rows of the first chunk, times the gate, tokens first. -/
def pq0 (qs ks : FVec F S192x128 .bf16) (e : FVec F S192x128 .f32) : FVec F S128x192 .bf16 :=
  concatenate S128x192 0
    [⟨S64x192, extractStridedSlice S64x192 ![0, 0] (transpose S128x192 [1, 0] (mulf ks (truncf .bf16 e bitsLt_bf16_f32)) transposes_S192x128_p1_0_S128x192) slices_S128x192_o0_0_S64x192⟩,
     ⟨S64x192, extractStridedSlice S64x192 ![0, 0] (transpose S128x192 [1, 0] (mulf qs (truncf .bf16 e bitsLt_bf16_f32)) transposes_S192x128_p1_0_S128x192) slices_S128x192_o0_0_S64x192⟩]
    concatenates_S64x192_S64x192_S128x192_d0
/-- The same of the second chunk. -/
def pq1 (qs ks : FVec F S192x128 .bf16) (e : FVec F S192x128 .f32) : FVec F S128x192 .bf16 :=
  concatenate S128x192 0
    [⟨S64x192, extractStridedSlice S64x192 ![64, 0] (transpose S128x192 [1, 0] (mulf ks (truncf .bf16 e bitsLt_bf16_f32)) transposes_S192x128_p1_0_S128x192) slices_S128x192_o64_0_S64x192⟩,
     ⟨S64x192, extractStridedSlice S64x192 ![64, 0] (transpose S128x192 [1, 0] (mulf qs (truncf .bf16 e bitsLt_bf16_f32)) transposes_S192x128_p1_0_S128x192) slices_S128x192_o64_0_S64x192⟩]
    concatenates_S64x192_S64x192_S128x192_d0

/-- The lanes of the first chunk. -/
def lowLanes : IVec S64x128 1 := cmpi .slt (iota .tc S64x128 32 [1] iota_S64x128_d1_w32) (broadcast S64x128 64#32)
/-- The lanes of the first chunk, on half the rows. -/
def lowLanes32 : IVec S32x128 1 := extractStridedSlice S32x128 ![0, 0] lowLanes slices_S64x128_o0_0_S32x128
/-- A lane's place in its chunk. -/
def inChunk : IVec S64x128 32 := andi (iota .tc S64x128 32 [1] iota_S64x128_d1_w32) (broadcast S64x128 63#32)
/-- Below the diagonal. -/
def strictMask : IVec S64x128 1 := cmpi .slt inChunk (iota .tc S64x128 32 [0] iota_S64x128_d0_w32)
/-- On or below the diagonal. -/
def inclMask : IVec S64x128 1 := cmpi .sle inChunk (iota .tc S64x128 32 [0] iota_S64x128_d0_w32)
/-- Lanes, on half the rows. -/
def lane32 : IVec S32x128 32 :=
  extractStridedSlice S32x128 ![0, 0] (iota .tc S64x128 32 [1] iota_S64x128_d1_w32) slices_S64x128_o0_0_S32x128
/-- The lanes of a chunk's first half. -/
def firstHalf : IVec S32x128 1 :=
  cmpi .eq (andi lane32 (broadcast S32x128 32#32)) (broadcast S32x128 0#32)
/-- Four 32×32 identity matrices side by side. -/
def eye32 : FVec F S32x128 .f32 :=
  sitofp .f32 (extui 32 (cmpi .eq (andi lane32 (broadcast S32x128 31#32))
    (extractStridedSlice S32x128 ![0, 0] (iota .tc S64x128 32 [0] iota_S64x128_d0_w32) slices_S64x128_o0_0_S32x128)) natLt_1_32)
/-- The first lane of a lane's group of 32. -/
def group8 : IVec S8x128 32 :=
  andi (extractStridedSlice S8x128 ![0, 0] (iota .tc S64x128 32 [1] iota_S64x128_d1_w32) slices_S64x128_o0_0_S8x128)
    (broadcast S8x128 4294967264#32)

/-- The products of one chunk's rows with the keys. -/
def dotPK (pq : FVec F S128x192 .bf16) (kneg : FVec F S192x128 .bf16) : FVec F S128x128 .f32 :=
  matmul dot_S128x192_S192x128_S128x128_1_0_0_1_n_n none pq kneg (constant S128x128 .f32 0x00000000#32)

/-- The four heads' `beta` rows as columns. -/
def betaCols (b0 b1 b2 b3 : Vec F S1x1x1x128 .f32) : FVec F S128x8 .f32 :=
  transpose S128x8 [1, 0]
    (concatenate S8x128 0
      [⟨S1x128, shapeCast S1x128 b0 shapeCasts_S1x1x1x128_S1x128⟩, ⟨S1x128, shapeCast S1x128 b1 shapeCasts_S1x1x1x128_S1x128⟩,
       ⟨S1x128, shapeCast S1x128 b2 shapeCasts_S1x1x1x128_S1x128⟩, ⟨S1x128, shapeCast S1x128 b3 shapeCasts_S1x1x1x128_S1x128⟩,
       ⟨S4x128, broadcast S4x128 (Scalar.ofBits .f32 0x00000000#32 : F .f32)⟩]
      concatenates_S1x128_S1x128_S1x128_S1x128_S4x128_S8x128_d0)
    transposes_S8x128_p1_0_S128x8

/-- `beta` of a row, in each of the two chunks' lanes. -/
def betaRows (bcol : FVec F S128x1 .f32) : FVec F S64x128 .f32 :=
  let b : FVec F S128x128 .f32 := broadcastTo S128x128 (shapeCast S128x1 bcol shapeCasts_S128x1_S128x1 : FVec F S128x1 .f32) broadcasts_S128x1_S128x128
  select lowLanes (extractStridedSlice S64x128 ![0, 0] b slices_S128x128_o0_0_S64x128)
    (extractStridedSlice S64x128 ![64, 0] b slices_S128x128_o64_0_S64x128)

/-- The strictly lower triangular matrices of the two chunks, side by side. -/
def akk (bcol : FVec F S128x1 .f32) (a0 a1 : FVec F S128x128 .f32) : FVec F S64x128 .f32 :=
  select strictMask
    (mulf (betaRows bcol)
      (select lowLanes (extractStridedSlice S64x128 ![0, 0] a0 slices_S128x128_o0_0_S64x128)
        (extractStridedSlice S64x128 ![0, 0] a1 slices_S128x128_o0_0_S64x128)))
    (broadcast S64x128 (Scalar.ofBits .f32 0x00000000#32 : F .f32))

/-- The lower triangular products of queries and keys of the two chunks, side by side. -/
def aqk (a0 a1 : FVec F S128x128 .f32) : FVec F S64x128 .f32 :=
  select inclMask
    (select lowLanes (extractStridedSlice S64x128 ![64, 0] a0 slices_S128x128_o64_0_S64x128)
      (extractStridedSlice S64x128 ![64, 0] a1 slices_S128x128_o64_0_S64x128))
    (broadcast S64x128 (Scalar.ofBits .f32 0x00000000#32 : F .f32))

/-! ## The inverses of the 32×32 diagonal blocks, by forward substitution -/

/-- The four diagonal blocks, side by side. -/
def diag (a : FVec F S64x128 .f32) : FVec F S32x128 .f32 :=
  select firstHalf (extractStridedSlice S32x128 ![0, 0] a slices_S64x128_o0_0_S32x128)
    (extractStridedSlice S32x128 ![32, 0] a slices_S64x128_o32_0_S32x128)

/-- Eight of the 32 rows. -/
def rows8 (x : FVec F S32x128 .f32) : Fin 4 → FVec F S8x128 .f32
  | 0 => extractStridedSlice S8x128 ![0, 0] x slices_S32x128_o0_0_S8x128
  | 1 => extractStridedSlice S8x128 ![8, 0] x slices_S32x128_o8_0_S8x128
  | 2 => extractStridedSlice S8x128 ![16, 0] x slices_S32x128_o16_0_S8x128
  | 3 => extractStridedSlice S8x128 ![24, 0] x slices_S32x128_o24_0_S8x128

/-- The lanes of column `c` of each group. -/
def colIdx (c : BitVec 32) : IVec S8x128 32 :=
  shapeCast S8x128
    (shapeCast S8x128x1
      (select (cmpi .slt (addi group8 (broadcast S8x128 c)) (broadcast S8x128 0#32))
        (addi (addi group8 (broadcast S8x128 c)) (broadcast S8x128 128#32)) (addi group8 (broadcast S8x128 c)))
      shapeCasts_S8x128_S8x128x1)
    shapeCasts_S8x128x1_S8x128

theorem slicesRow (c : ℕ) : S8x128.Slices ![c % 8, 0] S1x128 :=
  ⟨rfl, fun a => by
    match a with
    | ⟨0, _⟩ => show c % 8 + 1 ≤ 8; omega
    | ⟨1, _⟩ => show 0 + 128 ≤ 128; omega⟩

/-- Row `c` of the solution so far, repeated over eight rows. -/
def xRow (x : FVec F S8x128 .f32) (c : ℕ) : FVec F S8x128 .f32 :=
  broadcastTo S8x128 (shapeCast S1x128 (extractStridedSlice S1x128 ![c % 8, 0] x (slicesRow c)) shapeCasts_S1x128_S1x128 : FVec F S1x128 .f32)
    broadcasts_S1x128_S8x128

/-- Column `c` is eliminated from the rows below it. -/
def subStep (d : Fin 4 → FVec F S8x128 .f32) (c : ℕ) (x : Fin 4 → FVec F S8x128 .f32) : Fin 4 → FVec F S8x128 .f32 :=
  fun i => if (c + 1) / 8 ≤ i.val then
    subf (x i) (mulf (dynamicGather 1 (d i) (colIdx (BitVec.ofNat 32 c))) (xRow (x ⟨c / 8 % 4, Nat.mod_lt _ (by decide)⟩) c))
  else x i

/-- The first `c` columns eliminated. -/
def subN (d x : Fin 4 → FVec F S8x128 .f32) (c : ℕ) : Fin 4 → FVec F S8x128 .f32 :=
  Nat.rec x (fun c y => subStep d c y) c

/-- The inverses of the four diagonal blocks, side by side. -/
def dinv (dg : FVec F S32x128 .f32) : FVec F S32x128 .f32 :=
  concatenate S32x128 0
    [⟨S8x128, subN (rows8 dg) (rows8 eye32) 31 0⟩, ⟨S8x128, subN (rows8 dg) (rows8 eye32) 31 1⟩,
     ⟨S8x128, subN (rows8 dg) (rows8 eye32) 31 2⟩, ⟨S8x128, subN (rows8 dg) (rows8 eye32) 31 3⟩]
    concatenates_S8x128_S8x128_S8x128_S8x128_S32x128_d0

/-! ## The inverse of a chunk's 64×64 matrix from its halves -/

/-- A product of float32 matrices in six bfloat16 products. -/
def dot6 (a : FVec F S32x128 .f32) (b : FVec F S128x128 .f32) : FVec F S32x128 .f32 :=
  let bb : FVec F S128x256 .bf16 := concatenate S128x256 1 [⟨S128x128, hi3 b⟩, ⟨S128x128, mid3 b⟩] concatenates_S128x128_S128x128_S128x256_d1
  let x : FVec F S32x256 .f32 := matmul dot_S32x256_S256x256_S32x256_1_0_0_1_n_n none
    (concatenate S32x256 1 [⟨S32x128, hi3 a⟩, ⟨S32x128, mid3 a⟩] concatenates_S32x128_S32x128_S32x256_d1)
    (concatenate S256x256 0 [⟨S128x256, bb⟩, ⟨S128x256, bb⟩] concatenates_S128x256_S128x256_S256x256_d0)
    (constant S32x256 .f32 0x00000000#32)
  let y : FVec F S32x128 .f32 := matmul dot_S32x256_S256x128_S32x128_1_0_0_1_n_n none
    (concatenate S32x256 1 [⟨S32x128, lo3 a⟩, ⟨S32x128, hi3 a⟩] concatenates_S32x128_S32x128_S32x256_d1)
    (concatenate S256x128 0 [⟨S128x128, hi3 b⟩, ⟨S128x128, lo3 b⟩] concatenates_S128x128_S128x128_S256x128_d0)
    (constant S32x128 .f32 0x00000000#32)
  addf (addf (extractStridedSlice S32x128 ![0, 0] x slices_S32x256_o0_0_S32x128)
    (extractStridedSlice S32x128 ![0, 128] x slices_S32x256_o0_128_S32x128)) y

/-- The zero array. -/
def zero32 : FVec F S32x128 .f32 := broadcast S32x128 (Scalar.ofBits .f32 0x00000000#32 : F .f32)

/-- The lanes of group `i`. -/
def groupMask (i : BitVec 32) : IVec S32x128 1 :=
  cmpi .eq (shrsi lane32 (broadcast S32x128 5#32)) (broadcast S32x128 i)

/-- The four inverses down the diagonal. -/
def blocks (di : FVec F S32x128 .f32) : FVec F S128x128 .f32 :=
  concatenate S128x128 0
    [⟨S32x128, select (groupMask 0#32) di zero32⟩, ⟨S32x128, select (groupMask 1#32) di zero32⟩,
     ⟨S32x128, select (groupMask 2#32) di zero32⟩, ⟨S32x128, select (groupMask 3#32) di zero32⟩]
    concatenates_S32x128_S32x128_S32x128_S32x128_S128x128_d0

/-- The block below the diagonal times the first inverse, of both chunks. -/
def yBlk (a : FVec F S64x128 .f32) (di : FVec F S32x128 .f32) : FVec F S32x128 .f32 :=
  dot6 (select firstHalf (extractStridedSlice S32x128 ![32, 0] a slices_S64x128_o32_0_S32x128) zero32) (blocks di)

/-- These products set to meet the second inverses. -/
def yBlocks (y : FVec F S32x128 .f32) : FVec F S128x128 .f32 :=
  concatenate S128x128 0
    [⟨S32x128, zero32⟩,
     ⟨S32x128, select (extractStridedSlice S32x128 ![0, 0] lowLanes slices_S64x128_o0_0_S32x128) y zero32⟩,
     ⟨S32x128, zero32⟩,
     ⟨S32x128, select (extractStridedSlice S32x128 ![0, 0] lowLanes slices_S64x128_o0_0_S32x128) zero32 y⟩]
    concatenates_S32x128_S32x128_S32x128_S32x128_S128x128_d0

/-- The inverses of both chunks' matrices, side by side. -/
def tInv (a : FVec F S64x128 .f32) (di : FVec F S32x128 .f32) : FVec F S64x128 .f32 :=
  concatenate S64x128 0
    [⟨S32x128, select firstHalf di zero32⟩,
     ⟨S32x128, subf (select firstHalf zero32 di) (dot6 (select firstHalf zero32 di) (yBlocks (yBlk a di)))⟩]
    concatenates_S32x128_S32x128_S64x128_d0

/-- The inverses with each column times its token's `beta`. -/
def tBeta (t : FVec F S64x128 .f32) (b : Vec F S1x1x1x128 .f32) : FVec F S64x128 .f32 :=
  mulf t (broadcastTo S64x128 (shapeCast S1x128 b shapeCasts_S1x1x1x128_S1x128 : FVec F S1x128 .f32) broadcasts_S1x128_S64x128)

/-! ## Operands of the products of one chunk -/

/-- Rows of one parity. -/
def par (p : Fin 2) (x : FVec F S64x128 .bf16) : FVec F S32x128 .bf16 := rowsOfParity p S32x128 x bitcasts_S64x128_w16_S32x128_w32
/-- Lanes turned by half. -/
def turn (x : FVec F S32x128 .bf16) : FVec F S32x128 .bf16 := dynamicRotate 1 64#32 none x rotates_S32x128_d1
/-- Rows of both parities put together. -/
def weave (lo hi : FVec F S32x128 .bf16) : FVec F S64x128 .bf16 := interleaveRows S64x128 lo hi bitcasts_S64x128_w16_S32x128_w32

/-- The first chunk's left operand. -/
def lhs0 (x : FVec F S64x128 .f32) : FVec F S64x256 .bf16 :=
  concatenate S64x256 1
    [⟨S64x128, weave (select lowLanes32 (par 0 (hi3 x)) (turn (par 0 (mid3 x)))) (select lowLanes32 (par 1 (hi3 x)) (turn (par 1 (mid3 x))))⟩,
     ⟨S64x128, weave (select lowLanes32 (par 0 (hi3 x)) (turn (par 0 (lo3 x)))) (select lowLanes32 (par 1 (hi3 x)) (turn (par 1 (lo3 x))))⟩]
    concatenates_S64x128_S64x128_S64x256_d1
/-- The second chunk's left operand. -/
def lhs1 (x : FVec F S64x128 .f32) : FVec F S64x256 .bf16 :=
  concatenate S64x256 1
    [⟨S64x128, weave (select lowLanes32 (turn (par 0 (mid3 x))) (par 0 (hi3 x))) (select lowLanes32 (turn (par 1 (mid3 x))) (par 1 (hi3 x)))⟩,
     ⟨S64x128, weave (select lowLanes32 (turn (par 0 (lo3 x))) (par 0 (hi3 x))) (select lowLanes32 (turn (par 1 (lo3 x))) (par 1 (hi3 x)))⟩]
    concatenates_S64x128_S64x128_S64x256_d1

/-- The bfloat16 zero array. -/
def zeroB : FVec F S64x128 .bf16 := broadcast S64x128 (Scalar.ofBits .bf16 0x0000#16 : F .bf16)
/-- High and middle parts side by side. -/
def fullRhs (x : FVec F S64x128 .f32) : FVec F S64x256 .bf16 :=
  concatenate S64x256 1 [⟨S64x128, hi3 x⟩, ⟨S64x128, mid3 x⟩] concatenates_S64x128_S64x128_S64x256_d1
/-- The low part beside zeros. -/
def loRhs (x : FVec F S64x128 .f32) : FVec F S64x256 .bf16 :=
  concatenate S64x256 1 [⟨S64x128, lo3 x⟩, ⟨S64x128, zeroB⟩] concatenates_S64x128_S64x128_S64x256_d1
/-- The high part beside zeros. -/
def hiRhs (x : FVec F S64x128 .f32) : FVec F S64x256 .bf16 :=
  concatenate S64x256 1 [⟨S64x128, hi3 x⟩, ⟨S64x128, zeroB⟩] concatenates_S64x128_S64x128_S64x256_d1
/-- The first chunk's right operand. -/
def rhs0 (x : FVec F S64x128 .f32) : FVec F S256x256 .bf16 :=
  concatenate S256x256 0 [⟨S64x256, fullRhs x⟩, ⟨S64x256, fullRhs x⟩, ⟨S64x256, loRhs x⟩, ⟨S64x256, hiRhs x⟩]
    concatenates_S64x256_S64x256_S64x256_S64x256_S256x256_d0
/-- The second chunk's right operand. -/
def rhs1 (x : FVec F S64x128 .f32) : FVec F S256x256 .bf16 :=
  concatenate S256x256 0 [⟨S64x256, fullRhs x⟩, ⟨S64x256, fullRhs x⟩, ⟨S64x256, hiRhs x⟩, ⟨S64x256, loRhs x⟩]
    concatenates_S64x256_S64x256_S64x256_S64x256_S256x256_d0

/-- The lanes of the first chunk, on 96 rows. -/
def low96 : IVec S96x128 1 := cmpi .slt (iota .tc S96x128 32 [1] iota_S96x128_d1_w32) (broadcast S96x128 64#32)
/-- The keys with the first chunk's lanes kept. -/
def kd0 (kd : FVec F S192x128 .bf16) : FVec F S192x128 .bf16 :=
  interleaveRows S192x128
    (select low96 (rowsOfParity 0 S96x128 kd bitcasts_S192x128_w16_S96x128_w32) (constant S96x128 .bf16 0x0000#16))
    (select low96 (rowsOfParity 1 S96x128 kd bitcasts_S192x128_w16_S96x128_w32) (constant S96x128 .bf16 0x0000#16))
    bitcasts_S192x128_w16_S96x128_w32
/-- The keys with the second chunk's lanes kept. -/
def kd1 (kd : FVec F S192x128 .bf16) : FVec F S192x128 .bf16 :=
  interleaveRows S192x128
    (select low96 (constant S96x128 .bf16 0x0000#16) (rowsOfParity 0 S96x128 kd bitcasts_S192x128_w16_S96x128_w32))
    (select low96 (constant S96x128 .bf16 0x0000#16) (rowsOfParity 1 S96x128 kd bitcasts_S192x128_w16_S96x128_w32))
    bitcasts_S192x128_w16_S96x128_w32

/-! ## One chunk -/

/-- A state as loaded, as a matrix. -/
def stMat (st : Vec F S1x1x192x128 .f32) : FVec F S192x128 .f32 := shapeCast S192x128 st shapeCasts_S1x1x192x128_S192x128

/-- `k` and `q` rows times the state. -/
def pState (pq : FVec F S128x192 .bf16) (st : FVec F S192x128 .f32) : FVec F S128x128 .f32 :=
  let p : FVec F S128x384 .f32 := matmul dot_S128x192_S192x384_S128x384_1_0_0_1_n_n none pq
    (concatenate S192x384 1 [⟨S192x128, hi3 st⟩, ⟨S192x128, mid3 st⟩, ⟨S192x128, lo3 st⟩] concatenates_S192x128_S192x128_S192x128_S192x384_d1)
    (constant S128x384 .f32 0x00000000#32)
  addf (addf (extractStridedSlice S128x128 ![0, 0] p slices_S128x384_o0_0_S128x128)
    (extractStridedSlice S128x128 ![0, 128] p slices_S128x384_o0_128_S128x128))
    (extractStridedSlice S128x128 ![0, 256] p slices_S128x384_o0_256_S128x128)

/-- What the values add to what the state holds of them. -/
def resid (v : Vec F S1x1x64x128 .bf16) (ps : FVec F S128x128 .f32) : FVec F S64x128 .f32 :=
  subf (extf .f32 (shapeCast S64x128 v shapeCasts_S1x1x64x128_S64x128 : FVec F S64x128 .bf16) bitsLt_bf16_f32)
    (extractStridedSlice S64x128 ![0, 0] ps slices_S128x128_o0_0_S64x128)

/-- The inverse times the residuals. -/
def uMat (t : FVec F S64x256 .bf16) (r : FVec F S256x256 .bf16) : FVec F S64x128 .f32 :=
  let u : FVec F S64x256 .f32 := matmul dot_S64x256_S256x256_S64x256_1_0_0_1_n_n none t r (constant S64x256 .f32 0x00000000#32)
  addf (extractStridedSlice S64x128 ![0, 0] u slices_S64x256_o0_0_S64x128)
    (extractStridedSlice S64x128 ![0, 128] u slices_S64x256_o0_128_S64x128)

/-- The products with `u`: the output's 64 rows over the state's 192. -/
def xMat (a : FVec F S64x256 .bf16) (kd : FVec F S192x128 .bf16) (r : FVec F S256x256 .bf16) : FVec F S256x128 .f32 :=
  let x : FVec F S256x256 .f32 := matmul dot_S256x256_S256x256_S256x256_1_0_0_1_n_n none
    (concatenate S256x256 0 [⟨S64x256, a⟩,
      ⟨S192x256, concatenate S192x256 1 [⟨S192x128, kd⟩, ⟨S192x128, kd⟩] concatenates_S192x128_S192x128_S192x256_d1⟩]
      concatenates_S64x256_S192x256_S256x256_d0)
    r (constant S256x256 .f32 0x00000000#32)
  addf (extractStridedSlice S256x128 ![0, 0] x slices_S256x256_o0_0_S256x128)
    (extractStridedSlice S256x128 ![0, 128] x slices_S256x256_o0_128_S256x128)

/-- A chunk's output. -/
def outMat (ps : FVec F S128x128 .f32) (x : FVec F S256x128 .f32) : FVec F S1x64x128 .bf16 :=
  shapeCast S1x64x128
    (truncf .bf16 (mulf (broadcast S64x128 (Scalar.ofBits .f32 0x3D93CD3A#32))
      (addf (extractStridedSlice S64x128 ![64, 0] ps slices_S128x128_o64_0_S64x128)
        (extractStridedSlice S64x128 ![0, 0] x slices_S256x128_o0_0_S64x128))) bitsLt_bf16_f32 : FVec F S64x128 .bf16)
    shapeCasts_S64x128_S1x64x128

/-- A chunk's new state. -/
def newState (dec : FVec F S192x1 .f32) (st : FVec F S192x128 .f32) (x : FVec F S256x128 .f32) : Vec F S1x1x192x128 .f32 :=
  shapeCast S1x1x192x128
    (addf (mulf (broadcastTo S192x128 (shapeCast S192x1 dec shapeCasts_S192x1_S192x1 : FVec F S192x1 .f32) broadcasts_S192x1_S192x128) st)
      (extractStridedSlice S192x128 ![64, 0] x slices_S256x128_o64_0_S192x128) : FVec F S192x128 .f32)
    shapeCasts_S192x128_S1x1x192x128

/-! ## One head -/

/-- What one head loads in one step, the states aside: codes, gates, the triangle, scales, `beta` as a column and as a
    row, and the two chunks' values. -/
structure In (F : FTy → Type) where
  q : Vec F S1x1x192x128 .fp8e4m3
  k : Vec F S1x1x192x128 .fp8e4m3
  g : Vec F S1x1x192x128 .f32
  tri : Vec F S128x256 .bf16
  s : Fin 12 → Vec F S1x1x1x128 .f32
  bcol : FVec F S128x1 .f32
  brow : Vec F S1x1x1x128 .f32
  v0 : Vec F S1x1x64x128 .bf16
  v1 : Vec F S1x1x64x128 .bf16

namespace In
variable (h : In F)
def cs : FVec F S192x256 .f32 := gateSums h.g h.tri
def qs : FVec F S192x128 .bf16 := dequant h.q (h.s 0) (h.s 1) (h.s 2) (h.s 3) (h.s 4) (h.s 5)
def ks : FVec F S192x128 .bf16 := dequant h.k (h.s 6) (h.s 7) (h.s 8) (h.s 9) (h.s 10) (h.s 11)
def kneg : FVec F S192x128 .bf16 := mulf h.ks (eNeg h.cs)
def kdec : FVec F S192x128 .bf16 := mulf h.ks (eDec h.cs)
def pqa : FVec F S128x192 .bf16 := pq0 h.qs h.ks (ePos h.cs)
def pqb : FVec F S128x192 .bf16 := pq1 h.qs h.ks (ePos h.cs)
def kk : FVec F S64x128 .f32 := akk h.bcol (dotPK h.pqa h.kneg) (dotPK h.pqb h.kneg)
def qk : FVec F S64x128 .f32 := aqk (dotPK h.pqa h.kneg) (dotPK h.pqb h.kneg)
def tb : FVec F S64x128 .f32 := tBeta (tInv h.kk (dinv (diag h.kk))) h.brow
def psa (st : Vec F S1x1x192x128 .f32) : FVec F S128x128 .f32 := pState h.pqa (stMat st)
def psb (st : Vec F S1x1x192x128 .f32) : FVec F S128x128 .f32 := pState h.pqb (stMat st)
def xa (st : Vec F S1x1x192x128 .f32) : FVec F S256x128 .f32 :=
  xMat (lhs0 h.qk) (kd0 h.kdec) (rhs0 (uMat (lhs0 h.tb) (rhs0 (resid h.v0 (h.psa st)))))
def xb (st : Vec F S1x1x192x128 .f32) : FVec F S256x128 .f32 :=
  xMat (lhs1 h.qk) (kd1 h.kdec) (rhs1 (uMat (lhs1 h.tb) (rhs1 (resid h.v1 (h.psb st)))))
/-- The first chunk's output from the state before it. -/
def oa (st : Vec F S1x1x192x128 .f32) : FVec F S1x64x128 .bf16 := outMat (h.psa st) (h.xa st)
/-- The second chunk's output from the state before it. -/
def ob (st : Vec F S1x1x192x128 .f32) : FVec F S1x64x128 .bf16 := outMat (h.psb st) (h.xb st)
/-- The state after the first chunk from the state before it. -/
def sa (st : Vec F S1x1x192x128 .f32) : Vec F S1x1x192x128 .f32 :=
  newState (extractStridedSlice S192x1 ![0, 63] (ePos h.cs) slices_S192x128_o0_63_S192x1) (stMat st) (h.xa st)
/-- The state after the second chunk from the state before it. -/
def sb (st : Vec F S1x1x192x128 .f32) : Vec F S1x1x192x128 .f32 :=
  newState (extractStridedSlice S192x1 ![0, 127] (ePos h.cs) slices_S192x128_o0_127_S192x1) (stMat st) (h.xb st)
end In

end Cert.KernelIdeal.Head

end
-- ==== Proof.Pieces.lean ====
/-  The stores of one grid step are four instances of the head functions: each of the eight output blocks and each of the
    eight states the body stores is `Head.In.oa`, `ob`, `sa` or `sb` of what that head loads. -/
module

public import proofs.«01_k».proof.Proof.Gen.KernelIdeal.Value
public import proofs.«01_k».proof.Proof.Head

@[expose] public section

set_option maxRecDepth 16384

noncomputable section

namespace Cert.KernelIdeal.Pieces

open Idealize.ShloMosaic Idealize.ShloMosaic.TcCoe Idealize.ShloMosaic.Tactic Idealize.SL.Sem
open Cert.KernelIdeal Cert.KernelIdeal.Gen Cert.KernelIdeal.Head

variable {F : FTy → Type} [FloatOps F]

theorem inbState (j : Fin 4) : ∀ a, (![0, j.val, 0, 0] : Fin 4 → ℕ) a + S1x1x192x128.size a ≤ S1x4x192x128.size a := by
  revert j; decide
theorem inbAux (j : Fin 4) (r : Fin 16) : ∀ a, (![0, j.val, r.val, 0] : Fin 4 → ℕ) a + S1x1x1x128.size a ≤ S1x4x16x128.size a := by
  revert j r; decide
theorem inbVal (j : Fin 4) (c : Fin 2) : ∀ a, (![0, j.val, 64 * c.val, 0] : Fin 4 → ℕ) a + S1x1x64x128.size a ≤ S1x4x128x128.size a := by
  revert j c; decide
theorem inbOut (j : Fin 4) (c : Fin 2) : ∀ a, (![0, 64 * c.val, 128 * j.val] : Fin 3 → ℕ) a + S1x64x128.size a ≤ S1x128x512.size a := by
  revert j c; decide
theorem inbTri : ∀ a, (![0, 0] : Fin 2 → ℕ) a + S128x256.size a ≤ S128x256.size a := by decide
theorem inbWhole : ∀ a, (![0, 0, 0, 0] : Fin 4 → ℕ) a + S1x4x192x128.size a ≤ S1x4x192x128.size a := by decide
theorem slicesCol (j : Fin 4) : S128x8.Slices ![0, j.val] S128x1 := by
  refine ⟨rfl, ?_⟩; revert j; decide

/-- Head `j`'s part of a state block. -/
abbrev rState (j : Fin 4) : Rect S1x4x192x128 := Rect.unit ![0, j.val, 0, 0] S1x1x192x128.size (inbState j)
/-- Head `j`'s row `r` of the scales and `beta`. -/
abbrev rAux (j : Fin 4) (r : Fin 16) : Rect S1x4x16x128 := Rect.unit ![0, j.val, r.val, 0] S1x1x1x128.size (inbAux j r)
/-- Head `j`'s values of chunk `c`. -/
abbrev rVal (j : Fin 4) (c : Fin 2) : Rect S1x4x128x128 := Rect.unit ![0, j.val, 64 * c.val, 0] S1x1x64x128.size (inbVal j c)
/-- Head `j`'s output of chunk `c`. -/
abbrev rOut (j : Fin 4) (c : Fin 2) : Rect S1x128x512 := Rect.unit ![0, 64 * c.val, 128 * j.val] S1x64x128.size (inbOut j c)
abbrev rTri : Rect S128x256 := Rect.unit ![0, 0] S128x256.size inbTri
abbrev rWhole : Rect S1x4x192x128 := Rect.unit ![0, 0, 0, 0] S1x4x192x128.size inbWhole

section
variable (c : Dev nD) (i : grid0.Coords) (arg3 : Memref sig .tc .vmem S1x4x192x128 .fp8e4m3) (harg3 : arg3.IsWhole) (arg4 : Memref sig .tc .vmem S1x4x192x128 .fp8e4m3) (harg4 : arg4.IsWhole) (arg5 : Memref sig .tc .vmem S1x4x192x128 .f32) (harg5 : arg5.IsWhole) (arg6 : Memref sig .tc .vmem S1x4x128x128 .bf16) (harg6 : arg6.IsWhole) (arg7 : Memref sig .tc .vmem S1x4x16x128 .f32) (harg7 : arg7.IsWhole) (arg8 : Memref sig .tc .vmem S128x256 .bf16) (harg8 : arg8.IsWhole) (arg9 : Memref sig .tc .vmem S1x4x192x128 .f32) (harg9 : arg9.IsWhole) (arg10 : Memref sig .tc .vmem S1x128x512 .bf16) (harg10 : arg10.IsWhole) (arg11 : Memref sig .tc .vmem S1x4x192x128 .f32) (harg11 : arg11.IsWhole)
    (x0 : Vec F S1x4x192x128 .fp8e4m3) (x1 : Vec F S1x4x192x128 .fp8e4m3) (x2 : Vec F S1x4x192x128 .f32) (x3 : Vec F S1x4x128x128 .bf16) (x4 : Vec F S1x4x16x128 .f32) (x5 : Vec F S128x256 .bf16) (x6 : Vec F S1x4x192x128 .f32) (xo8 : Vec F S1x4x192x128 .f32)

/-- What head `j` loads, through the memrefs. -/
def rawIn (j : Fin 4) : In F where
  q := View.readAt (Elt F) arg3.view (rState j).toLoadRect (harg3.unread x0)
  k := View.readAt (Elt F) arg4.view (rState j).toLoadRect (harg4.unread x1)
  g := View.readAt (Elt F) arg5.view (rState j).toLoadRect (harg5.unread x2)
  tri := View.readAt (Elt F) arg8.view rTri.toLoadRect (harg8.unread x5)
  s := fun r => View.readAt (Elt F) arg7.view (rAux j ⟨r.val, by omega⟩).toLoadRect (harg7.unread x4)
  bcol := extractStridedSlice S128x1 ![0, j.val]
    (betaCols (View.readAt (Elt F) arg7.view (rAux 0 12).toLoadRect (harg7.unread x4))
      (View.readAt (Elt F) arg7.view (rAux 1 12).toLoadRect (harg7.unread x4))
      (View.readAt (Elt F) arg7.view (rAux 2 12).toLoadRect (harg7.unread x4))
      (View.readAt (Elt F) arg7.view (rAux 3 12).toLoadRect (harg7.unread x4))) (slicesCol j)
  brow := View.readAt (Elt F) arg7.view (rAux j 12).toLoadRect (harg7.unread x4)
  v0 := View.readAt (Elt F) arg6.view (rVal j 0).toLoadRect (harg6.unread x3)
  v1 := View.readAt (Elt F) arg6.view (rVal j 1).toLoadRect (harg6.unread x3)

/-- The state head `j` loads first, in a step that is not the first of its head group. -/
def firstB (j : Fin 4) : Vec F S1x1x192x128 .f32 := View.readAt (Elt F) arg11.view (rState j).toLoadRect (harg11.unread xo8)

abbrev inJ (j : Fin 4) : In F := rawIn arg3 harg3 arg4 harg4 arg5 harg5 arg6 harg6 arg7 harg7 arg8 harg8 x0 x1 x2 x3 x4 x5 j

/-- One head's two states, put before the states stored already; `first` is the state it starts from. -/
def addHead (h : In F) (j : Fin 4) (first : Vec F S1x1x192x128 .f32) (L : List (View.Piece (Elt F) S1x4x192x128 .f32)) :
    List (View.Piece (Elt F) S1x4x192x128 .f32) :=
  ⟨rState j, h.sb (arg11.view.readCov (⟨rState j, h.sa first⟩ :: L) (rState j).toLoadRect)⟩ :: ⟨rState j, h.sa first⟩ :: L

/-- The states stored by the first `j` heads, the first loads given by `first`. -/
def stores (h : Fin 4 → In F) (first : Fin 4 → List (View.Piece (Elt F) S1x4x192x128 .f32) → Vec F S1x1x192x128 .f32)
    (L0 : List (View.Piece (Elt F) S1x4x192x128 .f32)) : List (View.Piece (Elt F) S1x4x192x128 .f32) :=
  let L1 := addHead arg11 (h 0) 0 (first 0 L0) L0
  let L2 := addHead arg11 (h 1) 1 (first 1 L1) L1
  let L3 := addHead arg11 (h 2) 2 (first 2 L2) L2
  addHead arg11 (h 3) 3 (first 3 L3) L3

/-- One head's two output blocks, put before the blocks stored already. -/
def addOut (h : In F) (j : Fin 4) (first : Vec F S1x1x192x128 .f32) (L : List (View.Piece (Elt F) S1x4x192x128 .f32))
    (O : List (View.Piece (Elt F) S1x128x512 .bf16)) : List (View.Piece (Elt F) S1x128x512 .bf16) :=
  ⟨rOut j 1, h.ob (arg11.view.readCov (⟨rState j, h.sa first⟩ :: L) (rState j).toLoadRect)⟩ :: ⟨rOut j 0, h.oa first⟩ :: O

/-- The output blocks stored by the four heads. -/
def outs (h : Fin 4 → In F) (first : Fin 4 → List (View.Piece (Elt F) S1x4x192x128 .f32) → Vec F S1x1x192x128 .f32)
    (L0 : List (View.Piece (Elt F) S1x4x192x128 .f32)) : List (View.Piece (Elt F) S1x128x512 .bf16) :=
  let L1 := addHead arg11 (h 0) 0 (first 0 L0) L0
  let L2 := addHead arg11 (h 1) 1 (first 1 L1) L1
  let L3 := addHead arg11 (h 2) 2 (first 2 L2) L2
  addOut arg11 (h 3) 3 (first 3 L3) L3 <| addOut arg11 (h 2) 2 (first 2 L2) L2 <|
    addOut arg11 (h 1) 1 (first 1 L1) L1 <| addOut arg11 (h 0) 0 (first 0 L0) L0 []

/-- In the first step of a head group the states are those of the launch's argument, stored whole before the first head. -/
def whole0 : List (View.Piece (Elt F) S1x4x192x128 .f32) :=
  [⟨rWhole, View.readAt (Elt F) arg9.view rWhole.toLoadRect (harg9.unread x6)⟩]

theorem whole0_eq : kernelRun0_A.sl.H8_1 c arg9 harg9 x6 = whole0 arg9 harg9 x6 := by sl_kernel_rfl

theorem states_B (hc0 : ¬cond0_0 i) : (kernelRun0_B c i arg3 harg3 arg4 harg4 arg5 harg5 arg6 harg6 arg7 harg7 arg8 harg8 arg9 harg9 arg10 harg10 arg11 harg11 hc0 x0 x1 x2 x3 x4 x5 x6 xo8).2.1
    = stores arg11 (inJ arg3 harg3 arg4 harg4 arg5 harg5 arg6 harg6 arg7 harg7 arg8 harg8 x0 x1 x2 x3 x4 x5) (fun j _ => firstB arg11 harg11 xo8 j) [] := by sl_kernel_rfl

theorem outs_B (hc0 : ¬cond0_0 i) : (kernelRun0_B c i arg3 harg3 arg4 harg4 arg5 harg5 arg6 harg6 arg7 harg7 arg8 harg8 arg9 harg9 arg10 harg10 arg11 harg11 hc0 x0 x1 x2 x3 x4 x5 x6 xo8).1
    = outs arg11 (inJ arg3 harg3 arg4 harg4 arg5 harg5 arg6 harg6 arg7 harg7 arg8 harg8 x0 x1 x2 x3 x4 x5) (fun j _ => firstB arg11 harg11 xo8 j) [] := by sl_kernel_rfl

theorem states_A (hc0 : cond0_0 i) : (kernelRun0_A c i arg3 harg3 arg4 harg4 arg5 harg5 arg6 harg6 arg7 harg7 arg8 harg8 arg9 harg9 arg10 harg10 arg11 harg11 hc0 x0 x1 x2 x3 x4 x5 x6).2.1
    = stores arg11 (inJ arg3 harg3 arg4 harg4 arg5 harg5 arg6 harg6 arg7 harg7 arg8 harg8 x0 x1 x2 x3 x4 x5) (fun j L => arg11.view.readCov L (rState j).toLoadRect) (whole0 arg9 harg9 x6) := by sl_kernel_rfl

theorem outs_A (hc0 : cond0_0 i) : (kernelRun0_A c i arg3 harg3 arg4 harg4 arg5 harg5 arg6 harg6 arg7 harg7 arg8 harg8 arg9 harg9 arg10 harg10 arg11 harg11 hc0 x0 x1 x2 x3 x4 x5 x6).1
    = outs arg11 (inJ arg3 harg3 arg4 harg4 arg5 harg5 arg6 harg6 arg7 harg7 arg8 harg8 x0 x1 x2 x3 x4 x5) (fun j L => arg11.view.readCov L (rState j).toLoadRect) (whole0 arg9 harg9 x6) := by sl_kernel_rfl
end

end Cert.KernelIdeal.Pieces

end
-- ==== Proof.RealMat.lean ====
/-  Matrices of reals among matrices of extended reals, and what the kernel's vector operations make of them: at the ideal
    instance every operation on matrices of reals gives the matrix of reals that the operation names. -/
module

public import proofs.«01_k».proof.Proof.Head
public import Idealize.ShloMosaic.Lib.MatmulPlain
public import Idealize.ShloMosaic.Lib.ValueIdx
public import Idealize.ShloMosaic.Lib.Pipeline.Value

@[expose] public section

set_option maxRecDepth 16384

noncomputable section

namespace Cert.KernelIdeal.RealMat

open Idealize.ShloMosaic Idealize.ShloMosaic.ValueIdx
open Finset

/-- A matrix shape. -/
abbrev Sh (n m : ℕ) : Shape := ⟨2, ![n, m]⟩

/-- The matrix of reals `X`, of `n` rows and `m` columns, as extended reals. -/
def cm (n m : ℕ) (X : ℕ → ℕ → ℝ) : (Sh n m).Idx → EReal := fun ix => ((X (ix 0).val (ix 1).val : ℝ) : EReal)

variable {n m n' m' k : ℕ} {X Y : ℕ → ℕ → ℝ}

theorem cm_congr (h : ∀ i j, i < n → j < m → X i j = Y i j) : cm n m X = cm n m Y :=
  funext fun ix => congrArg _ (h _ _ (ix 0).isLt (ix 1).isLt)

theorem cm_inj (h : cm n m X = cm n m Y) {i j : ℕ} (hi : i < n) (hj : j < m) : X i j = Y i j :=
  EReal.coe_injective (congrFun h (ix2 ⟨i, hi⟩ ⟨j, hj⟩))

/-! ## Entrywise operations -/

theorem truncf_cm (φ φ' : FTy) (h : φ.bits < φ'.bits) : truncf (F := Ideal) (s := Sh n m) (φ := φ') φ (cm n m X) h = cm n m X := rfl
theorem extf_cm (φ φ' : FTy) (h : φ.bits < φ'.bits) : extf (F := Ideal) (s := Sh n m) (φ := φ) φ' (cm n m X) h = cm n m X := rfl
theorem addf_cm (φ : FTy) : addf (F := Ideal) (s := Sh n m) (φ := φ) (cm n m X) (cm n m Y) = cm n m (fun i j => X i j + Y i j) :=
  funext fun _ => (EReal.coe_add _ _).symm
theorem subf_cm (φ : FTy) : subf (F := Ideal) (s := Sh n m) (φ := φ) (cm n m X) (cm n m Y) = cm n m (fun i j => X i j - Y i j) :=
  funext fun _ => (EReal.coe_sub _ _).symm
theorem mulf_cm (φ : FTy) : mulf (F := Ideal) (s := Sh n m) (φ := φ) (cm n m X) (cm n m Y) = cm n m (fun i j => X i j * Y i j) :=
  funext fun _ => (EReal.coe_mul _ _).symm
theorem exp_cm (φ : FTy) : exp (F := Ideal) (s := Sh n m) (φ := φ) (cm n m X) = cm n m (fun i j => Real.exp (X i j)) := by
  funext ix
  simp [cm, exp]
theorem hi3_cm : Head.hi3 (F := Ideal) (s := Sh n m) (cm n m X) = cm n m X := rfl
theorem rest3_cm : Head.rest3 (F := Ideal) (s := Sh n m) (cm n m X) = cm n m (fun _ _ => 0) := by
  show subf (F := Ideal) (s := Sh n m) (φ := .f32) (cm n m X) (cm n m X) = _
  rw [subf_cm]; exact cm_congr fun i j _ _ => sub_self _
theorem mid3_cm : Head.mid3 (F := Ideal) (s := Sh n m) (cm n m X) = cm n m (fun _ _ => 0) := rest3_cm
theorem lo3_cm : Head.lo3 (F := Ideal) (s := Sh n m) (cm n m X) = cm n m (fun _ _ => 0) := by
  show subf (F := Ideal) (s := Sh n m) (φ := .f32) (Head.rest3 (F := Ideal) (s := Sh n m) (cm n m X)) (Head.rest3 (F := Ideal) (s := Sh n m) (cm n m X)) = _
  rw [rest3_cm, subf_cm]; exact cm_congr fun i j _ _ => sub_self _

/-! ## Constants -/

theorem ofBits_zero_f32 : FloatOps.ofBits (F := Ideal) .f32 (0x00000000#32) = ((0 : ℝ) : EReal) := by
  simp
theorem ofBits_zero_bf16 : FloatOps.ofBits (F := Ideal) .bf16 (0x0000#16) = ((0 : ℝ) : EReal) := by
  simp [Ideal.ofBits, Ideal.ieee]
theorem zeroF32 : constant (F := Ideal) (Sh n m) .f32 (0x00000000#32) = cm n m (fun _ _ => 0) :=
  funext fun _ => ofBits_zero_f32
theorem zeroBF16 : constant (F := Ideal) (Sh n m) .bf16 (0x0000#16) = cm n m (fun _ _ => 0) :=
  funext fun _ => ofBits_zero_bf16
theorem bzeroF32 : (broadcast (Sh n m) (Scalar.ofBits (F := Ideal) .f32 (0x00000000#32)) : FVec Ideal (Sh n m) .f32) = cm n m (fun _ _ => 0) :=
  funext fun _ => ofBits_zero_f32
theorem bzeroBF16 : (broadcast (Sh n m) (Scalar.ofBits (F := Ideal) .bf16 (0x0000#16)) : FVec Ideal (Sh n m) .bf16) = cm n m (fun _ _ => 0) :=
  funext fun _ => ofBits_zero_bf16

/-! ## Moving entries -/

theorem slice_cm (o p : ℕ) (h : (Sh n m).Slices ![o, p] (Sh n' m')) :
    extractStridedSlice (Sh n' m') ![o, p] (cm n m X) h = cm n' m' (fun i j => X (o + i) (p + j)) := rfl

theorem transpose_cm (h : (Sh n m).Transposes [1, 0] (Sh m n)) :
    transpose (Sh m n) [1, 0] (cm n m X) h = cm m n (fun i j => X j i) := by
  funext ix
  rfl

theorem rows_cm (h : (Sh 1 m).Broadcasts (Sh n m)) :
    broadcastTo (Sh n m) (cm 1 m X) h = cm n m (fun _ j => X 0 j) := by
  funext ix
  by_cases hm : m = 1
  · subst hm
    rw [broadcastTo_apply _ h ix (ix2 0 0) (by intro a; fin_cases a <;> rfl)]
    have : (ix 1).val = 0 := by have := (ix 1).isLt; simp at this; omega
    simp [cm, this]
  · rw [broadcastTo_apply _ h ix (ix2 0 (ix 1)) (by
      intro a; fin_cases a
      · rfl
      · show (ix 1).val = if m = 1 then 0 else _
        rw [if_neg hm]; rfl)]
    rfl

theorem cols_cm (h : (Sh n 1).Broadcasts (Sh n m)) :
    broadcastTo (Sh n m) (cm n 1 X) h = cm n m (fun i _ => X i 0) := by
  funext ix
  by_cases hm : n = 1
  · subst hm
    rw [broadcastTo_apply _ h ix (ix2 0 0) (by intro a; fin_cases a <;> rfl)]
    have : (ix 0).val = 0 := by have := (ix 0).isLt; simp at this; omega
    simp [cm, this]
  · rw [broadcastTo_apply _ h ix (ix2 (ix 0) 0) (by
      intro a; fin_cases a
      · show (ix 0).val = if n = 1 then 0 else _
        rw [if_neg hm]; rfl
      · rfl)]
    rfl

/-- A matrix with two leading unit axes. -/
def cm4 (n m : ℕ) (X : ℕ → ℕ → ℝ) : (⟨4, ![1, 1, n, m]⟩ : Shape).Idx → EReal := fun ix => ((X (ix 2).val (ix 3).val : ℝ) : EReal)
/-- A matrix with a leading unit axis. -/
def cm3 (n m : ℕ) (X : ℕ → ℕ → ℝ) : (⟨3, ![1, n, m]⟩ : Shape).Idx → EReal := fun ix => ((X (ix 1).val (ix 2).val : ℝ) : EReal)

theorem cm4_congr (h : ∀ i j, i < n → j < m → X i j = Y i j) : cm4 n m X = cm4 n m Y :=
  funext fun ix => congrArg _ (h _ _ (ix 2).isLt (ix 3).isLt)

theorem drop4_cm (h : (⟨4, ![1, 1, n, m]⟩ : Shape).ShapeCasts (Sh n m)) : shapeCast (Sh n m) (cm4 n m X) h = cm n m X := by
  funext ix
  rw [shapeCast_apply (cm4 n m X) h ix (ix4 0 0 (ix 0) (ix 1)) (by
    rw [Shape.rowMajor_val_four, Shape.rowMajor_val_two]
    show ((0 * 1 + 0) * n + (ix 0).val) * m + (ix 1).val = (ix 0).val * m + (ix 1).val
    simp)]
  rfl
theorem add4_cm (h : (Sh n m).ShapeCasts (⟨4, ![1, 1, n, m]⟩ : Shape)) : shapeCast (⟨4, ![1, 1, n, m]⟩ : Shape) (cm n m X) h = cm4 n m X := by
  funext ix
  have h0 : (ix 0).val = 0 := by have := (ix 0).isLt; simp at this; omega
  have h1 : (ix 1).val = 0 := by have := (ix 1).isLt; simp at this; omega
  rw [shapeCast_apply (cm n m X) h ix (ix2 (ix 2) (ix 3)) (by
    rw [Shape.rowMajor_val_four, Shape.rowMajor_val_two]
    simp only [h0, h1]
    show (ix 2).val * m + (ix 3).val = ((0 * 1 + 0) * n + (ix 2).val) * m + (ix 3).val
    simp)]
  rfl
theorem add3_cm (h : (Sh n m).ShapeCasts (⟨3, ![1, n, m]⟩ : Shape)) : shapeCast (⟨3, ![1, n, m]⟩ : Shape) (cm n m X) h = cm3 n m X := by
  funext ix
  have h0 : (ix 0).val = 0 := by have := (ix 0).isLt; simp at this; omega
  rw [shapeCast_apply (cm n m X) h ix (ix2 (ix 1) (ix 2)) (by
    rw [Shape.rowMajor_val_three, Shape.rowMajor_val_two]
    simp only [h0]
    show (ix 1).val * m + (ix 2).val = (0 * n + (ix 1).val) * m + (ix 2).val
    simp)]
  rfl

/-! ## Putting together -/

/-- Matrices one under the other, each with its number of rows. -/
def under : List (ℕ × (ℕ → ℕ → ℝ)) → ℕ → ℕ → ℝ
  | [], _, _ => 0
  | (n, X) :: l, i, j => if i < n then X i j else under l (i - n) j
/-- Matrices side by side, each with its number of columns. -/
def beside : List (ℕ × (ℕ → ℕ → ℝ)) → ℕ → ℕ → ℝ
  | [], _, _ => 0
  | (m, X) :: l, i, j => if j < m then X i j else beside l i (j - m)

/-- The operands of a concatenation along the rows. -/
def rowsL (m : ℕ) (l : List (ℕ × (ℕ → ℕ → ℝ))) : List ((s : Shape) × (s.Idx → EReal)) := l.map fun p => ⟨Sh p.1 m, cm p.1 m p.2⟩
/-- The operands of a concatenation along the columns. -/
def colsL (n : ℕ) (l : List (ℕ × (ℕ → ℕ → ℝ))) : List ((s : Shape) × (s.Idx → EReal)) := l.map fun p => ⟨Sh n p.1, cm n p.1 p.2⟩

theorem under_split : ∀ (l : List (ℕ × (ℕ → ℕ → ℝ))) (i : ℕ), i < (l.map (·.1)).sum →
    ∃ (k : ℕ) (hk : k < l.length), ((l.take k).map (·.1)).sum ≤ i ∧ i < ((l.take k).map (·.1)).sum + l[k].1 ∧
      (∀ j, under l i j = l[k].2 (i - ((l.take k).map (·.1)).sum) j) ∧
      (∀ j, beside l j i = l[k].2 j (i - ((l.take k).map (·.1)).sum))
  | [], i, h => by simp at h
  | (n, X) :: l, i, h => by
    by_cases hi : i < n
    · exact ⟨0, by simp, by simp, by simpa using hi, fun j => by simp [under, hi], fun j => by simp [beside, hi]⟩
    · obtain ⟨k, hk, h1, h2, h3, h4⟩ := under_split l (i - n) (by simp at h; omega)
      refine ⟨k + 1, by simpa using hk, ?_, ?_, ?_, ?_⟩
      · simp only [List.take_succ_cons, List.map_cons, List.sum_cons]; omega
      · simp only [List.take_succ_cons, List.map_cons, List.sum_cons, List.getElem_cons_succ]; omega
      · intro j; simp [under, hi, h3, Nat.sub_sub]
      · intro j; simp [beside, hi, h4, Nat.sub_sub]

theorem under_cm (l : List (ℕ × (ℕ → ℕ → ℝ))) (h : Shape.Concatenates ((rowsL m l).map (·.1)) (Sh n m) 0) :
    concatenate (Sh n m) 0 (rowsL m l) h = cm n m (under l) := by
  have key : ∀ l' : List (ℕ × (ℕ → ℕ → ℝ)), (((rowsL m l').map (·.1)).map fun s => if h : s.rank = (Sh n m).rank then s.size ((0 : Fin (Sh n m).rank).cast h.symm) else 0).sum = (l'.map (·.1)).sum := by
    intro l'; induction l' with
    | nil => rfl
    | cons p l' ih => simp only [rowsL, List.map_cons, List.sum_cons] at ih ⊢; rw [ih]; rfl
  funext ix
  have hs : (l.map (·.1)).sum = n := (key l).symm.trans h.2.2
  obtain ⟨k, hk, h1, h2, h3, -⟩ := under_split l (ix 0).val (by rw [hs]; exact (ix 0).isLt)
  refine (concatenate_apply_piece (t := Sh n m) 0 (rowsL m l) h ix k (by simpa [rowsL] using hk) (Sh l[k].1 m) (cm l[k].1 m l[k].2)
    (by simp [rowsL]) rfl (((l.take k).map (·.1)).sum) (by
      have := key (l.take k)
      simpa [rowsL, List.map_take] using this) (ix2 ⟨(ix 0).val - ((l.take k).map (·.1)).sum, by omega⟩ (ix 1)) ?_ ?_).trans ?_
  · intro b hb
    fin_cases b
    · exact absurd rfl hb
    · rfl
  · show _ + ((ix 0).val - _) = (ix 0).val; omega
  · simp only [cm]; rw [h3]; rfl

theorem beside_cm (l : List (ℕ × (ℕ → ℕ → ℝ))) (h : Shape.Concatenates ((colsL n l).map (·.1)) (Sh n m) 1) :
    concatenate (Sh n m) 1 (colsL n l) h = cm n m (beside l) := by
  have key : ∀ l' : List (ℕ × (ℕ → ℕ → ℝ)), (((colsL n l').map (·.1)).map fun s => if h : s.rank = (Sh n m).rank then s.size ((1 : Fin (Sh n m).rank).cast h.symm) else 0).sum = (l'.map (·.1)).sum := by
    intro l'; induction l' with
    | nil => rfl
    | cons p l' ih => simp only [colsL, List.map_cons, List.sum_cons] at ih ⊢; rw [ih]; rfl
  funext ix
  have hs : (l.map (·.1)).sum = m := (key l).symm.trans h.2.2
  obtain ⟨k, hk, h1, h2, -, h3⟩ := under_split l (ix 1).val (by rw [hs]; exact (ix 1).isLt)
  refine (concatenate_apply_piece (t := Sh n m) 1 (colsL n l) h ix k (by simpa [colsL] using hk) (Sh n l[k].1) (cm n l[k].1 l[k].2)
    (by simp [colsL]) rfl (((l.take k).map (·.1)).sum) (by
      have := key (l.take k)
      simpa [colsL, List.map_take] using this) (ix2 (ix 0) ⟨(ix 1).val - ((l.take k).map (·.1)).sum, by omega⟩) ?_ ?_).trans ?_
  · intro b hb
    fin_cases b
    · rfl
    · exact absurd rfl hb
  · show _ + ((ix 1).val - _) = (ix 1).val; omega
  · simp only [cm]; rw [h3]; rfl

/-! ## Products -/

theorem coe_sum (K : ℕ) (f : ℕ → ℝ) : ((∑ x ∈ range K, f x : ℝ) : EReal) = ∑ x : Fin K, ((f x.val : ℝ) : EReal) := by
  rw [Finset.sum_range]
  exact map_sum (⟨⟨Real.toEReal, EReal.coe_zero⟩, EReal.coe_add⟩ : ℝ →+ EReal) _ _

theorem matmul_cm (φ φ' : FTy) (p : Option ContractPrecision) :
    matmul (F := Ideal) (φ₁ := φ) (φ₂ := φ') (DotDims.plain n k m) p (cm n k X) (cm k m Y) (constant (F := Ideal) (Sh n m) .f32 (0x00000000#32))
      = cm n m (fun i j => ∑ x ∈ range k, X i x * Y x j) := by
  funext ix
  rw [eq_ix2 ix]
  refine (Ideal.matmul_plain_apply p _ _ _ (ix 0) (ix 1)).trans ?_
  show FloatOps.ofBits (F := Ideal) .f32 (0x00000000#32) + _ = ((∑ x ∈ range k, X (ix 0).val x * Y x (ix 1).val : ℝ) : EReal)
  rw [ofBits_zero_f32, EReal.coe_zero, zero_add, coe_sum]
  exact Finset.sum_congr rfl fun x _ => (EReal.coe_mul _ _).symm

/-! ## Selections -/

theorem select_cm (c : IVec (Sh n m) 1) (p : ℕ → ℕ → Prop) [∀ i j, Decidable (p i j)]
    (hc : ∀ ix, c ix = if p (ix 0).val (ix 1).val then 1#1 else 0#1) :
    select c (cm n m X) (cm n m Y) = cm n m (fun i j => if p i j then X i j else Y i j) := by
  funext ix
  show Scalar.select (c ix) _ _ = _
  rw [hc ix]
  simp only [cm]
  by_cases h : p (ix 0).val (ix 1).val
  · rw [if_pos h, if_pos h]; rfl
  · rw [if_neg h, if_neg h]; rfl

/-! ## Pairs of rows and turned lanes -/

theorem parity_cm (p : Fin 2) (h : (Sh n m).Bitcasts 16 (Sh n' m) 32) :
    rowsOfParity p (Sh n' m) (cm n m X) h = cm n' m (fun i j => X (2 * i + p.val) j) := rfl

theorem interleave_cm (h : (Sh n m).Bitcasts 16 (Sh n' m) 32) :
    interleaveRows (Sh n m) (cm n' m X) (cm n' m Y) h = cm n m (fun i j => if i % 2 = 0 then X (i / 2) j else Y (i / 2) j) := by
  funext ix
  by_cases e : (ix 0).val % 2 = 0
  · refine (if_pos (show (Sh n m).row ix % 2 = 0 from e)).trans ?_
    simp only [cm, e, if_true]; rfl
  · refine (if_neg (show ¬(Sh n m).row ix % 2 = 0 from e)).trans ?_
    simp only [cm, e, if_false]; rfl

theorem rotate_zero (b : BitVec 32) (h : (Sh n m).Rotates 1 none) :
    dynamicRotate 1 b none (cm n m (fun _ _ => 0)) h = cm n m (fun _ _ => 0) := rfl

theorem gather_cm (idx : IVec (Sh n m) 32) (f : ℕ → ℕ) (hf : ∀ ix, (idx ix).toNat = f (ix 1).val) (hlt : ∀ l < m, f l < m) :
    dynamicGather (s := Sh n m) 1 (cm n m X) idx = cm n m (fun i j => X i (f j)) := by
  funext ix
  show cm n m X _ = _
  simp only [cm]
  have e : (idx ix).toNat % m = f (ix 1).val := by rw [hf, Nat.mod_eq_of_lt (hlt _ (ix 1).isLt)]
  congr 1
  show X (ix 0).val ((idx ix).toNat % m) = _
  rw [e]

end Cert.KernelIdeal.RealMat

end
-- ==== Proof.Masks.lean ====
/-  What the kernel's masks and lane indices are, lane by lane and row by row (decided over all lanes and rows). -/
module

public import proofs.«01_k».proof.Proof.RealMat

@[expose] public section

set_option maxRecDepth 16384

noncomputable section

namespace Cert.KernelIdeal.Masks

open Idealize.ShloMosaic Idealize.ShloMosaic.ValueIdx Cert.KernelIdeal Cert.KernelIdeal.Gen Cert.KernelIdeal.Head Cert.KernelIdeal.RealMat

theorem lowLanes_eq (ix : (Sh 64 128).Idx) : lowLanes ix = if (ix 1).val < 64 then 1#1 else 0#1 :=
  (by decide +kernel : ∀ l : Fin 128, Scalar.cmpi .slt (BitVec.ofNat 32 (0 * 128 + l.val)) 64#32 = if l.val < 64 then 1#1 else 0#1) (ix 1)

theorem lowLanes32_eq (ix : (Sh 32 128).Idx) : lowLanes32 ix = if (ix 1).val < 64 then 1#1 else 0#1 :=
  (by decide +kernel : ∀ l : Fin 128, Scalar.cmpi .slt (BitVec.ofNat 32 (0 * 128 + (0 + l.val))) 64#32 = if l.val < 64 then 1#1 else 0#1) (ix 1)

theorem low96_eq (ix : (Sh 96 128).Idx) : low96 ix = if (ix 1).val < 64 then 1#1 else 0#1 :=
  (by decide +kernel : ∀ l : Fin 128, Scalar.cmpi .slt (BitVec.ofNat 32 (0 * 128 + l.val)) 64#32 = if l.val < 64 then 1#1 else 0#1) (ix 1)

theorem strict_all : ∀ (r : Fin 64) (l : Fin 128),
    Scalar.cmpi .slt (Scalar.andi (BitVec.ofNat 32 (0 * 128 + l.val)) 63#32) (BitVec.ofNat 32 (0 * 64 + r.val)) = if l.val % 64 < r.val then 1#1 else 0#1 := by
  decide +kernel
theorem strictMask_eq (ix : (Sh 64 128).Idx) : strictMask ix = if (ix 1).val % 64 < (ix 0).val then 1#1 else 0#1 := strict_all (ix 0) (ix 1)

theorem incl_all : ∀ (r : Fin 64) (l : Fin 128),
    Scalar.cmpi .sle (Scalar.andi (BitVec.ofNat 32 (0 * 128 + l.val)) 63#32) (BitVec.ofNat 32 (0 * 64 + r.val)) = if l.val % 64 ≤ r.val then 1#1 else 0#1 := by
  decide +kernel
theorem inclMask_eq (ix : (Sh 64 128).Idx) : inclMask ix = if (ix 1).val % 64 ≤ (ix 0).val then 1#1 else 0#1 := incl_all (ix 0) (ix 1)

theorem firstHalf_eq (ix : (Sh 32 128).Idx) : firstHalf ix = if (ix 1).val % 64 < 32 then 1#1 else 0#1 :=
  (by decide +kernel : ∀ l : Fin 128, Scalar.cmpi .eq (Scalar.andi (BitVec.ofNat 32 (0 * 128 + (0 + l.val))) 32#32) 0#32 = if l.val % 64 < 32 then 1#1 else 0#1) (ix 1)

theorem groupMask_eq (g : Fin 4) (ix : (Sh 32 128).Idx) :
    groupMask (BitVec.ofNat 32 g.val) ix = if (ix 1).val / 32 = g.val then 1#1 else 0#1 :=
  (by decide +kernel : ∀ (g : Fin 4) (l : Fin 128), Scalar.cmpi .eq (Scalar.shrsi (BitVec.ofNat 32 (0 * 128 + (0 + l.val))) 5#32) (BitVec.ofNat 32 g.val) = if l.val / 32 = g.val then 1#1 else 0#1) g (ix 1)

theorem eye_all : ∀ (r : Fin 32) (l : Fin 128),
    (Scalar.extui (Scalar.cmpi .eq (Scalar.andi (BitVec.ofNat 32 (0 * 128 + (0 + l.val))) 31#32) (BitVec.ofNat 32 (0 * 64 + (0 + r.val))))).toInt
      = if l.val % 32 = r.val then 1 else 0 := by decide +kernel

theorem eye32_eq : eye32 (F := Ideal) = cm 32 128 (fun r l => if l % 32 = r then 1 else 0) := by
  funext ix
  have h := eye_all (ix 0) (ix 1)
  show ((((Scalar.extui (Scalar.cmpi .eq (Scalar.andi (BitVec.ofNat 32 (0 * 128 + (0 + (ix 1).val))) 31#32) (BitVec.ofNat 32 (0 * 64 + (0 + (ix 0).val))))).toInt : ℤ) : ℝ) : EReal) = _
  rw [h]
  simp only [cm]
  split_ifs <;> simp

theorem col_all : ∀ (c : Fin 32) (l : Fin 128),
    (Scalar.select (Scalar.cmpi .slt (Scalar.addi (Scalar.andi (BitVec.ofNat 32 (0 * 128 + (0 + l.val))) 4294967264#32) (BitVec.ofNat 32 c.val)) 0#32)
      (Scalar.addi (Scalar.addi (Scalar.andi (BitVec.ofNat 32 (0 * 128 + (0 + l.val))) 4294967264#32) (BitVec.ofNat 32 c.val)) 128#32)
      (Scalar.addi (Scalar.andi (BitVec.ofNat 32 (0 * 128 + (0 + l.val))) 4294967264#32) (BitVec.ofNat 32 c.val))).toNat
      = 32 * (l.val / 32) + c.val := by decide +kernel

theorem colIdx_eq (c : ℕ) (hc : c < 32) (ix : (Sh 8 128).Idx) :
    (colIdx (BitVec.ofNat 32 c) ix).toNat = 32 * ((ix 1).val / 32) + c := by
  unfold colIdx
  rw [shapeCast_shapeCast]
  exact col_all ⟨c, hc⟩ (ix 1)

end Cert.KernelIdeal.Masks

end
-- ==== Proof.Stages.lean ====
/-  The stages of one head on matrices of reals: what each of them computes. -/
module

public import proofs.«01_k».proof.Proof.Masks

@[expose] public section

set_option maxRecDepth 16384

noncomputable section

namespace Cert.KernelIdeal.Stages

open Idealize.ShloMosaic Idealize.ShloMosaic.ValueIdx Cert.KernelIdeal Cert.KernelIdeal.Gen Cert.KernelIdeal.Head Cert.KernelIdeal.RealMat
open Cert.KernelIdeal.Masks
open Finset

/-! ## A product of stacked operands is the sum of the products of their parts -/

/-- Operands side by side against operands one under the other. -/
def dotL : List (ℕ × (ℕ → ℕ → ℝ) × (ℕ → ℕ → ℝ)) → ℕ → ℕ → ℝ
  | [], _, _ => 0
  | (n, X, Y) :: l, i, j => (∑ x ∈ range n, X i x * Y x j) + dotL l i j

theorem dotL_eq : ∀ (l : List (ℕ × (ℕ → ℕ → ℝ) × (ℕ → ℕ → ℝ))) (i j : ℕ),
    ∑ x ∈ range (l.map (·.1)).sum, beside (l.map fun p => (p.1, p.2.1)) i x * under (l.map fun p => (p.1, p.2.2)) x j = dotL l i j
  | [], i, j => by simp [dotL]
  | (n, X, Y) :: l, i, j => by
    rw [List.map_cons, List.sum_cons, Finset.sum_range_add, dotL, ← dotL_eq l i j]
    congr 1
    · refine Finset.sum_congr rfl fun x hx => ?_
      have hx := Finset.mem_range.mp hx
      simp [beside, under, hx]
    · refine Finset.sum_congr rfl fun x _ => ?_
      simp [beside, under]

/-- Two parts. -/
theorem dot2 (n₁ n₂ N : ℕ) (hN : n₁ + n₂ = N) (X₁ X₂ Y₁ Y₂ : ℕ → ℕ → ℝ) (i j : ℕ) :
    ∑ x ∈ range N, beside [(n₁, X₁), (n₂, X₂)] i x * under [(n₁, Y₁), (n₂, Y₂)] x j
      = (∑ x ∈ range n₁, X₁ i x * Y₁ x j) + ∑ x ∈ range n₂, X₂ i x * Y₂ x j := by
  have h := dotL_eq [(n₁, X₁, Y₁), (n₂, X₂, Y₂)] i j
  subst hN
  simpa [dotL] using h

/-- Four parts. -/
theorem dot4 (n N : ℕ) (hN : n + (n + (n + n)) = N) (X₁ X₂ X₃ X₄ Y₁ Y₂ Y₃ Y₄ : ℕ → ℕ → ℝ) (i j : ℕ) :
    ∑ x ∈ range N, beside [(n, X₁), (n, X₂), (n, X₃), (n, X₄)] i x * under [(n, Y₁), (n, Y₂), (n, Y₃), (n, Y₄)] x j
      = (∑ x ∈ range n, X₁ i x * Y₁ x j) + ((∑ x ∈ range n, X₂ i x * Y₂ x j)
        + ((∑ x ∈ range n, X₃ i x * Y₃ x j) + ∑ x ∈ range n, X₄ i x * Y₄ x j)) := by
  have h := dotL_eq [(n, X₁, Y₁), (n, X₂, Y₂), (n, X₃, Y₃), (n, X₄, Y₄)] i j
  subst hN
  simpa [dotL] using h

/-! ## Gates -/

theorem gateSums_cm (G T : ℕ → ℕ → ℝ) :
    gateSums (F := Ideal) (cm4 192 128 G) (cm 128 256 T) = cm 192 256 (fun d j => ∑ x ∈ range 128, G d x * T x j) := by
  unfold gateSums
  dsimp only
  rw [drop4_cm, shapeCast_self, hi3_cm, mid3_cm, lo3_cm]
  have e1 : concatenate S192x256 1 [⟨S192x128, cm 192 128 G⟩, ⟨S192x128, cm 192 128 fun _ _ => 0⟩] concatenates_S192x128_S192x128_S192x256_d1
      = cm 192 256 (beside [(128, G), (128, fun _ _ => 0)]) := beside_cm [(128, G), (128, fun _ _ => 0)] concatenates_S192x128_S192x128_S192x256_d1
  have e2 : concatenate S256x256 0 [⟨S128x256, cm 128 256 T⟩, ⟨S128x256, cm 128 256 T⟩] concatenates_S128x256_S128x256_S256x256_d0
      = cm 256 256 (under [(128, T), (128, T)]) := under_cm [(128, T), (128, T)] concatenates_S128x256_S128x256_S256x256_d0
  refine (congrArg₂ (addf (F := Ideal) (s := Sh 192 256) (φ := .f32)) ((congrArg₂ (fun a b => matmul (F := Ideal) (φ₁ := .bf16) (φ₂ := .bf16) (DotDims.plain 192 256 256) none a b
    (constant (F := Ideal) (Sh 192 256) .f32 (0x00000000#32))) e1 e2).trans (matmul_cm .bf16 .bf16 none)) (matmul_cm .bf16 .bf16 none)).trans ?_
  rw [addf_cm]
  refine cm_congr fun i j _ _ => ?_
  rw [dot2 128 128 256 rfl]
  simp

theorem ePos_cm (C : ℕ → ℕ → ℝ) : ePos (F := Ideal) (cm 192 256 C) = cm 192 128 (fun d t => Real.exp (C d t)) := by
  unfold ePos gateSum
  rw [slice_cm, exp_cm]
  exact cm_congr fun i j _ _ => by simp
theorem eNeg_cm (C : ℕ → ℕ → ℝ) : eNeg (F := Ideal) (cm 192 256 C) = cm 192 128 (fun d t => Real.exp (-C d t)) := by
  unfold eNeg gateSum
  rw [slice_cm, bzeroF32, subf_cm, exp_cm]
  refine (truncf_cm _ _ _).trans (cm_congr fun i j _ _ => by simp)
theorem eDec_cm (C : ℕ → ℕ → ℝ) : eDec (F := Ideal) (cm 192 256 C) = cm 192 128 (fun d t => Real.exp (C d (128 + t))) := by
  unfold eDec
  rw [slice_cm, exp_cm]
  refine (truncf_cm _ _ _).trans (cm_congr fun i j _ _ => by simp)

/-! ## Codes -/

theorem scaleRows_cm (s : ℕ → ℝ) : scaleRows (F := Ideal) (cm4 1 128 fun _ t => s t) = cm 32 128 (fun _ t => s t) := by
  unfold scaleRows
  rw [drop4_cm, shapeCast_self, rows_cm]
  rfl

theorem dequant_cm (C s : ℕ → ℕ → ℝ) :
    dequant (F := Ideal) (cm4 192 128 C) (cm4 1 128 fun _ t => s 0 t) (cm4 1 128 fun _ t => s 1 t) (cm4 1 128 fun _ t => s 2 t)
      (cm4 1 128 fun _ t => s 3 t) (cm4 1 128 fun _ t => s 4 t) (cm4 1 128 fun _ t => s 5 t)
      = cm 192 128 (fun d t => C d t * s (d / 32) t) := by
  unfold dequant
  dsimp only
  rw [drop4_cm]
  have e : extf (F := Ideal) (s := S192x128) (φ := .fp8e4m3) .bf16 (cm 192 128 C) bitsLt_fp8e4m3_bf16 = cm 192 128 C := rfl
  rw [e]
  rw [scaleRows_cm (s 0), scaleRows_cm (s 1), scaleRows_cm (s 2), scaleRows_cm (s 3), scaleRows_cm (s 4), scaleRows_cm (s 5)]
  rw [slice_cm, slice_cm, slice_cm, slice_cm, slice_cm, slice_cm, mulf_cm, mulf_cm, mulf_cm, mulf_cm, mulf_cm, mulf_cm]
  refine (under_cm [(32, fun i j => C (0 + i) (0 + j) * s 0 j), (32, fun i j => C (32 + i) (0 + j) * s 1 j),
    (32, fun i j => C (64 + i) (0 + j) * s 2 j), (32, fun i j => C (96 + i) (0 + j) * s 3 j),
    (32, fun i j => C (128 + i) (0 + j) * s 4 j), (32, fun i j => C (160 + i) (0 + j) * s 5 j)] _).trans ?_
  refine cm_congr fun i j hi hj => ?_
  simp only [under]
  split_ifs with h1 h2 h3 h4 h5 h6
  · rw [show i / 32 = 0 by omega]; simp
  · rw [show i / 32 = 1 by omega, show 32 + (i - 32) = i by omega]; simp
  · rw [show i / 32 = 2 by omega, show 64 + (i - 32 - 32) = i by omega]; simp
  · rw [show i / 32 = 3 by omega, show 96 + (i - 32 - 32 - 32) = i by omega]; simp
  · rw [show i / 32 = 4 by omega, show 128 + (i - 32 - 32 - 32 - 32) = i by omega]; simp
  · rw [show i / 32 = 5 by omega, show 160 + (i - 32 - 32 - 32 - 32 - 32) = i by omega]; simp
  · omega

/-! ## Queries and keys -/

theorem pq0_cm (Q K E : ℕ → ℕ → ℝ) :
    pq0 (F := Ideal) (cm 192 128 Q) (cm 192 128 K) (cm 192 128 E)
      = cm 128 192 (fun i d => if i < 64 then K d i * E d i else Q d (i - 64) * E d (i - 64)) := by
  unfold pq0
  rw [truncf_cm, mulf_cm, mulf_cm, transpose_cm, transpose_cm, slice_cm, slice_cm]
  refine (under_cm [(64, _), (64, _)] _).trans (cm_congr fun i j hi hj => ?_)
  simp only [under]
  split_ifs with h1 h2
  · simp
  · simp
  · omega

theorem pq1_cm (Q K E : ℕ → ℕ → ℝ) :
    pq1 (F := Ideal) (cm 192 128 Q) (cm 192 128 K) (cm 192 128 E)
      = cm 128 192 (fun i d => if i < 64 then K d (64 + i) * E d (64 + i) else Q d i * E d i) := by
  unfold pq1
  rw [truncf_cm, mulf_cm, mulf_cm, transpose_cm, transpose_cm, slice_cm, slice_cm]
  refine (under_cm [(64, _), (64, _)] _).trans (cm_congr fun i j hi hj => ?_)
  simp only [under]
  split_ifs with h1 h2
  · simp
  · rw [show 64 + (i - 64) = i by omega]; simp
  · omega

theorem dotPK_cm (P K : ℕ → ℕ → ℝ) :
    dotPK (F := Ideal) (cm 128 192 P) (cm 192 128 K) = cm 128 128 (fun i j => ∑ d ∈ range 192, P i d * K d j) :=
  matmul_cm .bf16 .bf16 none

theorem betaRows_cm (b : ℕ → ℝ) :
    betaRows (F := Ideal) (cm 128 1 fun i _ => b i) = cm 64 128 (fun i l => if l < 64 then b i else b (64 + i)) := by
  unfold betaRows
  dsimp only
  rw [shapeCast_self, cols_cm, slice_cm, slice_cm]
  refine (select_cm lowLanes (fun _ l => l < 64) lowLanes_eq).trans (cm_congr fun i j _ _ => by simp)

/-- The strictly lower triangular matrices side by side. -/
def akkR (b : ℕ → ℝ) (a0 a1 : ℕ → ℕ → ℝ) (t l : ℕ) : ℝ :=
  if l % 64 < t then (if l < 64 then b t * a0 t l else b (64 + t) * a1 t l) else 0

theorem akk_cm (b : ℕ → ℝ) (a0 a1 : ℕ → ℕ → ℝ) :
    akk (F := Ideal) (cm 128 1 fun i _ => b i) (cm 128 128 a0) (cm 128 128 a1) = cm 64 128 (akkR b a0 a1) := by
  unfold akk
  rw [betaRows_cm, slice_cm, slice_cm, bzeroF32]
  refine (congrArg (fun z => select strictMask (mulf (F := Ideal) (s := Sh 64 128) (φ := .f32) _ z) _) (select_cm lowLanes (fun _ l => l < 64) lowLanes_eq)).trans ?_
  rw [mulf_cm]
  refine (select_cm strictMask (fun t l => l % 64 < t) strictMask_eq).trans (cm_congr fun i j _ _ => ?_)
  simp only [akkR, Nat.zero_add]
  split_ifs <;> rfl

theorem aqk_cm (a0 a1 : ℕ → ℕ → ℝ) :
    aqk (F := Ideal) (cm 128 128 a0) (cm 128 128 a1)
      = cm 64 128 (fun t l => if l % 64 ≤ t then (if l < 64 then a0 (64 + t) l else a1 (64 + t) l) else 0) := by
  unfold aqk
  rw [slice_cm, slice_cm, bzeroF32]
  refine (congrArg (fun z => select inclMask z _) (select_cm lowLanes (fun _ l => l < 64) lowLanes_eq)).trans ?_
  refine (select_cm inclMask (fun t l => l % 64 ≤ t) inclMask_eq).trans (cm_congr fun i j _ _ => ?_)
  simp only [Nat.zero_add]

theorem diag_cm (A : ℕ → ℕ → ℝ) :
    Head.diag (F := Ideal) (cm 64 128 A) = cm 32 128 (fun r l => if l % 64 < 32 then A r l else A (32 + r) l) := by
  unfold Head.diag
  rw [slice_cm, slice_cm]
  refine (select_cm firstHalf (fun _ l => l % 64 < 32) firstHalf_eq).trans (cm_congr fun i j _ _ => ?_)
  simp only [Nat.zero_add]

/-! ## Substitution -/

/-- The solution with the first `c` columns eliminated. -/
def subR (D : ℕ → ℕ → ℝ) : ℕ → ℕ → ℕ → ℝ
  | 0, r, l => if l % 32 = r then 1 else 0
  | c + 1, r, l => if (c + 1) / 8 ≤ r / 8 then subR D c r l - D r (32 * (l / 32) + c) * subR D c c l else subR D c r l

theorem rows8_cm (X : ℕ → ℕ → ℝ) (i : Fin 4) : rows8 (F := Ideal) (cm 32 128 X) i = cm 8 128 (fun r l => X (8 * i.val + r) l) := by
  match i with
  | 0 => show extractStridedSlice (Sh 8 128) ![0, 0] (cm 32 128 X) slices_S32x128_o0_0_S8x128 = _
         rw [slice_cm]; exact cm_congr fun r l _ _ => by simp
  | 1 => show extractStridedSlice (Sh 8 128) ![8, 0] (cm 32 128 X) slices_S32x128_o8_0_S8x128 = _
         rw [slice_cm]; exact cm_congr fun r l _ _ => by simp
  | 2 => show extractStridedSlice (Sh 8 128) ![16, 0] (cm 32 128 X) slices_S32x128_o16_0_S8x128 = _
         rw [slice_cm]; exact cm_congr fun r l _ _ => by simp
  | 3 => show extractStridedSlice (Sh 8 128) ![24, 0] (cm 32 128 X) slices_S32x128_o24_0_S8x128 = _
         rw [slice_cm]; exact cm_congr fun r l _ _ => by simp

theorem xRow_cm (X : ℕ → ℕ → ℝ) (c : ℕ) : xRow (F := Ideal) (cm 8 128 X) c = cm 8 128 (fun _ l => X (c % 8) l) := by
  unfold xRow
  rw [slice_cm, shapeCast_self, rows_cm]
  exact cm_congr fun i j _ _ => by simp

theorem subN_cm (D : ℕ → ℕ → ℝ) : ∀ (c : ℕ) (_ : c ≤ 31) (i : Fin 4),
    subN (F := Ideal) (rows8 (cm 32 128 D)) (rows8 eye32) c i = cm 8 128 (fun r l => subR D c (8 * i.val + r) l)
  | 0, _, i => by
    show rows8 (F := Ideal) eye32 i = _
    rw [eye32_eq, rows8_cm]; rfl
  | c + 1, hc, i => by
    show subStep (F := Ideal) (rows8 (F := Ideal) (cm 32 128 D)) c (subN (F := Ideal) (rows8 (F := Ideal) (cm 32 128 D)) (rows8 eye32) c) i = _
    unfold subStep
    have e : ((⟨c / 8 % 4, Nat.mod_lt _ (by decide)⟩ : Fin 4)).val = c / 8 := by show c / 8 % 4 = c / 8; omega
    split_ifs with h
    · rw [subN_cm D c (by omega) i, subN_cm D c (by omega) _, rows8_cm, xRow_cm, e,
        gather_cm (colIdx (BitVec.ofNat 32 c)) (fun l => 32 * (l / 32) + c) (colIdx_eq c (by omega)) (fun l hl => by omega)]
      rw [mulf_cm, subf_cm]
      refine cm_congr fun r l hr hl => ?_
      have h2 : (c + 1) / 8 ≤ (8 * i.val + r) / 8 := by omega
      rw [subR, if_pos h2, show 8 * (c / 8) + c % 8 = c by omega]
    · rw [subN_cm D c (by omega) i]
      refine cm_congr fun r l hr hl => ?_
      have h2 : ¬(c + 1) / 8 ≤ (8 * i.val + r) / 8 := by omega
      rw [subR, if_neg h2]

theorem dinv_cm (D : ℕ → ℕ → ℝ) : dinv (F := Ideal) (cm 32 128 D) = cm 32 128 (subR D 31) := by
  unfold dinv
  rw [subN_cm D 31 (le_refl _) 0, subN_cm D 31 (le_refl _) 1, subN_cm D 31 (le_refl _) 2, subN_cm D 31 (le_refl _) 3]
  refine (under_cm [(8, fun r l => subR D 31 (8 * 0 + r) l), (8, fun r l => subR D 31 (8 * 1 + r) l),
    (8, fun r l => subR D 31 (8 * 2 + r) l), (8, fun r l => subR D 31 (8 * 3 + r) l)] _).trans (cm_congr fun i j hi hj => ?_)
  simp only [under]
  split_ifs with h1 h2 h3 h4
  · simp
  · rw [show 8 * 1 + (i - 8) = i by omega]
  · rw [show 8 * 2 + (i - 8 - 8) = i by omega]
  · rw [show 8 * 3 + (i - 8 - 8 - 8) = i by omega]
  · omega

/-! ## The inverse from its halves -/

theorem zero32_eq : zero32 (F := Ideal) = cm 32 128 (fun _ _ => 0) := bzeroF32

theorem dot6_cm (A B : ℕ → ℕ → ℝ) :
    dot6 (F := Ideal) (cm 32 128 A) (cm 128 128 B) = cm 32 128 (fun i j => ∑ x ∈ range 128, A i x * B x j) := by
  unfold dot6
  dsimp only
  rw [hi3_cm, mid3_cm, lo3_cm, hi3_cm, mid3_cm, lo3_cm]
  have e1 : concatenate S128x256 1 [⟨S128x128, cm 128 128 B⟩, ⟨S128x128, cm 128 128 fun _ _ => 0⟩] concatenates_S128x128_S128x128_S128x256_d1
      = cm 128 256 (beside [(128, B), (128, fun _ _ => 0)]) := beside_cm [(128, B), (128, fun _ _ => 0)] concatenates_S128x128_S128x128_S128x256_d1
  rw [e1]
  have e2 : concatenate S256x256 0 [⟨S128x256, cm 128 256 (beside [(128, B), (128, fun _ _ => 0)])⟩, ⟨S128x256, cm 128 256 (beside [(128, B), (128, fun _ _ => 0)])⟩] concatenates_S128x256_S128x256_S256x256_d0
      = cm 256 256 (under [(128, beside [(128, B), (128, fun _ _ => 0)]), (128, beside [(128, B), (128, fun _ _ => 0)])]) :=
    under_cm [(128, beside [(128, B), (128, fun _ _ => 0)]), (128, beside [(128, B), (128, fun _ _ => 0)])] concatenates_S128x256_S128x256_S256x256_d0
  rw [e2]
  have e3 : concatenate S32x256 1 [⟨S32x128, cm 32 128 A⟩, ⟨S32x128, cm 32 128 fun _ _ => 0⟩] concatenates_S32x128_S32x128_S32x256_d1
      = cm 32 256 (beside [(128, A), (128, fun _ _ => 0)]) := beside_cm [(128, A), (128, fun _ _ => 0)] concatenates_S32x128_S32x128_S32x256_d1
  rw [e3]
  have e4 : concatenate S32x256 1 [⟨S32x128, cm 32 128 fun _ _ => 0⟩, ⟨S32x128, cm 32 128 A⟩] concatenates_S32x128_S32x128_S32x256_d1
      = cm 32 256 (beside [(128, fun _ _ => 0), (128, A)]) := beside_cm [(128, fun _ _ => 0), (128, A)] concatenates_S32x128_S32x128_S32x256_d1
  rw [e4]
  have e5 : concatenate S256x128 0 [⟨S128x128, cm 128 128 B⟩, ⟨S128x128, cm 128 128 fun _ _ => 0⟩] concatenates_S128x128_S128x128_S256x128_d0
      = cm 256 128 (under [(128, B), (128, fun _ _ => 0)]) := under_cm [(128, B), (128, fun _ _ => 0)] concatenates_S128x128_S128x128_S256x128_d0
  rw [e5]
  have m1 : matmul (F := Ideal) (φ₁ := .bf16) (φ₂ := .bf16) dot_S32x256_S256x256_S32x256_1_0_0_1_n_n none (cm 32 256 (beside [(128, A), (128, fun _ _ => 0)]))
      (cm 256 256 (under [(128, beside [(128, B), (128, fun _ _ => 0)]), (128, beside [(128, B), (128, fun _ _ => 0)])]))
      (constant (F := Ideal) S32x256 .f32 (0x00000000#32)) = cm 32 256 _ := matmul_cm .bf16 .bf16 none
  have m2 : matmul (F := Ideal) (φ₁ := .bf16) (φ₂ := .bf16) dot_S32x256_S256x128_S32x128_1_0_0_1_n_n none (cm 32 256 (beside [(128, fun _ _ => 0), (128, A)]))
      (cm 256 128 (under [(128, B), (128, fun _ _ => 0)]))
      (constant (F := Ideal) S32x128 .f32 (0x00000000#32)) = cm 32 128 _ := matmul_cm .bf16 .bf16 none
  rw [m1, m2]
  rw [slice_cm, slice_cm, addf_cm, addf_cm]
  refine cm_congr fun i j hi hj => ?_
  rw [dot2 128 128 256 rfl, dot2 128 128 256 rfl, dot2 128 128 256 rfl]
  simp [beside, hj]

theorem blocks_cm (X : ℕ → ℕ → ℝ) :
    blocks (F := Ideal) (cm 32 128 X) = cm 128 128 (fun i l => if l / 32 = i / 32 then X (i % 32) l else 0) := by
  unfold blocks
  rw [zero32_eq]
  have e : ∀ g : Fin 4, select (groupMask (BitVec.ofNat 32 g.val)) (cm 32 128 X) (cm 32 128 fun _ _ => 0)
      = cm 32 128 (fun i l => if l / 32 = g.val then X i l else 0) := fun g =>
    select_cm (groupMask (BitVec.ofNat 32 g.val)) (fun _ l => l / 32 = g.val) (groupMask_eq g)
  have e0 := e 0; have e1 := e 1; have e2 := e 2; have e3 := e 3
  refine (under_cm [(32, fun i l => if l / 32 = 0 then X i l else 0), (32, fun i l => if l / 32 = 1 then X i l else 0),
    (32, fun i l => if l / 32 = 2 then X i l else 0), (32, fun i l => if l / 32 = 3 then X i l else 0)]
    concatenates_S32x128_S32x128_S32x128_S32x128_S128x128_d0 |> Eq.trans ?_).trans (cm_congr fun i j hi hj => ?_)
  · show concatenate S128x128 0 [⟨S32x128, select (groupMask (BitVec.ofNat 32 (0 : Fin 4).val)) _ _⟩, ⟨S32x128, select (groupMask (BitVec.ofNat 32 (1 : Fin 4).val)) _ _⟩,
      ⟨S32x128, select (groupMask (BitVec.ofNat 32 (2 : Fin 4).val)) _ _⟩, ⟨S32x128, select (groupMask (BitVec.ofNat 32 (3 : Fin 4).val)) _ _⟩] _ = _
    rw [e0, e1, e2, e3]; rfl
  · simp only [under]
    split_ifs <;> first | rfl | exact congrFun (congrArg X (by omega)) j | (exfalso; omega)

end Cert.KernelIdeal.Stages

end
-- ==== Proof.Stages2.lean ====
/-  The stages of one head on matrices of reals, continued: the inverse of a chunk's matrix, the stacked operands and the
    products of one chunk. -/
module

public import proofs.«01_k».proof.Proof.Stages

@[expose] public section

set_option maxRecDepth 16384

noncomputable section

namespace Cert.KernelIdeal.Stages

open Idealize.ShloMosaic Idealize.ShloMosaic.ValueIdx Cert.KernelIdeal Cert.KernelIdeal.Gen Cert.KernelIdeal.Head Cert.KernelIdeal.RealMat
open Cert.KernelIdeal.Masks
open Finset

/-! ## The inverse of a chunk's matrix -/

/-- The block below the diagonal times the first inverse. -/
def yR (A X : ℕ → ℕ → ℝ) (r l : ℕ) : ℝ :=
  ∑ x ∈ range 128, (if x % 64 < 32 then A (32 + r) x else 0) * (if l / 32 = x / 32 then X (x % 32) l else 0)

theorem yBlk_cm (A X : ℕ → ℕ → ℝ) : yBlk (F := Ideal) (cm 64 128 A) (cm 32 128 X) = cm 32 128 (yR A X) := by
  unfold yBlk
  rw [slice_cm, zero32_eq, blocks_cm]
  refine (congrArg (fun z => dot6 (F := Ideal) z _) (select_cm firstHalf (fun _ l => l % 64 < 32) firstHalf_eq)).trans ?_
  rw [dot6_cm]
  exact cm_congr fun i j _ _ => by simp only [yR, Nat.zero_add]

/-- These products where they meet the second inverses. -/
def yBR (Y : ℕ → ℕ → ℝ) (i l : ℕ) : ℝ :=
  if i < 32 then 0 else if i < 64 then (if l < 64 then Y (i - 32) l else 0) else if i < 96 then 0
  else (if l < 64 then 0 else Y (i - 96) l)

theorem yBlocks_cm (Y : ℕ → ℕ → ℝ) : yBlocks (F := Ideal) (cm 32 128 Y) = cm 128 128 (yBR Y) := by
  unfold yBlocks
  rw [zero32_eq]
  have e1 : select lowLanes32 (cm 32 128 Y) (cm 32 128 fun _ _ => 0) = cm 32 128 (fun i l => if l < 64 then Y i l else 0) :=
    select_cm lowLanes32 (fun _ l => l < 64) lowLanes32_eq
  have e2 : select lowLanes32 (cm 32 128 fun _ _ => 0) (cm 32 128 Y) = cm 32 128 (fun i l => if l < 64 then 0 else Y i l) :=
    select_cm lowLanes32 (fun _ l => l < 64) lowLanes32_eq
  refine (under_cm [(32, fun _ _ => 0), (32, fun i l => if l < 64 then Y i l else 0), (32, fun _ _ => 0), (32, fun i l => if l < 64 then 0 else Y i l)]
    concatenates_S32x128_S32x128_S32x128_S32x128_S128x128_d0 |> Eq.trans ?_).trans (cm_congr fun i j hi hj => ?_)
  · show concatenate S128x128 0 [⟨S32x128, _⟩, ⟨S32x128, select lowLanes32 _ _⟩, ⟨S32x128, _⟩, ⟨S32x128, select lowLanes32 _ _⟩] _ = _
    rw [e1, e2]; rfl
  · simp only [under, yBR]
    split_ifs <;> first | rfl | exact congrFun (congrArg Y (by omega)) j | (exfalso; omega)

/-- The inverses of the two chunks' matrices, side by side, from the inverses of their halves. -/
def tR (A X : ℕ → ℕ → ℝ) (t l : ℕ) : ℝ :=
  if t < 32 then (if l % 64 < 32 then X t l else 0)
  else (if l % 64 < 32 then 0 else X (t - 32) l) - ∑ x ∈ range 128, (if x % 64 < 32 then 0 else X (t - 32) x) * yBR (yR A X) x l

theorem tInv_cm (A X : ℕ → ℕ → ℝ) : tInv (F := Ideal) (cm 64 128 A) (cm 32 128 X) = cm 64 128 (tR A X) := by
  unfold tInv
  rw [yBlk_cm, yBlocks_cm, zero32_eq]
  have e1 : select firstHalf (cm 32 128 X) (cm 32 128 fun _ _ => 0) = cm 32 128 (fun i l => if l % 64 < 32 then X i l else 0) :=
    select_cm firstHalf (fun _ l => l % 64 < 32) firstHalf_eq
  have e2 : select firstHalf (cm 32 128 fun _ _ => 0) (cm 32 128 X) = cm 32 128 (fun i l => if l % 64 < 32 then 0 else X i l) :=
    select_cm firstHalf (fun _ l => l % 64 < 32) firstHalf_eq
  rw [e1, e2, dot6_cm, subf_cm]
  refine (under_cm [(32, fun i l => if l % 64 < 32 then X i l else 0), (32, _)] _).trans (cm_congr fun i j hi hj => ?_)
  simp only [under, tR]
  split_ifs <;> first | rfl | (exfalso; omega)

theorem tBeta_cm (T : ℕ → ℕ → ℝ) (b : ℕ → ℝ) :
    tBeta (F := Ideal) (cm 64 128 T) (cm4 1 128 fun _ l => b l) = cm 64 128 (fun t l => T t l * b l) := by
  unfold tBeta
  rw [drop4_cm, rows_cm, mulf_cm]

/-! ## Stacked operands -/

/-- A left operand: the first chunk's columns and zeros, twice. -/
def twice0 (X : ℕ → ℕ → ℝ) : ℕ → ℕ → ℝ := beside [(64, X), (64, fun _ _ => 0), (64, X), (64, fun _ _ => 0)]
/-- A left operand: zeros and the second chunk's columns, twice. -/
def twice1 (X : ℕ → ℕ → ℝ) : ℕ → ℕ → ℝ :=
  beside [(64, fun _ _ => 0), (64, fun i l => X i (64 + l)), (64, fun _ _ => 0), (64, fun i l => X i (64 + l))]

theorem weave0 (X : ℕ → ℕ → ℝ) :
    weave (F := Ideal) (select lowLanes32 (par 0 (cm 64 128 X)) (turn (par 0 (cm 64 128 fun _ _ => 0))))
      (select lowLanes32 (par 1 (cm 64 128 X)) (turn (par 1 (cm 64 128 fun _ _ => 0)))) = cm 64 128 (fun i l => if l < 64 then X i l else 0) := by
  have p : ∀ (p : Fin 2) (X : ℕ → ℕ → ℝ), par (F := Ideal) p (cm 64 128 X) = cm 32 128 (fun i l => X (2 * i + p.val) l) := fun p X => parity_cm p _
  have r : turn (F := Ideal) (cm 32 128 fun _ _ => 0) = cm 32 128 fun _ _ => 0 := rotate_zero _ _
  rw [p 0, p 1, p 0, p 1, r]
  have e : ∀ X Y : ℕ → ℕ → ℝ, select lowLanes32 (cm 32 128 X) (cm 32 128 Y) = cm 32 128 (fun i l => if l < 64 then X i l else Y i l) :=
    fun X Y => select_cm lowLanes32 (fun _ l => l < 64) lowLanes32_eq
  rw [e, e]
  refine (interleave_cm bitcasts_S64x128_w16_S32x128_w32).trans (cm_congr fun i j _ _ => ?_)
  split_ifs with h1 h2 h2
  · exact congrFun (congrArg X (by simp; omega)) j
  · rfl
  · exact congrFun (congrArg X (by simp; omega)) j
  · rfl

theorem weave1 (X : ℕ → ℕ → ℝ) :
    weave (F := Ideal) (select lowLanes32 (turn (par 0 (cm 64 128 fun _ _ => 0))) (par 0 (cm 64 128 X)))
      (select lowLanes32 (turn (par 1 (cm 64 128 fun _ _ => 0))) (par 1 (cm 64 128 X))) = cm 64 128 (fun i l => if l < 64 then 0 else X i l) := by
  have p : ∀ (p : Fin 2) (X : ℕ → ℕ → ℝ), par (F := Ideal) p (cm 64 128 X) = cm 32 128 (fun i l => X (2 * i + p.val) l) := fun p X => parity_cm p _
  have r : turn (F := Ideal) (cm 32 128 fun _ _ => 0) = cm 32 128 fun _ _ => 0 := rotate_zero _ _
  rw [p 0, p 1, p 0, p 1, r]
  have e : ∀ X Y : ℕ → ℕ → ℝ, select lowLanes32 (cm 32 128 X) (cm 32 128 Y) = cm 32 128 (fun i l => if l < 64 then X i l else Y i l) :=
    fun X Y => select_cm lowLanes32 (fun _ l => l < 64) lowLanes32_eq
  rw [e, e]
  refine (interleave_cm bitcasts_S64x128_w16_S32x128_w32).trans (cm_congr fun i j _ _ => ?_)
  split_ifs with h1 h2 h2
  · rfl
  · exact congrFun (congrArg X (by simp; omega)) j
  · rfl
  · exact congrFun (congrArg X (by simp; omega)) j

theorem lhs0_cm (X : ℕ → ℕ → ℝ) : lhs0 (F := Ideal) (cm 64 128 X) = cm 64 256 (twice0 X) := by
  unfold lhs0
  rw [hi3_cm, mid3_cm, lo3_cm, weave0]
  refine (beside_cm [(128, fun i l => if l < 64 then X i l else 0), (128, fun i l => if l < 64 then X i l else 0)] _).trans (cm_congr fun i j hi hj => ?_)
  simp only [beside, twice0]
  split_ifs <;> first | rfl | exact congrArg (X i) (by omega) | (exfalso; omega)

theorem lhs1_cm (X : ℕ → ℕ → ℝ) : lhs1 (F := Ideal) (cm 64 128 X) = cm 64 256 (twice1 X) := by
  unfold lhs1
  rw [hi3_cm, mid3_cm, lo3_cm, weave1]
  refine (beside_cm [(128, fun i l => if l < 64 then 0 else X i l), (128, fun i l => if l < 64 then 0 else X i l)] _).trans (cm_congr fun i j hi hj => ?_)
  simp only [beside, twice1]
  split_ifs <;> first | rfl | exact congrArg (X i) (by omega) | (exfalso; omega)

theorem kd0_cm (K : ℕ → ℕ → ℝ) : kd0 (F := Ideal) (cm 192 128 K) = cm 192 128 (fun i l => if l < 64 then K i l else 0) := by
  unfold kd0
  have p : ∀ (p : Fin 2), rowsOfParity p S96x128 (cm 192 128 K) bitcasts_S192x128_w16_S96x128_w32 = cm 96 128 (fun i l => K (2 * i + p.val) l) := fun p => parity_cm p _
  have e : ∀ X Y : ℕ → ℕ → ℝ, select low96 (cm 96 128 X) (cm 96 128 Y) = cm 96 128 (fun i l => if l < 64 then X i l else Y i l) :=
    fun X Y => select_cm low96 (fun _ l => l < 64) low96_eq
  rw [p 0, p 1, zeroBF16, e, e]
  refine (interleave_cm bitcasts_S192x128_w16_S96x128_w32).trans (cm_congr fun i j _ _ => ?_)
  split_ifs with h1 h2 h2
  · exact congrFun (congrArg K (by simp; omega)) j
  · rfl
  · exact congrFun (congrArg K (by simp; omega)) j
  · rfl

theorem kd1_cm (K : ℕ → ℕ → ℝ) : kd1 (F := Ideal) (cm 192 128 K) = cm 192 128 (fun i l => if l < 64 then 0 else K i l) := by
  unfold kd1
  have p : ∀ (p : Fin 2), rowsOfParity p S96x128 (cm 192 128 K) bitcasts_S192x128_w16_S96x128_w32 = cm 96 128 (fun i l => K (2 * i + p.val) l) := fun p => parity_cm p _
  have e : ∀ X Y : ℕ → ℕ → ℝ, select low96 (cm 96 128 X) (cm 96 128 Y) = cm 96 128 (fun i l => if l < 64 then X i l else Y i l) :=
    fun X Y => select_cm low96 (fun _ l => l < 64) low96_eq
  rw [p 0, p 1, zeroBF16, e, e]
  refine (interleave_cm bitcasts_S192x128_w16_S96x128_w32).trans (cm_congr fun i j _ _ => ?_)
  split_ifs with h1 h2 h2
  · rfl
  · exact congrFun (congrArg K (by simp; omega)) j
  · rfl
  · exact congrFun (congrArg K (by simp; omega)) j

/-- A right operand's block: the matrix, beside zeros. -/
def pad (R : ℕ → ℕ → ℝ) : ℕ → ℕ → ℝ := beside [(128, R), (128, fun _ _ => 0)]
/-- Zeros of the same size. -/
def padZ : ℕ → ℕ → ℝ := beside [(128, fun _ _ => 0), (128, fun _ _ => 0)]

theorem fullRhs_cm (R : ℕ → ℕ → ℝ) : fullRhs (F := Ideal) (cm 64 128 R) = cm 64 256 (pad R) := by
  unfold fullRhs
  rw [hi3_cm, mid3_cm]
  exact beside_cm [(128, R), (128, fun _ _ => 0)] _
theorem hiRhs_cm (R : ℕ → ℕ → ℝ) : hiRhs (F := Ideal) (cm 64 128 R) = cm 64 256 (pad R) := by
  unfold hiRhs zeroB
  rw [hi3_cm, bzeroBF16]
  exact beside_cm [(128, R), (128, fun _ _ => 0)] _
theorem loRhs_cm (R : ℕ → ℕ → ℝ) : loRhs (F := Ideal) (cm 64 128 R) = cm 64 256 padZ := by
  unfold loRhs zeroB
  rw [lo3_cm, bzeroBF16]
  exact beside_cm [(128, fun _ _ => 0), (128, fun _ _ => 0)] _

/-- A right operand for `twice0`. -/
def stack0 (R : ℕ → ℕ → ℝ) : ℕ → ℕ → ℝ := under [(64, pad R), (64, pad R), (64, padZ), (64, pad R)]
/-- A right operand for `twice1`. -/
def stack1 (R : ℕ → ℕ → ℝ) : ℕ → ℕ → ℝ := under [(64, pad R), (64, pad R), (64, pad R), (64, padZ)]

theorem rhs0_cm (R : ℕ → ℕ → ℝ) : rhs0 (F := Ideal) (cm 64 128 R) = cm 256 256 (stack0 R) := by
  unfold rhs0
  rw [fullRhs_cm, hiRhs_cm, loRhs_cm]
  exact under_cm [(64, pad R), (64, pad R), (64, padZ), (64, pad R)] _
theorem rhs1_cm (R : ℕ → ℕ → ℝ) : rhs1 (F := Ideal) (cm 64 128 R) = cm 256 256 (stack1 R) := by
  unfold rhs1
  rw [fullRhs_cm, hiRhs_cm, loRhs_cm]
  exact under_cm [(64, pad R), (64, pad R), (64, pad R), (64, padZ)] _

/-- The first chunk's stacked product, both halves of its columns together, is the product of the chunk's columns. -/
theorem prod0 (X R : ℕ → ℕ → ℝ) (i e : ℕ) (he : e < 128) :
    (∑ x ∈ range 256, twice0 X i x * stack0 R x e) + (∑ x ∈ range 256, twice0 X i x * stack0 R x (128 + e))
      = ∑ s ∈ range 64, X i s * R s e := by
  unfold twice0 stack0
  rw [dot4 64 256 rfl, dot4 64 256 rfl]
  simp [pad, padZ, beside, he]
/-- The second chunk's likewise. -/
theorem prod1 (X R : ℕ → ℕ → ℝ) (i e : ℕ) (he : e < 128) :
    (∑ x ∈ range 256, twice1 X i x * stack1 R x e) + (∑ x ∈ range 256, twice1 X i x * stack1 R x (128 + e))
      = ∑ s ∈ range 64, X i (64 + s) * R s e := by
  unfold twice1 stack1
  rw [dot4 64 256 rfl, dot4 64 256 rfl]
  simp [pad, padZ, beside, he]

theorem uMat_cm (T R : ℕ → ℕ → ℝ) :
    uMat (F := Ideal) (cm 64 256 T) (cm 256 256 R)
      = cm 64 128 (fun i e => (∑ x ∈ range 256, T i x * R x e) + ∑ x ∈ range 256, T i x * R x (128 + e)) := by
  unfold uMat
  dsimp only
  have m1 : matmul (F := Ideal) (φ₁ := .bf16) (φ₂ := .bf16) dot_S64x256_S256x256_S64x256_1_0_0_1_n_n none (cm 64 256 T) (cm 256 256 R)
      (constant (F := Ideal) S64x256 .f32 (0x00000000#32)) = cm 64 256 _ := matmul_cm .bf16 .bf16 none
  rw [m1, slice_cm, slice_cm, addf_cm]
  exact cm_congr fun i j _ _ => by simp only [Nat.zero_add]

theorem u0_cm (T R : ℕ → ℕ → ℝ) :
    uMat (F := Ideal) (lhs0 (cm 64 128 T)) (rhs0 (cm 64 128 R)) = cm 64 128 (fun i e => ∑ s ∈ range 64, T i s * R s e) := by
  rw [lhs0_cm, rhs0_cm, uMat_cm]
  exact cm_congr fun i j _ hj => prod0 T R i j hj
theorem u1_cm (T R : ℕ → ℕ → ℝ) :
    uMat (F := Ideal) (lhs1 (cm 64 128 T)) (rhs1 (cm 64 128 R)) = cm 64 128 (fun i e => ∑ s ∈ range 64, T i (64 + s) * R s e) := by
  rw [lhs1_cm, rhs1_cm, uMat_cm]
  exact cm_congr fun i j _ hj => prod1 T R i j hj

theorem xMat_cm (A K R : ℕ → ℕ → ℝ) :
    xMat (F := Ideal) (cm 64 256 A) (cm 192 128 K) (cm 256 256 R)
      = cm 256 128 (fun i e => (∑ x ∈ range 256, under [(64, A), (192, beside [(128, K), (128, K)])] i x * R x e)
          + ∑ x ∈ range 256, under [(64, A), (192, beside [(128, K), (128, K)])] i x * R x (128 + e)) := by
  unfold xMat
  dsimp only
  have e1 : concatenate S192x256 1 [⟨S192x128, cm 192 128 K⟩, ⟨S192x128, cm 192 128 K⟩] concatenates_S192x128_S192x128_S192x256_d1
      = cm 192 256 (beside [(128, K), (128, K)]) := beside_cm [(128, K), (128, K)] _
  rw [e1]
  have e2 : concatenate S256x256 0 [⟨S64x256, cm 64 256 A⟩, ⟨S192x256, cm 192 256 (beside [(128, K), (128, K)])⟩] concatenates_S64x256_S192x256_S256x256_d0
      = cm 256 256 (under [(64, A), (192, beside [(128, K), (128, K)])]) := under_cm [(64, A), (192, beside [(128, K), (128, K)])] _
  rw [e2]
  have m1 : matmul (F := Ideal) (φ₁ := .bf16) (φ₂ := .bf16) dot_S256x256_S256x256_S256x256_1_0_0_1_n_n none (cm 256 256 (under [(64, A), (192, beside [(128, K), (128, K)])])) (cm 256 256 R)
      (constant (F := Ideal) S256x256 .f32 (0x00000000#32)) = cm 256 256 _ := matmul_cm .bf16 .bf16 none
  rw [m1, slice_cm, slice_cm, addf_cm]
  exact cm_congr fun i j _ _ => by simp only [Nat.zero_add]

theorem x0_cm (A K R : ℕ → ℕ → ℝ) :
    xMat (F := Ideal) (lhs0 (cm 64 128 A)) (kd0 (cm 192 128 K)) (rhs0 (cm 64 128 R))
      = cm 256 128 (fun i e => if i < 64 then ∑ s ∈ range 64, A i s * R s e else ∑ s ∈ range 64, K (i - 64) s * R s e) := by
  rw [lhs0_cm, rhs0_cm, kd0_cm, xMat_cm]
  refine cm_congr fun i j hi hj => ?_
  by_cases h : i < 64
  · rw [if_pos h, ← prod0 A R i j hj]
    simp only [under, h, if_true]
  · rw [if_neg h, ← prod0 K R (i - 64) j hj]
    have e : ∀ x ∈ range 256, under [(64, twice0 A), (192, beside [(128, fun i l => if l < 64 then K i l else 0), (128, fun i l => if l < 64 then K i l else 0)])] i x
        = twice0 K (i - 64) x := fun x hx => by
      have hx := Finset.mem_range.mp hx
      have h2 : i - 64 < 192 := by omega
      simp only [under, h, h2, if_true, if_false, beside, twice0]
      split_ifs <;> first | rfl | exact congrArg (K _) (by omega) | (exfalso; omega)
    congr 1 <;> exact Finset.sum_congr rfl fun x hx => by rw [e x hx]
theorem x1_cm (A K R : ℕ → ℕ → ℝ) :
    xMat (F := Ideal) (lhs1 (cm 64 128 A)) (kd1 (cm 192 128 K)) (rhs1 (cm 64 128 R))
      = cm 256 128 (fun i e => if i < 64 then ∑ s ∈ range 64, A i (64 + s) * R s e else ∑ s ∈ range 64, K (i - 64) (64 + s) * R s e) := by
  rw [lhs1_cm, rhs1_cm, kd1_cm, xMat_cm]
  refine cm_congr fun i j hi hj => ?_
  by_cases h : i < 64
  · rw [if_pos h, ← prod1 A R i j hj]
    simp only [under, h, if_true]
  · rw [if_neg h, ← prod1 K R (i - 64) j hj]
    have e : ∀ x ∈ range 256, under [(64, twice1 A), (192, beside [(128, fun i l => if l < 64 then 0 else K i l), (128, fun i l => if l < 64 then 0 else K i l)])] i x
        = twice1 K (i - 64) x := fun x hx => by
      have hx := Finset.mem_range.mp hx
      have h2 : i - 64 < 192 := by omega
      simp only [under, h, h2, if_true, if_false, beside, twice1]
      split_ifs <;> first | rfl | exact congrArg (K _) (by omega) | (exfalso; omega)
    congr 1 <;> exact Finset.sum_congr rfl fun x hx => by rw [e x hx]

/-! ## The state's products, the residuals, the output and the new state -/

theorem stMat_cm (S : ℕ → ℕ → ℝ) : stMat (F := Ideal) (cm4 192 128 S) = cm 192 128 S := drop4_cm _

theorem pState_cm (P S : ℕ → ℕ → ℝ) :
    pState (F := Ideal) (cm 128 192 P) (cm 192 128 S) = cm 128 128 (fun i e => ∑ d ∈ range 192, P i d * S d e) := by
  unfold pState
  dsimp only
  rw [hi3_cm, mid3_cm, lo3_cm]
  have e1 : concatenate S192x384 1 [⟨S192x128, cm 192 128 S⟩, ⟨S192x128, cm 192 128 fun _ _ => 0⟩, ⟨S192x128, cm 192 128 fun _ _ => 0⟩]
      concatenates_S192x128_S192x128_S192x128_S192x384_d1 = cm 192 384 (beside [(128, S), (128, fun _ _ => 0), (128, fun _ _ => 0)]) :=
    beside_cm [(128, S), (128, fun _ _ => 0), (128, fun _ _ => 0)] _
  rw [e1]
  have m1 : matmul (F := Ideal) (φ₁ := .bf16) (φ₂ := .bf16) dot_S128x192_S192x384_S128x384_1_0_0_1_n_n none (cm 128 192 P) (cm 192 384 (beside [(128, S), (128, fun _ _ => 0), (128, fun _ _ => 0)]))
      (constant (F := Ideal) S128x384 .f32 (0x00000000#32)) = cm 128 384 _ := matmul_cm .bf16 .bf16 none
  rw [m1, slice_cm, slice_cm, slice_cm, addf_cm, addf_cm]
  refine cm_congr fun i j _ hj => ?_
  have h2 : 256 + j - 128 - 128 < 128 := by omega
  have h3 : ¬256 + j < 128 := by omega
  have h4 : ¬256 + j - 128 < 128 := by omega
  simp [beside, hj, h2, h3, h4]

theorem resid_cm (V P : ℕ → ℕ → ℝ) :
    resid (F := Ideal) (cm4 64 128 V) (cm 128 128 P) = cm 64 128 (fun t e => V t e - P t e) := by
  unfold resid
  rw [drop4_cm, extf_cm, slice_cm, subf_cm]
  exact cm_congr fun i j _ _ => by simp only [Nat.zero_add]

/-- The scale of the outputs. -/
def scaleR : ℝ := (FloatOps.ofBits (F := Ideal) .f32 (0x3D93CD3A#32) : EReal).toReal

theorem scale_eq : (FloatOps.ofBits (F := Ideal) .f32 (0x3D93CD3A#32) : EReal) = (scaleR : EReal) := by
  unfold scaleR
  simp [Ideal.ofBits, Ideal.ieee]
  rw [← EReal.coe_mul, EReal.toReal_coe]

theorem scale_cm {n m : ℕ} : (broadcast (Sh n m) (Scalar.ofBits (F := Ideal) .f32 (0x3D93CD3A#32)) : FVec Ideal (Sh n m) .f32) = cm n m (fun _ _ => scaleR) :=
  funext fun _ => scale_eq

theorem outMat_cm (P X : ℕ → ℕ → ℝ) :
    outMat (F := Ideal) (cm 128 128 P) (cm 256 128 X) = cm3 64 128 (fun t e => scaleR * (P (64 + t) e + X t e)) := by
  unfold outMat
  rw [slice_cm, slice_cm, addf_cm, scale_cm, mulf_cm, truncf_cm]
  refine (add3_cm _).trans ?_
  simp only [Nat.zero_add]

theorem newState_cm (c : ℕ → ℝ) (S X : ℕ → ℕ → ℝ) :
    newState (F := Ideal) (cm 192 1 fun d _ => c d) (cm 192 128 S) (cm 256 128 X) = cm4 192 128 (fun d e => c d * S d e + X (64 + d) e) := by
  unfold newState
  rw [shapeCast_self, cols_cm, slice_cm, mulf_cm, addf_cm]
  refine (add4_cm _).trans ?_
  simp only [Nat.zero_add]

end Cert.KernelIdeal.Stages

end
-- ==== Proof.Inverse.lean ====
/-  The matrix the head builds out of its blocks is the inverse of the unit lower triangular matrix of each chunk. -/
module

public import proofs.«01_k».proof.Proof.Stages2

@[expose] public section

noncomputable section

namespace Cert.KernelIdeal.Stages

open Finset

/-- Column elimination, read as a sum. -/
theorem subR_sum (D : ℕ → ℕ → ℝ) (hD : ∀ r < 32, ∀ l < 128, r ≤ l % 32 → D r l = 0) (l : ℕ) (hl : l < 128) :
    ∀ c ≤ 31, ∀ r < 32, subR D c r l = (if l % 32 = r then 1 else 0) - ∑ s ∈ range c, D r (32 * (l / 32) + s) * subR D s s l
  | 0, _, r, _ => by simp [subR]
  | c + 1, hc, r, hr => by
    rw [subR, Finset.sum_range_succ, subR_sum D hD l hl c (by omega) r hr]
    split_ifs with h1 h2 h2
    · ring
    · ring
    · rw [hD r hr (32 * (l / 32) + c) (by omega) (by omega)]; ring
    · rw [hD r hr (32 * (l / 32) + c) (by omega) (by omega)]; ring

/-- Every column eliminated, the result is the inverse of the diagonal block. -/
theorem subR_inv (D : ℕ → ℕ → ℝ) (hD : ∀ r < 32, ∀ l < 128, r ≤ l % 32 → D r l = 0) (l : ℕ) (hl : l < 128) (r : ℕ) (hr : r < 32) :
    subR D 31 r l + ∑ s ∈ range 32, D r (32 * (l / 32) + s) * subR D 31 s l = if l % 32 = r then 1 else 0 := by
  have e : ∀ s < 32, subR D 31 s l = subR D s s l := fun s hs => by
    rw [subR_sum D hD l hl 31 (by omega) s hs, subR_sum D hD l hl s (by omega) s hs]
    congr 1
    refine (Finset.sum_subset (Finset.range_subset_range.mpr (by omega)) fun x hx hx' => ?_).symm
    have h1 := Finset.mem_range.mp hx
    have h2 := Finset.mem_range.not.mp hx'
    rw [hD s hs (32 * (l / 32) + x) (by omega) (by omega), zero_mul]
  rw [Finset.sum_range_succ, hD r hr (32 * (l / 32) + 31) (by omega) (by omega), zero_mul, add_zero,
    subR_sum D hD l hl 31 (by omega) r hr]
  have e2 : ∑ s ∈ range 31, D r (32 * (l / 32) + s) * subR D 31 s l = ∑ s ∈ range 31, D r (32 * (l / 32) + s) * subR D s s l :=
    Finset.sum_congr rfl fun s hs => by rw [e s (by have := Finset.mem_range.mp hs; omega)]
  rw [e2]
  ring

theorem sum128 (f : ℕ → ℝ) : ∑ x ∈ range 128, f x
    = (∑ x ∈ range 32, f x) + (∑ x ∈ range 32, f (32 + x)) + (∑ x ∈ range 32, f (64 + x)) + ∑ x ∈ range 32, f (96 + x) := by
  rw [show 128 = 96 + 32 from rfl, Finset.sum_range_add, show 96 = 64 + 32 from rfl, Finset.sum_range_add, show 64 = 32 + 32 from rfl,
    Finset.sum_range_add]
theorem sum64 (f : ℕ → ℝ) : ∑ x ∈ range 64, f x = (∑ x ∈ range 32, f x) + ∑ x ∈ range 32, f (32 + x) := by
  rw [show 64 = 32 + 32 from rfl, Finset.sum_range_add]

theorem zsum (f : ℕ → ℝ) (h : ∀ x < 32, f x = 0) : ∑ x ∈ range 32, f x = 0 :=
  Finset.sum_eq_zero fun x hx => h x (Finset.mem_range.mp hx)
theorem csum (f g : ℕ → ℝ) (h : ∀ x < 32, f x = g x) : ∑ x ∈ range 32, f x = ∑ x ∈ range 32, g x :=
  Finset.sum_congr rfl fun x hx => h x (Finset.mem_range.mp hx)

/-- The block below the diagonal times the inverse of the first diagonal block. -/
theorem yR_eq (A X : ℕ → ℕ → ℝ) (r l : ℕ) (hl : l < 128) :
    yR A X r l = if l % 64 < 32 then ∑ x ∈ range 32, A (32 + r) (64 * (l / 64) + x) * X x l else 0 := by
  unfold yR
  rw [sum128]
  have hc : l / 64 = 0 ∨ l / 64 = 1 := by omega
  have z1 : ∑ x ∈ range 32, (if (32 + x) % 64 < 32 then A (32 + r) (32 + x) else 0) * (if l / 32 = (32 + x) / 32 then X ((32 + x) % 32) l else 0) = 0 :=
    zsum _ fun x hx => by rw [if_neg (by omega), zero_mul]
  have z3 : ∑ x ∈ range 32, (if (96 + x) % 64 < 32 then A (32 + r) (96 + x) else 0) * (if l / 32 = (96 + x) / 32 then X ((96 + x) % 32) l else 0) = 0 :=
    zsum _ fun x hx => by rw [if_neg (by omega), zero_mul]
  rw [z1, z3, add_zero, add_zero]
  split_ifs with h
  · rcases hc with hc | hc <;> rw [hc]
    · rw [zsum (fun x => (if (64 + x) % 64 < 32 then A (32 + r) (64 + x) else 0) * _) fun x hx => by
        rw [if_neg (show ¬l / 32 = (64 + x) / 32 by omega), mul_zero], add_zero]
      exact csum _ _ fun x hx => by
        rw [if_pos (by omega), if_pos (by omega), show x % 32 = x by omega, show 64 * 0 + x = x by omega]
    · rw [zsum (fun x => (if x % 64 < 32 then A (32 + r) x else 0) * _) fun x hx => by
        rw [if_neg (show ¬l / 32 = x / 32 by omega), mul_zero], zero_add]
      exact csum _ _ fun x hx => by
        rw [if_pos (by omega), if_pos (by omega), show (64 + x) % 32 = x by omega]
  · rw [zsum, zsum, add_zero]
    · intro x hx; rw [if_neg (show ¬l / 32 = (64 + x) / 32 by omega), mul_zero]
    · intro x hx; rw [if_neg (show ¬l / 32 = x / 32 by omega), mul_zero]

/-- The lower half's correction. -/
theorem corr_eq (X Y : ℕ → ℕ → ℝ) (t l : ℕ) (hl : l < 128) :
    ∑ x ∈ range 128, (if x % 64 < 32 then 0 else X t x) * yBR Y x l
      = ∑ x ∈ range 32, X t (64 * (l / 64) + 32 + x) * Y x l := by
  rw [sum128]
  have z0 : ∑ x ∈ range 32, (if x % 64 < 32 then 0 else X t x) * yBR Y x l = 0 := zsum _ fun x hx => by rw [if_pos (by omega), zero_mul]
  have z2 : ∑ x ∈ range 32, (if (64 + x) % 64 < 32 then 0 else X t (64 + x)) * yBR Y (64 + x) l = 0 := zsum _ fun x hx => by
    rw [if_pos (by omega), zero_mul]
  rw [z0, z2, zero_add, add_zero]
  have hc : l / 64 = 0 ∨ l / 64 = 1 := by omega
  rcases hc with hc | hc <;> rw [hc]
  · rw [zsum (fun x => (if (96 + x) % 64 < 32 then 0 else X t (96 + x)) * _) fun x hx => by
      unfold yBR
      rw [if_neg (show ¬96 + x < 32 by omega), if_neg (show ¬96 + x < 64 by omega), if_neg (show ¬96 + x < 96 by omega), if_pos (show l < 64 by omega), mul_zero], add_zero]
    exact csum _ _ fun x hx => by
      unfold yBR
      rw [if_neg (by omega), if_neg (by omega), if_pos (by omega), if_pos (by omega), show 32 + x - 32 = x by omega, show 64 * 0 + 32 + x = 32 + x by omega]
  · rw [zsum (fun x => (if (32 + x) % 64 < 32 then 0 else X t (32 + x)) * _) fun x hx => by
      unfold yBR
      rw [if_neg (show ¬32 + x < 32 by omega), if_pos (show 32 + x < 64 by omega), if_neg (show ¬l < 64 by omega), mul_zero], zero_add]
    exact csum _ _ fun x hx => by
      unfold yBR
      rw [if_neg (by omega), if_neg (by omega), if_neg (by omega), if_neg (by omega), if_neg (by omega), show 96 + x - 96 = x by omega]

/-- The two diagonal blocks of each chunk. -/
def diagR (A : ℕ → ℕ → ℝ) (r l : ℕ) : ℝ := if l % 64 < 32 then A r l else A (32 + r) l

/-- The inverse property, chunk by chunk. -/
theorem tR_inv (A : ℕ → ℕ → ℝ) (hA : ∀ t < 64, ∀ l < 128, t ≤ l % 64 → A t l = 0) (t : ℕ) (ht : t < 64) (l : ℕ) (hl : l < 128) :
    tR A (subR (diagR A) 31) t l + ∑ x ∈ range 64, A t (64 * (l / 64) + x) * tR A (subR (diagR A) 31) x l = if l % 64 = t then 1 else 0 := by
  have hD : ∀ r < 32, ∀ l < 128, r ≤ l % 32 → diagR A r l = 0 := fun r hr l hl h => by
    unfold diagR
    split_ifs with h1
    · exact hA _ (by omega) _ hl (by omega)
    · exact hA _ (by omega) _ hl (by omega)
  have inv := subR_inv (diagR A) hD
  generalize hX : subR (diagR A) 31 = X at inv
  have hlo : ∀ x < 32, tR A X x l = if l % 64 < 32 then X x l else 0 := fun x hx => by unfold tR; rw [if_pos hx]
  have hhi : ∀ x < 32, tR A X (32 + x) l = (if l % 64 < 32 then 0 else X x l) - ∑ k ∈ range 32, X x (64 * (l / 64) + 32 + k) * yR A X k l := fun x hx => by
    unfold tR
    rw [if_neg (by omega), corr_eq X _ _ l hl, show 32 + x - 32 = x by omega]
  rw [sum64]
  by_cases h : l % 64 < 32
  · have hg : l / 32 = 2 * (l / 64) := by omega
    by_cases h32 : t < 32
    · rw [hlo t h32, if_pos h]
      rw [zsum (fun x => A t (64 * (l / 64) + (32 + x)) * _) fun x hx => by rw [hA t ht _ (by omega) (by omega), zero_mul], add_zero]
      have i := inv l hl t h32
      rw [show l % 32 = l % 64 by omega] at i
      rw [← i]
      congr 1
      exact csum _ _ fun x hx => by
        rw [hlo x hx, if_pos h]; unfold diagR; rw [if_pos (by omega), hg, show 32 * (2 * (l / 64)) = 64 * (l / 64) by omega]
    · obtain ⟨r, rfl⟩ : ∃ r, t = 32 + r := ⟨t - 32, by omega⟩
      have hr : r < 32 := by omega
      rw [if_neg (show ¬l % 64 = 32 + r by omega), hhi r hr, if_pos h]
      have e1 : ∑ x ∈ range 32, A (32 + r) (64 * (l / 64) + x) * tR A X x l = yR A X r l := by
        rw [yR_eq A X r l hl, if_pos h]
        exact csum _ _ fun x hx => by rw [hlo x hx, if_pos h]
      have e2 : ∑ x ∈ range 32, A (32 + r) (64 * (l / 64) + (32 + x)) * tR A X (32 + x) l
          = -∑ k ∈ range 32, (∑ x ∈ range 32, A (32 + r) (64 * (l / 64) + (32 + x)) * X x (64 * (l / 64) + 32 + k)) * yR A X k l := by
        rw [csum _ (fun x => -∑ k ∈ range 32, A (32 + r) (64 * (l / 64) + (32 + x)) * X x (64 * (l / 64) + 32 + k) * yR A X k l) fun x hx => by
          rw [hhi x hx, if_pos h, zero_sub, mul_neg, Finset.mul_sum]
          exact congrArg _ (Finset.sum_congr rfl fun k _ => by ring)]
        rw [Finset.sum_neg_distrib, Finset.sum_comm]
        exact congrArg _ (Finset.sum_congr rfl fun k _ => by rw [Finset.sum_mul])
      have e3 : ∑ k ∈ range 32, (X r (64 * (l / 64) + 32 + k) + ∑ x ∈ range 32, A (32 + r) (64 * (l / 64) + (32 + x)) * X x (64 * (l / 64) + 32 + k)) * yR A X k l
          = yR A X r l := by
        have i : ∀ k < 32, X r (64 * (l / 64) + 32 + k) + ∑ x ∈ range 32, A (32 + r) (64 * (l / 64) + (32 + x)) * X x (64 * (l / 64) + 32 + k)
            = if k = r then 1 else 0 := fun k hk => by
          have i := inv (64 * (l / 64) + 32 + k) (by omega) r hr
          rw [show (64 * (l / 64) + 32 + k) % 32 = k by omega] at i
          rw [← i]
          congr 1
          exact csum _ _ fun x hx => by
            unfold diagR
            rw [if_neg (by omega), show 32 * ((64 * (l / 64) + 32 + k) / 32) + x = 64 * (l / 64) + (32 + x) by omega]
        rw [csum _ (fun k => if k = r then yR A X k l else 0) fun k hk => by rw [i k hk]; split_ifs <;> simp]
        rw [Finset.sum_ite_eq' (range 32) r, if_pos (Finset.mem_range.mpr hr)]
      rw [e1, e2]
      have e4 := e3
      simp only [add_mul, Finset.sum_add_distrib] at e4
      linarith
  · by_cases h32 : t < 32
    · rw [hlo t h32, if_neg h, if_neg (show ¬l % 64 = t by omega)]
      rw [zsum _ fun x hx => by rw [hlo x hx, if_neg h, mul_zero], zsum _ fun x hx => by rw [hA t ht _ (by omega) (by omega), zero_mul]]
      simp
    · obtain ⟨r, rfl⟩ : ∃ r, t = 32 + r := ⟨t - 32, by omega⟩
      have hr : r < 32 := by omega
      have hY : ∀ k, yR A X k l = 0 := fun k => by rw [yR_eq A X k l hl, if_neg h]
      have hh : ∀ x < 32, tR A X (32 + x) l = X x l := fun x hx => by
        rw [hhi x hx, if_neg h, zsum _ fun k _ => by rw [hY, mul_zero], sub_zero]
      rw [hh r hr, zsum _ fun x hx => by rw [hlo x hx, if_neg h, mul_zero], zero_add]
      have i := inv l hl r hr
      have hc : (l % 32 = r) = (l % 64 = 32 + r) := propext ⟨fun _ => by omega, fun _ => by omega⟩
      simp only [hc] at i
      rw [← i]
      congr 1
      exact csum _ _ fun x hx => by
        rw [hh x hx]; unfold diagR; rw [if_neg (by omega), show 32 * (l / 32) + x = 64 * (l / 64) + (32 + x) by omega]

end Cert.KernelIdeal.Stages

end
-- ==== Proof.HeadValue.lean ====
/-  One head of one grid point on real data: the two outputs and the two states are those of the two chunks. -/
module

public import proofs.«01_k».proof.Proof.Inverse
public import proofs.«01_k».proof.Proof.Spec

@[expose] public section

set_option maxRecDepth 16384

noncomputable section

namespace Cert.KernelIdeal.HeadValue

open Idealize.ShloMosaic Idealize.ShloMosaic.ValueIdx Cert.KernelIdeal Cert.KernelIdeal.Gen Cert.KernelIdeal.Head Cert.KernelIdeal.RealMat
open Cert.KernelIdeal.Stages Cert.Spec
open Finset

/-- The real numbers one head reads at one grid point: codes' values, gates and scales by feature and token, values by token. -/
structure Data where
  q : ℕ → ℕ → ℝ
  k : ℕ → ℕ → ℝ
  g : ℕ → ℕ → ℝ
  s : ℕ → ℕ → ℝ
  b : ℕ → ℝ
  v : ℕ → ℕ → ℝ

/-- The sums the gate product takes: to the left tokens up to this one, to the right tokens after it, of the same chunk. -/
def triR (x j : ℕ) : ℝ :=
  if j < 128 then (if x / 64 = j / 64 ∧ x ≤ j then 1 else 0) else (if x / 64 = (j - 128) / 64 ∧ j - 128 < x then 1 else 0)

namespace Data
variable (w : Data)

/-- The head's inputs as the kernel holds them. -/
def toIn : In Ideal where
  q := cm4 192 128 w.q
  k := cm4 192 128 w.k
  g := cm4 192 128 w.g
  tri := cm 128 256 triR
  s := fun i => cm4 1 128 fun _ t => w.s i.val t
  bcol := cm 128 1 fun t _ => w.b t
  brow := cm4 1 128 fun _ t => w.b t
  v0 := cm4 64 128 w.v
  v1 := cm4 64 128 fun t e => w.v (64 + t) e

/-- One of the head's two chunks. -/
def chunk (c : ℕ) : Chunk where
  q t d := w.q d (64 * c + t) * w.s (d / 32) (64 * c + t)
  k t d := w.k d (64 * c + t) * w.s (6 + d / 32) (64 * c + t)
  g t d := w.g d (64 * c + t)
  v t e := w.v (64 * c + t) e
  b t := w.b (64 * c + t)

/-- The gate product's entries. -/
def C (d j : ℕ) : ℝ := ∑ x ∈ range 128, w.g d x * triR x j

theorem upto (f : ℕ → ℝ) (t : ℕ) (ht : t < 64) : ∑ x ∈ range 64, f x * (if x ≤ t then 1 else 0) = ∑ x ∈ range (t + 1), f x := by
  rw [← Finset.sum_subset (s₁ := range (t + 1)) (Finset.range_subset_range.mpr (by omega))]
  · exact Finset.sum_congr rfl fun x hx => by rw [if_pos (by have := Finset.mem_range.mp hx; omega), mul_one]
  · intro x hx hx'
    rw [if_neg (by have := Finset.mem_range.not.mp hx'; omega), mul_zero]

theorem after (f : ℕ → ℝ) (t : ℕ) (ht : t < 64) :
    ∑ x ∈ range 64, f x * (if t < x then 1 else 0) = (∑ x ∈ range (63 + 1), f x) - ∑ x ∈ range (t + 1), f x := by
  rw [← upto f t ht, ← Finset.sum_sub_distrib]
  refine Finset.sum_congr rfl fun x _ => ?_
  split_ifs <;> first | (exfalso; omega) | ring

theorem halves (f : ℕ → ℝ) : ∑ x ∈ range 128, f x = (∑ x ∈ range 64, f x) + ∑ x ∈ range 64, f (64 + x) := by
  rw [show 128 = 64 + 64 from rfl, Finset.sum_range_add]

theorem chunkSum (f : ℕ → ℝ) (P : ℕ → Prop) [DecidablePred P] (c : ℕ) (hc : c < 2) :
    ∑ x ∈ range 128, f x * (if x / 64 = c ∧ P x then 1 else 0) = ∑ x ∈ range 64, f (64 * c + x) * (if P (64 * c + x) then 1 else 0) := by
  rw [halves]
  have hx : ∀ x ∈ range 64, x < 64 := fun x hx => Finset.mem_range.mp hx
  match c, hc with
  | 0, _ =>
    rw [Finset.sum_eq_zero (s := range 64) (f := fun x => f (64 + x) * _) fun x h => by
      rw [if_neg (by have := hx x h; omega), mul_zero], add_zero]
    exact Finset.sum_congr rfl fun x h => by
      have e : (x / 64 = 0 ∧ P x) = P (64 * 0 + x) := by
        rw [show 64 * 0 + x = x by omega]
        exact propext ⟨fun a => a.2, fun a => ⟨by have := hx x h; omega, a⟩⟩
      simp only [e]
      rw [show 64 * 0 + x = x by omega]
  | 1, _ =>
    rw [Finset.sum_eq_zero (s := range 64) (f := fun x => f x * _) fun x h => by
      rw [if_neg (by have := hx x h; omega), mul_zero], zero_add]
    exact Finset.sum_congr rfl fun x h => by
      have e : ((64 + x) / 64 = 1 ∧ P (64 + x)) = P (64 * 1 + x) :=
        propext ⟨fun a => a.2, fun a => ⟨by have := hx x h; omega, a⟩⟩
      simp only [e]

theorem C_pos (c : ℕ) (hc : c < 2) (t : ℕ) (ht : t < 64) (d : ℕ) : w.C d (64 * c + t) = (w.chunk c).gc t d := by
  unfold C triR Chunk.gc
  have h1 : 64 * c + t < 128 := by omega
  simp only [h1, if_true]
  rw [show (64 * c + t) / 64 = c by omega, chunkSum (fun x => w.g d x) (fun x => x ≤ 64 * c + t) c hc, ← upto _ t ht]
  refine Finset.sum_congr rfl fun x _ => ?_
  have e : (64 * c + x ≤ 64 * c + t) = (x ≤ t) := propext ⟨fun _ => by omega, fun _ => by omega⟩
  simp only [e]
  rfl

theorem C_dec (c : ℕ) (hc : c < 2) (t : ℕ) (ht : t < 64) (d : ℕ) :
    w.C d (128 + (64 * c + t)) = (w.chunk c).gc 63 d - (w.chunk c).gc t d := by
  unfold C triR Chunk.gc
  have h1 : ¬128 + (64 * c + t) < 128 := by omega
  simp only [h1, if_false]
  rw [show (128 + (64 * c + t) - 128) / 64 = c by omega, show 128 + (64 * c + t) - 128 = 64 * c + t by omega,
    chunkSum (fun x => w.g d x) (fun x => 64 * c + t < x) c hc]
  rw [← after (fun x => (w.chunk c).g x d) t ht]
  refine Finset.sum_congr rfl fun x _ => ?_
  have e : (64 * c + t < 64 * c + x) = (t < x) := propext ⟨fun _ => by omega, fun _ => by omega⟩
  simp only [e]
  rfl

theorem cs_eq : w.toIn.cs = cm 192 256 w.C := gateSums_cm w.g triR
theorem qs_eq : w.toIn.qs = cm 192 128 (fun d t => w.q d t * w.s (d / 32) t) := dequant_cm w.q w.s
theorem ks_eq : w.toIn.ks = cm 192 128 (fun d t => w.k d t * w.s (6 + d / 32) t) := dequant_cm w.k (fun i t => w.s (6 + i) t)

/-- The keys' other products by feature and token. -/
def knegR (d l : ℕ) : ℝ := (w.chunk (l / 64)).kneg (l % 64) d
def kdecR (d l : ℕ) : ℝ := (w.chunk (l / 64)).kdec (l % 64) d

theorem kneg_eq : w.toIn.kneg = cm 192 128 w.knegR := by
  unfold In.kneg
  rw [ks_eq, cs_eq, eNeg_cm, mulf_cm]
  refine cm_congr fun d l _ hl => ?_
  have e : 64 * (l / 64) + l % 64 = l := Nat.div_add_mod l 64
  unfold knegR Chunk.kneg
  rw [← C_pos w _ (by omega) _ (by omega), e]
  show _ = w.k d (64 * (l / 64) + l % 64) * w.s (6 + d / 32) (64 * (l / 64) + l % 64) * _
  rw [e]

theorem kdec_eq : w.toIn.kdec = cm 192 128 w.kdecR := by
  unfold In.kdec
  rw [ks_eq, cs_eq, eDec_cm, mulf_cm]
  refine cm_congr fun d l _ hl => ?_
  have e : 64 * (l / 64) + l % 64 = l := Nat.div_add_mod l 64
  unfold kdecR Chunk.kdec
  rw [← C_dec w _ (by omega) _ (by omega), e]
  show _ = w.k d (64 * (l / 64) + l % 64) * w.s (6 + d / 32) (64 * (l / 64) + l % 64) * _
  rw [e]

/-- A chunk's keys above its queries. -/
def pqR (c i d : ℕ) : ℝ := if i < 64 then (w.chunk c).kpos i d else (w.chunk c).qpos (i - 64) d

theorem pqa_eq : w.toIn.pqa = cm 128 192 (w.pqR 0) := by
  unfold In.pqa
  rw [qs_eq, ks_eq, cs_eq, ePos_cm, pq0_cm]
  refine cm_congr fun i d hi hd => ?_
  unfold pqR Chunk.kpos Chunk.qpos
  split_ifs with h
  · rw [← C_pos w 0 (by omega) i h d]
    show _ = w.k d (64 * 0 + i) * w.s (6 + d / 32) (64 * 0 + i) * _
    simp only [Nat.mul_zero, Nat.zero_add]
  · rw [← C_pos w 0 (by omega) (i - 64) (by omega) d]
    show _ = w.q d (64 * 0 + (i - 64)) * w.s (d / 32) (64 * 0 + (i - 64)) * _
    simp only [Nat.mul_zero, Nat.zero_add]

theorem pqb_eq : w.toIn.pqb = cm 128 192 (w.pqR 1) := by
  unfold In.pqb
  rw [qs_eq, ks_eq, cs_eq, ePos_cm, pq1_cm]
  refine cm_congr fun i d hi hd => ?_
  unfold pqR Chunk.kpos Chunk.qpos
  split_ifs with h
  · rw [← C_pos w 1 (by omega) i h d]
    show _ = w.k d (64 * 1 + i) * w.s (6 + d / 32) (64 * 1 + i) * _
    simp only [Nat.mul_one]
  · rw [← C_pos w 1 (by omega) (i - 64) (by omega) d]
    show _ = w.q d (64 * 1 + (i - 64)) * w.s (d / 32) (64 * 1 + (i - 64)) * _
    simp only [Nat.mul_one, show 64 + (i - 64) = i by omega]

/-- The two chunks' systems side by side. -/
def kkR (t l : ℕ) : ℝ := (w.chunk (l / 64)).A t (l % 64)
def qkR (t l : ℕ) : ℝ := (w.chunk (l / 64)).Q t (l % 64)

theorem kk_eq : w.toIn.kk = cm 64 128 w.kkR := by
  unfold In.kk
  rw [pqa_eq, pqb_eq, kneg_eq, dotPK_cm, dotPK_cm]
  refine (akk_cm w.b _ _).trans (cm_congr fun t l ht hl => ?_)
  unfold akkR kkR Chunk.A
  have hc : l / 64 = 0 ∨ l / 64 = 1 := by omega
  by_cases h1 : l % 64 < t
  · rw [if_pos h1, if_pos h1]
    rcases hc with hc | hc
    · rw [if_pos (by omega), hc]
      show _ = w.b (64 * 0 + t) * _
      rw [show 64 * 0 + t = t by omega]
      exact congrArg _ (Finset.sum_congr rfl fun d _ => by unfold pqR knegR; rw [if_pos ht, hc])
    · rw [if_neg (by omega), hc]
      show _ = w.b (64 * 1 + t) * _
      exact congrArg _ (Finset.sum_congr rfl fun d _ => by unfold pqR knegR; rw [if_pos ht, hc])
  · rw [if_neg h1, if_neg h1]

theorem qk_eq : w.toIn.qk = cm 64 128 w.qkR := by
  unfold In.qk
  rw [pqa_eq, pqb_eq, kneg_eq, dotPK_cm, dotPK_cm]
  refine (aqk_cm _ _).trans (cm_congr fun t l ht hl => ?_)
  unfold qkR Chunk.Q
  have hc : l / 64 = 0 ∨ l / 64 = 1 := by omega
  by_cases h1 : l % 64 ≤ t
  · rw [if_pos h1, if_pos h1]
    rcases hc with hc | hc
    · rw [if_pos (by omega), hc]
      exact Finset.sum_congr rfl fun d _ => by unfold pqR knegR; rw [if_neg (by omega), hc, show 64 + t - 64 = t by omega]
    · rw [if_neg (by omega), hc]
      exact Finset.sum_congr rfl fun d _ => by unfold pqR knegR; rw [if_neg (by omega), hc, show 64 + t - 64 = t by omega]
  · rw [if_neg h1, if_neg h1]

/-- The two chunks' inverses side by side. -/
def T : ℕ → ℕ → ℝ := tR w.kkR (subR (diagR w.kkR) 31)

theorem tb_eq : w.toIn.tb = cm 64 128 (fun t l => w.T t l * w.b l) := by
  unfold In.tb
  rw [kk_eq, diag_cm, dinv_cm, tInv_cm]
  exact tBeta_cm _ w.b

theorem T_inv (c : ℕ) (hc : c < 2) (t s : ℕ) (ht : t < 64) (hs : s < 64) :
    w.T t (64 * c + s) + ∑ x ∈ range 64, (w.chunk c).A t x * w.T x (64 * c + s) = if s = t then 1 else 0 := by
  have h := tR_inv w.kkR (fun t _ l _ h => (w.chunk _).A_upper t _ h) t ht (64 * c + s) (by omega)
  have e1 : (64 * c + s) / 64 = c := by omega
  have e2 : (64 * c + s) % 64 = s := by omega
  rw [e1, e2] at h
  rw [← h]
  congr 1
  refine Finset.sum_congr rfl fun x hx => ?_
  have hx := Finset.mem_range.mp hx
  unfold kkR
  rw [show (64 * c + x) / 64 = c by omega, show (64 * c + x) % 64 = x by omega]
  rfl

/-- The inverse applied to the rated residuals solves the chunk's system. -/
theorem sol (c : ℕ) (hc : c < 2) (S : ℕ → ℕ → ℝ) (e t : ℕ) (ht : t < 64) :
    ∑ s ∈ range 64, (w.T t (64 * c + s) * w.b (64 * c + s)) * ((w.chunk c).v s e - ∑ d ∈ range 192, (w.chunk c).kpos s d * S d e)
      = (w.chunk c).u S t e := by
  refine (w.chunk c).u_unique S e (fun t => ∑ s ∈ range 64, (w.T t (64 * c + s) * w.b (64 * c + s))
    * ((w.chunk c).v s e - ∑ d ∈ range 192, (w.chunk c).kpos s d * S d e)) (fun t ht => ?_) t ht
  have hr : ∀ s, (w.chunk c).r S s e = w.b (64 * c + s) * ((w.chunk c).v s e - ∑ d ∈ range 192, (w.chunk c).kpos s d * S d e) := fun s => rfl
  have h1 : ∀ t, ∑ s ∈ range 64, (w.T t (64 * c + s) * w.b (64 * c + s)) * ((w.chunk c).v s e - ∑ d ∈ range 192, (w.chunk c).kpos s d * S d e)
      = ∑ s ∈ range 64, w.T t (64 * c + s) * (w.chunk c).r S s e := fun t => Finset.sum_congr rfl fun s _ => by rw [hr]; ring
  simp only [h1]
  have h2 : ∑ x ∈ range 64, (w.chunk c).A t x * ∑ s ∈ range 64, w.T x (64 * c + s) * (w.chunk c).r S s e
      = ∑ s ∈ range 64, (∑ x ∈ range 64, (w.chunk c).A t x * w.T x (64 * c + s)) * (w.chunk c).r S s e := by
    simp only [Finset.mul_sum, Finset.sum_mul]
    rw [Finset.sum_comm]
    exact Finset.sum_congr rfl fun _ _ => Finset.sum_congr rfl fun _ _ => by ring
  rw [h2, ← Finset.sum_add_distrib]
  have h3 : ∀ s ∈ range 64, w.T t (64 * c + s) * (w.chunk c).r S s e + (∑ x ∈ range 64, (w.chunk c).A t x * w.T x (64 * c + s)) * (w.chunk c).r S s e
      = if s = t then (w.chunk c).r S s e else 0 := fun s hs => by
    rw [← add_mul, T_inv w c hc t s ht (Finset.mem_range.mp hs)]
    split_ifs <;> simp
  rw [Finset.sum_congr rfl h3, Finset.sum_ite_eq' (range 64) t, if_pos (Finset.mem_range.mpr ht)]

theorem psa_eq (S : ℕ → ℕ → ℝ) : w.toIn.psa (cm4 192 128 S) = cm 128 128 (fun i e => ∑ d ∈ range 192, w.pqR 0 i d * S d e) := by
  unfold In.psa
  rw [pqa_eq, stMat_cm, pState_cm]
theorem psb_eq (S : ℕ → ℕ → ℝ) : w.toIn.psb (cm4 192 128 S) = cm 128 128 (fun i e => ∑ d ∈ range 192, w.pqR 1 i d * S d e) := by
  unfold In.psb
  rw [pqb_eq, stMat_cm, pState_cm]

/-- The stacked product of a chunk: outputs above, the state's additions below. -/
def xR (c : ℕ) (S : ℕ → ℕ → ℝ) (i e : ℕ) : ℝ :=
  if i < 64 then ∑ s ∈ range 64, (w.chunk c).Q i s * (w.chunk c).u S s e else ∑ s ∈ range 64, (w.chunk c).kdec s (i - 64) * (w.chunk c).u S s e

theorem xa_eq (S : ℕ → ℕ → ℝ) : w.toIn.xa (cm4 192 128 S) = cm 256 128 (w.xR 0 S) := by
  unfold In.xa
  rw [qk_eq, kdec_eq, tb_eq, psa_eq]
  have e1 : resid (F := Ideal) w.toIn.v0 (cm 128 128 (fun i e => ∑ d ∈ range 192, w.pqR 0 i d * S d e))
      = cm 64 128 (fun t e => w.v t e - ∑ d ∈ range 192, w.pqR 0 t d * S d e) := resid_cm _ _
  rw [e1, u0_cm]
  have e2 : ∀ i < 64, ∀ e, ∑ s ∈ range 64, w.T i s * w.b s * (w.v s e - ∑ d ∈ range 192, w.pqR 0 s d * S d e) = (w.chunk 0).u S i e := fun i hi e => by
    rw [← sol w 0 (by omega) S e i hi]
    refine Finset.sum_congr rfl fun s hs => ?_
    have hs := Finset.mem_range.mp hs
    show _ = w.T i (64 * 0 + s) * w.b (64 * 0 + s) * (w.v (64 * 0 + s) e - _)
    unfold pqR
    simp only [hs, if_true, Nat.mul_zero, Nat.zero_add]
  rw [cm_congr fun i e hi _ => e2 i hi e, x0_cm]
  refine cm_congr fun i e hi he => ?_
  unfold xR qkR kdecR
  split_ifs with h
  · exact Finset.sum_congr rfl fun s hs => by
      have hs := Finset.mem_range.mp hs
      rw [show s / 64 = 0 by omega, show s % 64 = s by omega]
  · exact Finset.sum_congr rfl fun s hs => by
      have hs := Finset.mem_range.mp hs
      rw [show s / 64 = 0 by omega, show s % 64 = s by omega]

theorem xb_eq (S : ℕ → ℕ → ℝ) : w.toIn.xb (cm4 192 128 S) = cm 256 128 (w.xR 1 S) := by
  unfold In.xb
  rw [qk_eq, kdec_eq, tb_eq, psb_eq]
  have e1 : resid (F := Ideal) w.toIn.v1 (cm 128 128 (fun i e => ∑ d ∈ range 192, w.pqR 1 i d * S d e))
      = cm 64 128 (fun t e => w.v (64 + t) e - ∑ d ∈ range 192, w.pqR 1 t d * S d e) := resid_cm (fun t e => w.v (64 + t) e) _
  rw [e1, u1_cm]
  have e2 : ∀ i < 64, ∀ e, ∑ s ∈ range 64, w.T i (64 + s) * w.b (64 + s) * (w.v (64 + s) e - ∑ d ∈ range 192, w.pqR 1 s d * S d e) = (w.chunk 1).u S i e := fun i hi e => by
    rw [← sol w 1 (by omega) S e i hi]
    refine Finset.sum_congr rfl fun s hs => ?_
    have hs := Finset.mem_range.mp hs
    show _ = w.T i (64 * 1 + s) * w.b (64 * 1 + s) * (w.v (64 * 1 + s) e - _)
    unfold pqR
    simp only [hs, if_true, Nat.mul_one]
  rw [cm_congr fun i e hi _ => e2 i hi e, x1_cm]
  refine cm_congr fun i e hi he => ?_
  unfold xR qkR kdecR
  split_ifs with h
  · exact Finset.sum_congr rfl fun s hs => by
      have hs := Finset.mem_range.mp hs
      rw [show (64 + s) / 64 = 1 by omega, show (64 + s) % 64 = s by omega]
  · exact Finset.sum_congr rfl fun s hs => by
      have hs := Finset.mem_range.mp hs
      rw [show (64 + s) / 64 = 1 by omega, show (64 + s) % 64 = s by omega]

theorem cm3_congr {n m : ℕ} {X Y : ℕ → ℕ → ℝ} (h : ∀ i j, i < n → j < m → X i j = Y i j) : cm3 n m X = cm3 n m Y :=
  funext fun ix => congrArg _ (h _ _ (ix 1).isLt (ix 2).isLt)

theorem out_eq (c : ℕ) (S : ℕ → ℕ → ℝ) (t e : ℕ) (ht : t < 64) :
    scaleR * ((∑ d ∈ range 192, w.pqR c (64 + t) d * S d e) + w.xR c S t e) = (w.chunk c).out scaleR S t e := by
  unfold pqR xR Chunk.out
  simp only [show ¬64 + t < 64 by omega, if_false, ht, if_true, show 64 + t - 64 = t by omega]

/-- The first chunk's output. -/
theorem oa_eq (S : ℕ → ℕ → ℝ) : w.toIn.oa (cm4 192 128 S) = cm3 64 128 ((w.chunk 0).out scaleR S) := by
  unfold In.oa
  rw [psa_eq, xa_eq, outMat_cm]
  exact cm3_congr fun t e ht _ => out_eq w 0 S t e ht
/-- The second chunk's output. -/
theorem ob_eq (S : ℕ → ℕ → ℝ) : w.toIn.ob (cm4 192 128 S) = cm3 64 128 ((w.chunk 1).out scaleR S) := by
  unfold In.ob
  rw [psb_eq, xb_eq, outMat_cm]
  exact cm3_congr fun t e ht _ => out_eq w 1 S t e ht

theorem next_eq (c : ℕ) (hc : c < 2) (S : ℕ → ℕ → ℝ) (d e : ℕ) :
    Real.exp (w.C d (64 * c + 63)) * S d e + w.xR c S (64 + d) e = (w.chunk c).next S d e := by
  unfold xR Chunk.next
  rw [C_pos w c hc 63 (by omega), if_neg (by omega), show 64 + d - 64 = d by omega]

/-- The state after the first chunk. -/
theorem sa_eq (S : ℕ → ℕ → ℝ) : w.toIn.sa (cm4 192 128 S) = cm4 192 128 ((w.chunk 0).next S) := by
  unfold In.sa
  rw [stMat_cm, xa_eq, cs_eq, ePos_cm, slice_cm]
  refine (newState_cm (fun d => Real.exp (w.C d 63)) S _ |> Eq.trans ?_).trans (cm4_congr fun d e _ _ => next_eq w 0 (by omega) S d e)
  · exact congrArg (fun z => newState (F := Ideal) z _ _) (cm_congr fun d j _ hj => by
      rw [Nat.zero_add, show 63 + j = 63 by omega])
/-- The state after the second chunk. -/
theorem sb_eq (S : ℕ → ℕ → ℝ) : w.toIn.sb (cm4 192 128 S) = cm4 192 128 ((w.chunk 1).next S) := by
  unfold In.sb
  rw [stMat_cm, xb_eq, cs_eq, ePos_cm, slice_cm]
  refine (newState_cm (fun d => Real.exp (w.C d 127)) S _ |> Eq.trans ?_).trans (cm4_congr fun d e _ _ => next_eq w 1 (by omega) S d e)
  · exact congrArg (fun z => newState (F := Ideal) z _ _) (cm_congr fun d j _ hj => by
      rw [Nat.zero_add, show 127 + j = 127 by omega])

end Data

end Cert.KernelIdeal.HeadValue

end
-- ==== Proof.BlockValue.lean ====
/-  One grid point on real blocks: what the body leaves in the block of outputs and in the block of states, head by head. -/
module

public import proofs.«01_k».proof.Proof.Pieces
public import proofs.«01_k».proof.Proof.HeadValue
public import Idealize.ShloMosaic.Lib.WholeRead
public import Idealize.ShloMosaic.Lib.Pipeline.ReadBack
public import Idealize.ShloMosaic.Lib.Pipeline.ValueKit.Geometry

@[expose] public section

set_option maxRecDepth 16384

noncomputable section

namespace Cert.KernelIdeal.BlockValue

open Idealize.ShloMosaic Idealize.ShloMosaic.TcCoe Idealize.ShloMosaic.ValueIdx Cert.KernelIdeal Cert.KernelIdeal.Gen
open Cert.KernelIdeal.Head Cert.KernelIdeal.RealMat Cert.KernelIdeal.Pieces Cert.KernelIdeal.HeadValue Cert.Spec
open Cert.KernelIdeal.Stages (scaleR)

/-- A block of matrices, one for each head. -/
def blk (a n m : ℕ) (X : ℕ → ℕ → ℕ → ℝ) : (⟨4, ![1, a, n, m]⟩ : Shape).Idx → EReal := fun ix => ((X (ix 1).val (ix 2).val (ix 3).val : ℝ) : EReal)

theorem blk_congr {a n m : ℕ} {X Y : ℕ → ℕ → ℕ → ℝ} (h : ∀ j d e, j < a → d < n → e < m → X j d e = Y j d e) : blk a n m X = blk a n m Y :=
  funext fun ix => congrArg _ (h _ _ _ (ix 1).isLt (ix 2).isLt (ix 3).isLt)

/-- The rows of scales and rates of one head. -/
def auxR (w : Data) (r t : ℕ) : ℝ := if r < 12 then w.s r t else if r = 12 then w.b t else 0

section Loads
variable {e : EltTy} {a n m : ℕ}

/-- A load of rows `o`, `o + 1`, … of one head's matrix. -/
theorem load_blk {sp : Space} (arg : Memref sig .tc sp ⟨4, ![1, a, n, m]⟩ e) (harg : arg.IsWhole) (X : ℕ → ℕ → ℕ → ℝ)
    (x : (⟨4, ![1, a, n, m]⟩ : Shape).Idx → Elt Ideal e) (he : Elt Ideal e = EReal) (hx : ∀ ix, cast he (x ix) = blk a n m X ix) (j o k : ℕ)
    (inb : ∀ q, (![0, j, o, 0] : Fin 4 → ℕ) q + (![1, 1, k, m] : Fin 4 → ℕ) q ≤ (⟨4, ![1, a, n, m]⟩ : Shape).size q)
    (ix : (⟨4, ![1, 1, k, m]⟩ : Shape).Idx) :
    cast he (View.readAt (Elt Ideal) arg.view (Rect.unit (s := ⟨4, ![1, a, n, m]⟩) ![0, j, o, 0] ![1, 1, k, m] inb).toLoadRect (harg.unread x) ix)
      = cm4 k m (fun r c => X j (o + r) c) ix := by
  rw [harg.readAt_unread, hx]
  have h1 : (ix 1).val = 0 := by have h1 : (ix 1).val < 1 := (ix 1).isLt; omega
  show ((X _ _ _ : ℝ) : EReal) = ((X _ _ _ : ℝ) : EReal)
  congr 2
  · show j + 1 * ((ix 1).val) = j; omega
  · show o + 1 * ((ix 2).val) = o + (ix 2).val; omega
  · show 0 + 1 * ((ix 3).val) = (ix 3).val; omega
end Loads

theorem betaCols_cm (b0 b1 b2 b3 : ℕ → ℝ) (j : Fin 4) :
    extractStridedSlice S128x1 ![0, j.val] (betaCols (F := Ideal) (cm4 1 128 fun _ t => b0 t) (cm4 1 128 fun _ t => b1 t) (cm4 1 128 fun _ t => b2 t)
      (cm4 1 128 fun _ t => b3 t)) (slicesCol j) = cm 128 1 (fun t _ => ![b0, b1, b2, b3] j t) := by
  unfold betaCols
  rw [drop4_cm, drop4_cm, drop4_cm, drop4_cm, bzeroF32]
  have e1 : concatenate S8x128 0 [⟨S1x128, cm 1 128 fun _ t => b0 t⟩, ⟨S1x128, cm 1 128 fun _ t => b1 t⟩, ⟨S1x128, cm 1 128 fun _ t => b2 t⟩,
      ⟨S1x128, cm 1 128 fun _ t => b3 t⟩, ⟨S4x128, cm 4 128 fun _ _ => 0⟩] concatenates_S1x128_S1x128_S1x128_S1x128_S4x128_S8x128_d0
      = cm 8 128 (under [(1, fun _ t => b0 t), (1, fun _ t => b1 t), (1, fun _ t => b2 t), (1, fun _ t => b3 t), (4, fun _ _ => 0)]) :=
    under_cm [(1, fun _ t => b0 t), (1, fun _ t => b1 t), (1, fun _ t => b2 t), (1, fun _ t => b3 t), (4, fun _ _ => 0)] _
  rw [e1, transpose_cm]
  refine (slice_cm ..).trans (cm_congr fun t o ht ho => ?_)
  have ho : o = 0 := by omega
  subst ho
  fin_cases j <;> simp [under]

section
variable (c : Dev nD) (i : grid0.Coords) (arg3 : Memref sig .tc .vmem S1x4x192x128 .fp8e4m3) (harg3 : arg3.IsWhole) (arg4 : Memref sig .tc .vmem S1x4x192x128 .fp8e4m3) (harg4 : arg4.IsWhole) (arg5 : Memref sig .tc .vmem S1x4x192x128 .f32) (harg5 : arg5.IsWhole) (arg6 : Memref sig .tc .vmem S1x4x128x128 .bf16) (harg6 : arg6.IsWhole) (arg7 : Memref sig .tc .vmem S1x4x16x128 .f32) (harg7 : arg7.IsWhole) (arg8 : Memref sig .tc .vmem S128x256 .bf16) (harg8 : arg8.IsWhole) (arg9 : Memref sig .tc .vmem S1x4x192x128 .f32) (harg9 : arg9.IsWhole) (arg10 : Memref sig .tc .vmem S1x128x512 .bf16) (harg10 : arg10.IsWhole) (arg11 : Memref sig .tc .vmem S1x4x192x128 .f32) (harg11 : arg11.IsWhole)
    (W : ℕ → Data) (S : ℕ → ℕ → ℕ → ℝ)

/-- What head `j` loads is its real data. -/
theorem rawIn_eq (j : Fin 4) :
    rawIn (F := Ideal) arg3 harg3 arg4 harg4 arg5 harg5 arg6 harg6 arg7 harg7 arg8 harg8 (blk 4 192 128 fun j => (W j).q) (blk 4 192 128 fun j => (W j).k)
      (blk 4 192 128 fun j => (W j).g) (blk 4 128 128 fun j => (W j).v) (blk 4 16 128 fun j => auxR (W j)) (cm 128 256 triR) j = (W j.val).toIn := by
  have hz : ∀ X : ℕ → ℕ → ℝ, (fun r c => X (0 + r) c) = X := fun X => by funext r c; rw [Nat.zero_add]
  have hq : View.readAt (Elt Ideal) arg3.view (rState j).toLoadRect (harg3.unread (blk 4 192 128 fun j => (W j).q)) = cm4 192 128 (W j.val).q := by
    funext ix; exact (load_blk arg3 harg3 (fun j => (W j).q) (blk 4 192 128 fun j => (W j).q) rfl (fun _ => rfl) j.val 0 192 _ ix).trans (congrFun (congrArg (cm4 192 128) (hz _)) ix)
  have hk : View.readAt (Elt Ideal) arg4.view (rState j).toLoadRect (harg4.unread (blk 4 192 128 fun j => (W j).k)) = cm4 192 128 (W j.val).k := by
    funext ix; exact (load_blk arg4 harg4 (fun j => (W j).k) (blk 4 192 128 fun j => (W j).k) rfl (fun _ => rfl) j.val 0 192 _ ix).trans (congrFun (congrArg (cm4 192 128) (hz _)) ix)
  have hg : View.readAt (Elt Ideal) arg5.view (rState j).toLoadRect (harg5.unread (blk 4 192 128 fun j => (W j).g)) = cm4 192 128 (W j.val).g := by
    funext ix; exact (load_blk arg5 harg5 (fun j => (W j).g) (blk 4 192 128 fun j => (W j).g) rfl (fun _ => rfl) j.val 0 192 _ ix).trans (congrFun (congrArg (cm4 192 128) (hz _)) ix)
  have ha : ∀ (j : Fin 4) (r : Fin 16), View.readAt (Elt Ideal) arg7.view (rAux j r).toLoadRect (harg7.unread (blk 4 16 128 fun j => auxR (W j)))
      = cm4 1 128 (fun _ t => auxR (W j.val) r.val t) := fun j r => by
    funext ix
    refine (load_blk arg7 harg7 (fun j => auxR (W j)) (blk 4 16 128 fun j => auxR (W j)) rfl (fun _ => rfl) j.val r.val 1 _ ix).trans ?_
    refine congrFun (cm4_congr fun o t ho _ => ?_) ix
    rw [show r.val + o = r.val by omega]
  have hb : ∀ j : Fin 4, View.readAt (Elt Ideal) arg7.view (rAux j 12).toLoadRect (harg7.unread (blk 4 16 128 fun j => auxR (W j)))
      = cm4 1 128 (fun _ t => (W j.val).b t) := fun j => ha j 12
  have ht : View.readAt (Elt Ideal) arg8.view rTri.toLoadRect (harg8.unread (cm 128 256 triR)) = cm 128 256 triR := by
    funext ix
    rw [harg8.readAt_unread]
    show ((triR _ _ : ℝ) : EReal) = ((triR _ _ : ℝ) : EReal)
    congr 2
    · show 0 + 1 * ((ix 0).val) = (ix 0).val; omega
    · show 0 + 1 * ((ix 1).val) = (ix 1).val; omega
  have hv0 : View.readAt (Elt Ideal) arg6.view (rVal j 0).toLoadRect (harg6.unread (blk 4 128 128 fun j => (W j).v)) = cm4 64 128 (W j.val).v := by
    funext ix; exact (load_blk arg6 harg6 (fun j => (W j).v) (blk 4 128 128 fun j => (W j).v) rfl (fun _ => rfl) j.val 0 64 _ ix).trans (congrFun (congrArg (cm4 64 128) (hz _)) ix)
  have hv1 : View.readAt (Elt Ideal) arg6.view (rVal j 1).toLoadRect (harg6.unread (blk 4 128 128 fun j => (W j).v)) = cm4 64 128 (fun t e => (W j.val).v (64 + t) e) := by
    funext ix; exact load_blk arg6 harg6 (fun j => (W j).v) (blk 4 128 128 fun j => (W j).v) rfl (fun _ => rfl) j.val 64 64 _ ix
  unfold rawIn Data.toIn
  rw [hq, hk, hg, ht, hv0, hv1, hb j, hb 0, hb 1, hb 2, hb 3, betaCols_cm]
  have hs : (fun r : Fin 12 => View.readAt (Elt Ideal) arg7.view (rAux j ⟨r.val, by omega⟩).toLoadRect (harg7.unread (blk 4 16 128 fun j => auxR (W j))))
      = fun r : Fin 12 => cm4 1 128 (fun _ t => (W j.val).s r.val t) := by
    funext r
    rw [ha j ⟨r.val, by omega⟩]
    simp only [auxR, r.isLt, if_true]
  rw [hs]
  congr 1
  fin_cases j <;> rfl

/-! ## States -/

theorem mem_state {j : Fin 4} {y : S1x4x192x128.Idx} (h : y ∈ (rState j).set) : (y 1).val = j.val := by
  obtain ⟨x, rfl⟩ := (rState j).exists_idx_of_mem h
  have h1 : (x 1).val = 0 := by have h1 : (x 1).val < 1 := (x 1).isLt; omega
  show j.val + 1 * ((x 1).val) = j.val; omega

theorem state_emb (j : Fin 4) (y : S1x4x192x128.Idx) (h : (y 1).val = j.val) : (rState j).emb (ix4 0 0 (y 2) (y 3)) = y := by
  funext a
  refine Fin.ext ?_
  match a with
  | 0 => show 0 + 1 * 0 = (y 0).val; have h0 : (y 0).val < 1 := (y 0).isLt; omega
  | 1 => show j.val + 1 * 0 = (y 1).val; omega
  | 2 => show 0 + 1 * ((y 2).val) = (y 2).val; omega
  | 3 => show 0 + 1 * ((y 3).val) = (y 3).val; omega

/-- The state after both chunks. -/
def next2 (w : Data) (S : ℕ → ℕ → ℝ) : ℕ → ℕ → ℝ := (w.chunk 1).next ((w.chunk 0).next S)

theorem canon_skip {s : Shape} {e : EltTy} (r : Rect s) (v : r.shape.Idx → Elt Ideal e) (L : List (View.Piece (Elt Ideal) s e)) {y : s.Idx} (hn : y ∉ r.set) :
    View.canon ((⟨r, v⟩ : View.Piece (Elt Ideal) s e) :: L) y = View.canon L y := View.canon_cons_of_not_mem ⟨r, v⟩ L hn

theorem canon_addHead (w : Data) (S : ℕ → ℕ → ℝ) (j : Fin 4) (L : List (View.Piece (Elt Ideal) S1x4x192x128 .f32)) (y : S1x4x192x128.Idx) :
    View.canon (addHead arg11 w.toIn j (cm4 192 128 S) L) y = if (y 1).val = j.val then ((next2 w S (y 2).val (y 3).val : ℝ) : EReal) else View.canon L y := by
  unfold addHead
  split_ifs with hy
  · refine (congrArg _ (state_emb j y hy).symm).trans ((View.canon_cons_emb _ _ _ _).trans ?_)
    rw [View.readCov_cons_toLoadRect, w.sa_eq, w.sb_eq]
    rfl
  · have hn : y ∉ (rState j).set := fun hm => hy (mem_state hm)
    rw [canon_skip _ _ _ hn, canon_skip _ _ _ hn]

theorem readCov_addHead (g : In Ideal) (i j : Fin 4) (hij : i ≠ j) (x : Vec Ideal S1x1x192x128 .f32) (L : List (View.Piece (Elt Ideal) S1x4x192x128 .f32)) :
    arg11.view.readCov (addHead arg11 g i x L) (rState j).toLoadRect = arg11.view.readCov L (rState j).toLoadRect := by
  have hd : LoadRect.disj (rState i) (rState j).toLoadRect = true := by
    revert i j; decide
  unfold addHead
  rw [View.readCov_skip _ _ _ _ _ hd, View.readCov_skip _ _ _ _ _ hd]

theorem stores_eq (h : Fin 4 → In Ideal) (hh : ∀ j, h j = (W j.val).toIn) (first : Fin 4 → List (View.Piece (Elt Ideal) S1x4x192x128 .f32) → Vec Ideal S1x1x192x128 .f32)
    (L0 : List (View.Piece (Elt Ideal) S1x4x192x128 .f32)) (h0 : ∀ j, first j L0 = cm4 192 128 (S j.val))
    (hf : ∀ i j g x L, i ≠ j → first j (addHead arg11 g i x L) = first j L) :
    View.canon (stores arg11 h first L0) = blk 4 192 128 (fun j => next2 (W j) (S j)) := by
  have e1 := fun x => (hf 0 1 (h 0) x L0 (by decide)).trans (h0 1)
  have e2 := fun x y => (hf 1 2 (h 1) y (addHead arg11 (h 0) 0 x L0) (by decide)).trans ((hf 0 2 (h 0) x L0 (by decide)).trans (h0 2))
  have e3 := fun x y z => (hf 2 3 (h 2) z (addHead arg11 (h 1) 1 y (addHead arg11 (h 0) 0 x L0)) (by decide)).trans
    ((hf 1 3 (h 1) y (addHead arg11 (h 0) 0 x L0) (by decide)).trans ((hf 0 3 (h 0) x L0 (by decide)).trans (h0 3)))
  unfold stores
  dsimp only
  rw [e3, e2, e1, h0 0, hh 0, hh 1, hh 2, hh 3]
  funext y
  rw [canon_addHead, canon_addHead, canon_addHead, canon_addHead]
  have hy : (y 1).val < 4 := (y 1).isLt
  unfold blk
  split_ifs with g3 g2 g1 g0
  · rw [g3]
  · rw [g2]
  · rw [g1]
  · rw [g0]
  · exfalso
    have g3 : ¬(y 1).val = 3 := g3
    have g2 : ¬(y 1).val = 2 := g2
    have g1 : ¬(y 1).val = 1 := g1
    have g0 : ¬(y 1).val = 0 := g0
    omega

/-! ## Outputs -/

theorem mem_out {j : Fin 4} {p : Fin 2} {y : S1x128x512.Idx} (h : y ∈ (rOut j p).set) : (y 1).val / 64 = p.val ∧ (y 2).val / 128 = j.val := by
  obtain ⟨x, rfl⟩ := (rOut j p).exists_idx_of_mem h
  have h1 : (x 1).val < 64 := (x 1).isLt
  have h2 : (x 2).val < 128 := (x 2).isLt
  constructor
  · show (64 * p.val + 1 * ((x 1).val)) / 64 = p.val; omega
  · show (128 * j.val + 1 * ((x 2).val)) / 128 = j.val; omega

theorem out_emb (j : Fin 4) (p : Fin 2) (y : S1x128x512.Idx) (h : (y 1).val / 64 = p.val ∧ (y 2).val / 128 = j.val) :
    (rOut j p).emb (ix3 0 ⟨(y 1).val % 64, Nat.mod_lt _ (by decide)⟩ ⟨(y 2).val % 128, Nat.mod_lt _ (by decide)⟩) = y := by
  funext a
  refine Fin.ext ?_
  match a with
  | 0 => show 0 + 1 * 0 = (y 0).val; have h0 : (y 0).val < 1 := (y 0).isLt; omega
  | 1 => show 64 * p.val + 1 * ((y 1).val % 64) = (y 1).val; omega
  | 2 => show 128 * j.val + 1 * ((y 2).val % 128) = (y 2).val; omega

/-- The outputs of one head over both chunks, by token. -/
def out2 (w : Data) (S : ℕ → ℕ → ℝ) (t e : ℕ) : ℝ :=
  if t / 64 = 0 then (w.chunk 0).out scaleR S t e else (w.chunk 1).out scaleR ((w.chunk 0).next S) (t - 64) e

theorem canon_addOut (w : Data) (S : ℕ → ℕ → ℝ) (j : Fin 4) (L : List (View.Piece (Elt Ideal) S1x4x192x128 .f32))
    (O : List (View.Piece (Elt Ideal) S1x128x512 .bf16)) (y : S1x128x512.Idx) :
    View.canon (addOut arg11 w.toIn j (cm4 192 128 S) L O) y
      = if (y 2).val / 128 = j.val then ((out2 w S (y 1).val ((y 2).val % 128) : ℝ) : EReal) else View.canon O y := by
  unfold addOut
  have hy1 : (y 1).val < 128 := (y 1).isLt
  have m : ∀ p : Fin 2, (y 1).val / 64 = p.val → (y 2).val / 128 = j.val →
      y = (rOut j p).emb (ix3 0 ⟨(y 1).val % 64, Nat.mod_lt _ (by decide)⟩ ⟨(y 2).val % 128, Nat.mod_lt _ (by decide)⟩) := fun p h1 h2 => (out_emb j p y ⟨h1, h2⟩).symm
  split_ifs with hy
  · rw [View.readCov_cons_toLoadRect, w.sa_eq, w.oa_eq, w.ob_eq]
    by_cases h1 : (y 1).val / 64 = 0
    · have hn : y ∉ (rOut j 1).set := fun hm => by have h2 : (y 1).val / 64 = 1 := (mem_out hm).1; omega
      rw [canon_skip _ _ _ hn]
      have e : ((out2 w S (y 1).val ((y 2).val % 128) : ℝ) : EReal) = cm3 64 128 ((w.chunk 0).out scaleR S)
          (ix3 0 ⟨(y 1).val % 64, Nat.mod_lt _ (by decide)⟩ ⟨(y 2).val % 128, Nat.mod_lt _ (by decide)⟩) := by
        unfold out2; rw [if_pos h1]
        show _ = (((w.chunk 0).out scaleR S ((y 1).val % 64) ((y 2).val % 128) : ℝ) : EReal)
        rw [show (y 1).val % 64 = (y 1).val by omega]
      rw [e]
      exact (congrArg _ (m 0 h1 hy)).trans (View.canon_cons_emb _ _ _ _)
    · have e : ((out2 w S (y 1).val ((y 2).val % 128) : ℝ) : EReal) = cm3 64 128 ((w.chunk 1).out scaleR ((w.chunk 0).next S))
          (ix3 0 ⟨(y 1).val % 64, Nat.mod_lt _ (by decide)⟩ ⟨(y 2).val % 128, Nat.mod_lt _ (by decide)⟩) := by
        unfold out2; rw [if_neg h1]
        show _ = (((w.chunk 1).out scaleR ((w.chunk 0).next S) ((y 1).val % 64) ((y 2).val % 128) : ℝ) : EReal)
        rw [show (y 1).val % 64 = (y 1).val - 64 by omega]
      rw [e]
      exact (congrArg _ (m 1 (show (y 1).val / 64 = 1 by omega) hy)).trans (View.canon_cons_emb _ _ _ _)
  · have hn : ∀ p, y ∉ (rOut j p).set := fun p hm => hy (mem_out hm).2
    rw [canon_skip _ _ _ (hn 1), canon_skip _ _ _ (hn 0)]

/-- A block of outputs, heads side by side. -/
def oblk (W : ℕ → Data) (S : ℕ → ℕ → ℕ → ℝ) : S1x128x512.Idx → EReal := fun y =>
  ((out2 (W ((y 2).val / 128)) (S ((y 2).val / 128)) (y 1).val ((y 2).val % 128) : ℝ) : EReal)

theorem outs_eq (h : Fin 4 → In Ideal) (hh : ∀ j, h j = (W j.val).toIn) (first : Fin 4 → List (View.Piece (Elt Ideal) S1x4x192x128 .f32) → Vec Ideal S1x1x192x128 .f32)
    (L0 : List (View.Piece (Elt Ideal) S1x4x192x128 .f32)) (h0 : ∀ j, first j L0 = cm4 192 128 (S j.val))
    (hf : ∀ i j g x L, i ≠ j → first j (addHead arg11 g i x L) = first j L) :
    View.canon (outs arg11 h first L0) = oblk W S := by
  have e1 := fun x => (hf 0 1 (h 0) x L0 (by decide)).trans (h0 1)
  have e2 := fun x y => (hf 1 2 (h 1) y (addHead arg11 (h 0) 0 x L0) (by decide)).trans ((hf 0 2 (h 0) x L0 (by decide)).trans (h0 2))
  have e3 := fun x y z => (hf 2 3 (h 2) z (addHead arg11 (h 1) 1 y (addHead arg11 (h 0) 0 x L0)) (by decide)).trans
    ((hf 1 3 (h 1) y (addHead arg11 (h 0) 0 x L0) (by decide)).trans ((hf 0 3 (h 0) x L0 (by decide)).trans (h0 3)))
  unfold outs
  dsimp only
  rw [e3, e2, e1, h0 0, hh 0, hh 1, hh 2, hh 3]
  funext y
  rw [canon_addOut, canon_addOut, canon_addOut, canon_addOut]
  have hy : (y 2).val < 512 := (y 2).isLt
  unfold oblk
  split_ifs with g3 g2 g1 g0
  · rw [g3]
  · rw [g2]
  · rw [g1]
  · rw [g0]
  · exfalso
    have g3 : ¬(y 2).val / 128 = 3 := g3
    have g2 : ¬(y 2).val / 128 = 2 := g2
    have g1 : ¬(y 2).val / 128 = 1 := g1
    have g0 : ¬(y 2).val / 128 = 0 := g0
    omega

/-! ## The two cases of the body -/

/-- The seven real blocks of a point. -/
abbrev X0 : Vec Ideal S1x4x192x128 .fp8e4m3 := blk 4 192 128 fun j => (W j).q
abbrev X1 : Vec Ideal S1x4x192x128 .fp8e4m3 := blk 4 192 128 fun j => (W j).k
abbrev X2 : Vec Ideal S1x4x192x128 .f32 := blk 4 192 128 fun j => (W j).g
abbrev X3 : Vec Ideal S1x4x128x128 .bf16 := blk 4 128 128 fun j => (W j).v
abbrev X4 : Vec Ideal S1x4x16x128 .f32 := blk 4 16 128 fun j => auxR (W j)
abbrev X5 : Vec Ideal S128x256 .bf16 := cm 128 256 triR

theorem firstB_eq (j : Fin 4) : firstB (F := Ideal) arg11 harg11 (blk 4 192 128 S) j = cm4 192 128 (S j.val) := by
  funext ix
  refine (load_blk arg11 harg11 S (blk 4 192 128 S) rfl (fun _ => rfl) j.val 0 192 _ ix).trans (congrFun (cm4_congr fun r t _ _ => by rw [Nat.zero_add]) ix)

theorem zero4 : (![0, 0, 0, 0] : Fin 4 → ℕ) = fun _ => 0 := by decide

theorem whole_state (w : Vec Ideal S1x4x192x128 .f32) (j : Fin 4) :
    arg11.view.readCov [(⟨rWhole, w⟩ : View.Piece (Elt Ideal) S1x4x192x128 .f32)] (rState j).toLoadRect = fun x => w ((rState j).emb x) := by
  rw [View.readCov_eq_canon', View.canon_cons_unit_zero zero4 inbWhole w []]
  rfl

theorem whole_load (w : Vec Ideal S1x4x192x128 .f32) : View.readAt (Elt Ideal) arg9.view rWhole.toLoadRect (harg9.unread w) = w := by
  refine Eq.trans (funext fun ix => harg9.readAt_unread w _ ix) (View.ld_unit_zero (S := S1x4x192x128) zero4 inbWhole w)

theorem firstA_eq (j : Fin 4) : arg11.view.readCov (whole0 (F := Ideal) arg9 harg9 (blk 4 192 128 S)) (rState j).toLoadRect = cm4 192 128 (S j.val) := by
  have e : whole0 (F := Ideal) arg9 harg9 (blk 4 192 128 S) = [(⟨rWhole, blk 4 192 128 S⟩ : View.Piece (Elt Ideal) S1x4x192x128 .f32)] :=
    congrArg (fun w => [(⟨rWhole, w⟩ : View.Piece (Elt Ideal) S1x4x192x128 .f32)]) (whole_load arg9 harg9 (blk 4 192 128 S))
  rw [e, whole_state]
  funext ix
  have h1 : (ix 1).val = 0 := by have h1 : (ix 1).val < 1 := (ix 1).isLt; omega
  show ((S _ _ _ : ℝ) : EReal) = ((S _ _ _ : ℝ) : EReal)
  congr 2
  · show j.val + 1 * ((ix 1).val) = j.val; omega
  · show 0 + 1 * ((ix 2).val) = (ix 2).val; omega
  · show 0 + 1 * ((ix 3).val) = (ix 3).val; omega

theorem out0_B_7_eq (hc0 : ¬cond0_0 i) (x6 : Vec Ideal S1x4x192x128 .f32) :
    out0_B_7 (F := Ideal) c i arg3 harg3 arg4 harg4 arg5 harg5 arg6 harg6 arg7 harg7 arg8 harg8 arg9 harg9 arg10 harg10 arg11 harg11 hc0
      (X0 W) (X1 W) (X2 W) (X3 W) (X4 W) X5 x6 (blk 4 192 128 S) = oblk W S := by
  unfold out0_B_7
  rw [View.read_writes_junk_eq_canon, outs_B]
  exact outs_eq arg11 W S _ (rawIn_eq arg3 harg3 arg4 harg4 arg5 harg5 arg6 harg6 arg7 harg7 arg8 harg8 W) _ _ (firstB_eq arg11 harg11 S) (fun _ _ _ _ _ _ => rfl)
theorem out0_B_8_eq (hc0 : ¬cond0_0 i) (x6 : Vec Ideal S1x4x192x128 .f32) :
    out0_B_8 (F := Ideal) c i arg3 harg3 arg4 harg4 arg5 harg5 arg6 harg6 arg7 harg7 arg8 harg8 arg9 harg9 arg10 harg10 arg11 harg11 hc0
      (X0 W) (X1 W) (X2 W) (X3 W) (X4 W) X5 x6 (blk 4 192 128 S) = blk 4 192 128 (fun j => next2 (W j) (S j)) := by
  unfold out0_B_8
  rw [View.read_writes_junk_eq_canon, states_B]
  exact stores_eq arg11 W S _ (rawIn_eq arg3 harg3 arg4 harg4 arg5 harg5 arg6 harg6 arg7 harg7 arg8 harg8 W) _ _ (firstB_eq arg11 harg11 S) (fun _ _ _ _ _ _ => rfl)
theorem out0_A_7_eq (hc0 : cond0_0 i) :
    out0_A_7 (F := Ideal) c i arg3 harg3 arg4 harg4 arg5 harg5 arg6 harg6 arg7 harg7 arg8 harg8 arg9 harg9 arg10 harg10 arg11 harg11 hc0
      (X0 W) (X1 W) (X2 W) (X3 W) (X4 W) X5 (blk 4 192 128 S) = oblk W S := by
  unfold out0_A_7
  rw [View.read_writes_junk_eq_canon, outs_A]
  exact outs_eq arg11 W S _ (rawIn_eq arg3 harg3 arg4 harg4 arg5 harg5 arg6 harg6 arg7 harg7 arg8 harg8 W) _ _ (firstA_eq arg9 harg9 arg11 S) (fun i j g x L hij => readCov_addHead arg11 g i j hij x L)
theorem out0_A_8_eq (hc0 : cond0_0 i) :
    out0_A_8 (F := Ideal) c i arg3 harg3 arg4 harg4 arg5 harg5 arg6 harg6 arg7 harg7 arg8 harg8 arg9 harg9 arg10 harg10 arg11 harg11 hc0
      (X0 W) (X1 W) (X2 W) (X3 W) (X4 W) X5 (blk 4 192 128 S) = blk 4 192 128 (fun j => next2 (W j) (S j)) := by
  unfold out0_A_8
  rw [View.read_writes_junk_eq_canon, states_A]
  exact stores_eq arg11 W S _ (rawIn_eq arg3 harg3 arg4 harg4 arg5 harg5 arg6 harg6 arg7 harg7 arg8 harg8 W) _ _ (firstA_eq arg9 harg9 arg11 S) (fun i j g x L hij => readCov_addHead arg11 g i j hij x L)
end

end Cert.KernelIdeal.BlockValue

end
-- ==== Proof.Chain.lean ====
/-  The kernel's grid on real arrays: each point's blocks, the states handed from point to point, and the two result arrays. -/
module

public import proofs.«01_k».proof.Proof.Args
public import proofs.«01_k».proof.Proof.BlockValue
public import proofs.«01_k».proof.Proof.Gen.KernelIdeal.Value

@[expose] public section

set_option maxRecDepth 16384

noncomputable section

namespace Cert.KernelIdeal.Chain

open Idealize.ShloMosaic Idealize.ShloMosaic.TcCoe Idealize.ShloMosaic.ValueIdx Cert.KernelIdeal Cert.KernelIdeal.Gen
open Cert.KernelIdeal.RealMat Cert.KernelIdeal.HeadValue Cert.KernelIdeal.BlockValue Cert.Spec
open Cert.KernelIdeal.Stages (scaleR)

/-- An array of reals. -/
def arr (a b n m : ℕ) (X : ℕ → ℕ → ℕ → ℕ → ℝ) : (⟨4, ![a, b, n, m]⟩ : Shape).Idx → EReal :=
  fun ix => ((X (ix 0).val (ix 1).val (ix 2).val (ix 3).val : ℝ) : EReal)

/-- What one grid point takes of head `H`: 128 tokens. -/
def data (a : Args) (B H n : ℕ) : Data where
  q d t := if d < 192 then a.q B (128 * n + t) H d else 0
  k d t := a.k B (128 * n + t) H d
  g d t := a.g B (128 * n + t) H d
  s r t := if r < 6 then a.qs B (128 * n + t) H r else a.ks B (128 * n + t) H (r - 6)
  b t := a.b B (128 * n + t) H
  v t e := a.v B (128 * n + t) H e

theorem data_chunk (a : Args) (B H n c : ℕ) : (data a B H n).chunk c = a.chunk B H (2 * n + c) := by
  unfold Data.chunk data Args.chunk
  have e : ∀ t, 128 * n + (64 * c + t) = 64 * (2 * n + c) + t := fun t => by ring
  congr 1
  · funext t d
    simp only [e]
    split_ifs with h h'
    · rfl
    · omega
    · rw [zero_mul]
    · rw [zero_mul]
  · funext t d
    simp only [e, show ¬6 + d / 32 < 6 by omega, if_false, show 6 + d / 32 - 6 = d / 32 by omega]
  · funext t d; simp only [e]
  · funext t d; simp only [e]
  · funext t; simp only [e]

theorem next2_eq (a : Args) (B H n : ℕ) : next2 (data a B H n) (a.st B H (2 * n)) = a.st B H (2 * (n + 1)) := by
  unfold next2
  rw [data_chunk, data_chunk]
  rfl

theorem out2_eq (a : Args) (B H n t e : ℕ) (ht : t < 128) : out2 (data a B H n) (a.st B H (2 * n)) t e = a.o scaleR B (128 * n + t) H e := by
  unfold out2 Args.o
  rw [data_chunk, data_chunk]
  split_ifs with h
  · rw [show (128 * n + t) / 64 = 2 * n + 0 by omega, show (128 * n + t) % 64 = t by omega]
    rfl
  · rw [show (128 * n + t) / 64 = 2 * n + 1 by omega, show (128 * n + t) % 64 = t - 64 by omega]
    rfl

/-- The rows the kernel keeps beside the codes. -/
def auxA (a : Args) (B H r t : ℕ) : ℝ :=
  if r < 6 then a.qs B t H r else if r < 12 then a.ks B t H (r - 6) else if r = 12 then a.b B t H else 0

/-- The arrays at the entry of the grid hold these reals. -/
structure Holds (m : (ℓ : Loc nD τ sig) → Buf (Elt Ideal) ℓ) (c : Dev nD) (a : Args) : Prop where
  q : V m c main_v35 = arr 2 36 192 1024 fun B H d t => a.q B t H d
  k : V m c main_v36 = arr 2 36 192 1024 fun B H d t => a.k B t H d
  g : V m c main_v37 = arr 2 36 192 1024 fun B H d t => a.g B t H d
  v : V m c main_v38 = arr 2 36 1024 128 fun B H t e => a.v B t H e
  aux : V m c main_v15 = arr 2 36 16 1024 fun B H r t => auxA a B H r t
  tri : V m c main_v34 = cm 128 256 triR
  h0 : V m c main_arg7 = arr 2 36 192 128 a.h0

theorem idx0 : ∀ t : Fin cfg0.N, win0_0.index t = ![t.val / 72, t.val / 8 % 9, 0, t.val % 8] := (by decide +kernel : ∀ t : Fin grid0.N, _)
theorem idx1 : ∀ t : Fin cfg0.N, win0_1.index t = ![t.val / 72, t.val / 8 % 9, 0, t.val % 8] := (by decide +kernel : ∀ t : Fin grid0.N, _)
theorem idx2 : ∀ t : Fin cfg0.N, win0_2.index t = ![t.val / 72, t.val / 8 % 9, 0, t.val % 8] := (by decide +kernel : ∀ t : Fin grid0.N, _)
theorem idx3 : ∀ t : Fin cfg0.N, win0_3.index t = ![t.val / 72, t.val / 8 % 9, t.val % 8, 0] := (by decide +kernel : ∀ t : Fin grid0.N, _)
theorem idx4 : ∀ t : Fin cfg0.N, win0_4.index t = ![t.val / 72, t.val / 8 % 9, 0, t.val % 8] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val / 72, t.val / 8 % 9, 0, 0] := (by decide +kernel : ∀ t : Fin grid0.N, _)
theorem idx7 : ∀ t : Fin cfg0.N, win0_7.index t = ![t.val / 72, t.val % 8, t.val / 8 % 9] := (by decide +kernel : ∀ t : Fin grid0.N, _)
theorem idx8 : ∀ t : Fin cfg0.N, win0_8.index t = ![t.val / 72, t.val / 8 % 9, 0, 0] := (by decide +kernel : ∀ t : Fin grid0.N, _)

section
variable (m : (ℓ : Loc nD τ sig) → Buf (Elt Ideal) ℓ) (c : Dev nD) (a : Args) (h : Holds m c a) (t : Fin cfg0.N)

/-- The four heads of a grid point. -/
def W (t j : ℕ) : Data := data a (t / 72) (4 * (t / 8 % 9) + j) (t % 8)

include h in
theorem blk0 : iblk m c 0 t = X0 (W a t.val) := by
  funext y
  show V m c main_v35 ((win0_0.blk t).view.emb y) = _
  rw [h.q]
  unfold arr
  blk_simp [idx0 t]
  have h0 : (y 0).val < 1 := (y 0).isLt
  unfold X0 blk W data
  dsimp only
  have h2 : (y 2).val < 192 := (y 2).isLt
  rw [if_pos h2]
  rw [show t.val % 8 * 128 + (y 3).val = 128 * (t.val % 8) + (y 3).val by omega,
    show t.val / 8 % 9 * 4 + (y 1).val = 4 * (t.val / 8 % 9) + (y 1).val by omega]

include h in
theorem blk1 : iblk m c 1 t = X1 (W a t.val) := by
  funext y
  show V m c main_v36 ((win0_1.blk t).view.emb y) = _
  rw [h.k]
  unfold arr
  blk_simp [idx1 t]
  have h0 : (y 0).val < 1 := (y 0).isLt
  unfold X1 blk W data
  dsimp only
  rw [show t.val % 8 * 128 + (y 3).val = 128 * (t.val % 8) + (y 3).val by omega,
    show t.val / 8 % 9 * 4 + (y 1).val = 4 * (t.val / 8 % 9) + (y 1).val by omega]

include h in
theorem blk2 : iblk m c 2 t = X2 (W a t.val) := by
  funext y
  show V m c main_v37 ((win0_2.blk t).view.emb y) = _
  rw [h.g]
  unfold arr
  blk_simp [idx2 t]
  have h0 : (y 0).val < 1 := (y 0).isLt
  unfold X2 blk W data
  dsimp only
  rw [show t.val % 8 * 128 + (y 3).val = 128 * (t.val % 8) + (y 3).val by omega,
    show t.val / 8 % 9 * 4 + (y 1).val = 4 * (t.val / 8 % 9) + (y 1).val by omega]

include h in
theorem blk3 : iblk m c 3 t = X3 (W a t.val) := by
  funext y
  show V m c main_v38 ((win0_3.blk t).view.emb y) = _
  rw [h.v]
  unfold arr
  blk_simp [idx3 t]
  have h0 : (y 0).val < 1 := (y 0).isLt
  unfold X3 blk W data
  dsimp only
  rw [show t.val % 8 * 128 + (y 2).val = 128 * (t.val % 8) + (y 2).val by omega,
    show t.val / 8 % 9 * 4 + (y 1).val = 4 * (t.val / 8 % 9) + (y 1).val by omega]

include h in
theorem blk4 : iblk m c 4 t = X4 (W a t.val) := by
  funext y
  show V m c main_v15 ((win0_4.blk t).view.emb y) = _
  rw [h.aux]
  unfold arr
  blk_simp [idx4 t]
  have h0 : (y 0).val < 1 := (y 0).isLt
  unfold X4 blk W data
  dsimp only
  have h2 : (y 2).val < 16 := (y 2).isLt
  unfold auxR auxA
  dsimp only
  rw [show t.val % 8 * 128 + (y 3).val = 128 * (t.val % 8) + (y 3).val by omega,
    show t.val / 8 % 9 * 4 + (y 1).val = 4 * (t.val / 8 % 9) + (y 1).val by omega]
  congr 1
  split_ifs <;> first | rfl | (exfalso; omega)

include h in
theorem blk5 : iblk m c 5 t = X5 := by
  funext y
  show V m c main_v34 ((win0_5.blk t).view.emb y) = _
  rw [h.tri]
  unfold cm
  blk_simp [idx5 t]
  rfl

include h in
theorem blk6 : iblk m c 6 t = blk 4 192 128 (fun j => a.h0 (t.val / 72) (4 * (t.val / 8 % 9) + j)) := by
  funext y
  show V m c main_arg7 ((win0_6.blk t).view.emb y) = _
  rw [h.h0]
  unfold arr
  blk_simp [idx6 t]
  have h0 : (y 0).val < 1 := (y 0).isLt
  unfold blk
  dsimp only
  rw [show t.val / 8 % 9 * 4 + (y 1).val = 4 * (t.val / 8 % 9) + (y 1).val by omega]

/-- The states of the four heads before a grid point. -/
def S (t j : ℕ) : ℕ → ℕ → ℝ := a.st (t / 72) (4 * (t / 8 % 9) + j) (2 * (t % 8))
def S' (t j : ℕ) : ℕ → ℕ → ℝ := a.st (t / 72) (4 * (t / 8 % 9) + j) (2 * (t % 8 + 1))

theorem next2_W (t : ℕ) : (fun j => next2 (W a t j) (S a t j)) = S' a t := funext fun j => next2_eq a _ _ _

include h in
/-- After every grid point the blocks hold the chunks' outputs and the states after them. -/
theorem outsAt0_eq : ∀ n (hn : n < cfg0.N), outsAt0 m c n hn = (oblk (W a n) (S a n), blk 4 192 128 (S' a n)) := by
  intro n
  induction n using Nat.strong_induction_on with
  | _ n ih =>
    intro hn
    by_cases h0 : n % 8 = 0
    · rw [outsAt0_A m c ⟨n, hn⟩ h0, blk0 m c a h, blk1 m c a h, blk2 m c a h, blk3 m c a h, blk4 m c a h, blk5 m c a h, blk6 m c a h]
      have e : (fun j => a.h0 (n / 72) (4 * (n / 8 % 9) + j)) = S a n := by
        funext j
        unfold S
        rw [h0]
        rfl
      dsimp only
      rw [e, out0_A_7_eq, out0_A_8_eq, next2_W]
    · rw [outsAt0_B m c ⟨n, hn⟩ h0, blk0 m c a h, blk1 m c a h, blk2 m c a h, blk3 m c a h, blk4 m c a h, blk5 m c a h]
      have e : S' a (n - 1) = S a n := by
        funext j
        unfold S S'
        rw [show (n - 1) / 72 = n / 72 by omega, show (n - 1) / 8 = n / 8 by omega, show (n - 1) % 8 + 1 = n % 8 by omega]
      dsimp only
      rw [ih (n - 1) (by omega)]
      dsimp only
      rw [e, out0_B_7_eq, out0_B_8_eq, next2_W]

include h in
/-- The array of outputs. -/
theorem out_arr : (dats m 0 c).arrAt 7 cfg0.N
    = (fun ix => ((a.o scaleR (ix 0).val (ix 1).val ((ix 2).val / 128) ((ix 2).val % 128) : ℝ) : EReal) : S2x1024x4608.Idx → EReal) := by
  refine (dats m 0 c).arrAt_eq_of_covers 7 _ (by decide +kernel) fun t hf y => ?_
  blk_simp [idx7 t]
  rw [after0_7, outsAt0_eq m c a h]
  have h0 : (y 0).val < 1 := (y 0).isLt
  have h1 : (y 1).val < 128 := (y 1).isLt
  have h2 : (y 2).val < 512 := (y 2).isLt
  show ((out2 (data a _ _ _) (a.st _ _ _) (y 1).val ((y 2).val % 128) : ℝ) : EReal) = _
  rw [out2_eq _ _ _ _ _ _ h1]
  congr 2
  all_goals omega

include h in
/-- The array of final states. -/
theorem state_arr : (dats m 0 c).arrAt 8 cfg0.N
    = (fun ix => ((a.st (ix 0).val (ix 1).val 16 (ix 2).val (ix 3).val : ℝ) : EReal) : S2x36x192x128.Idx → EReal) := by
  refine (dats m 0 c).arrAt_eq_of_covers 8 _ (by decide +kernel) fun t hf y => ?_
  blk_simp [idx8 t]
  rw [after0_8, outsAt0_eq m c a h]
  have hf := (flush0_8 t).mp hf
  have h0 : (y 0).val < 1 := (y 0).isLt
  show ((a.st (t.val / 72) (4 * (t.val / 8 % 9) + (y 1).val) (2 * (t.val % 8 + 1)) (y 2).val (y 3).val : ℝ) : EReal) = _
  rw [hf]
  congr 2
  rw [show t.val / 8 % 9 * 4 + (y 1).val = 4 * (t.val / 8 % 9) + (y 1).val by omega]

end
end Cert.KernelIdeal.Chain

end
-- ==== Proof.KHost.lean ====
/-  What the kernel's grid is handed: the host operations before it, read at each argument of the call. -/
module

public import proofs.«01_k».proof.Proof.Chain
public import Idealize.ShloMosaic.Lib.Claim

@[expose] public section

set_option maxRecDepth 16384

noncomputable section

namespace Cert.KernelIdeal.KHost

open Idealize.ShloMosaic Idealize.ShloMosaic.TcCoe Idealize.ShloMosaic.ValueIdx Cert.KernelIdeal Cert.KernelIdeal.Gen

variable (m : (ℓ : Loc nD τ sig) → Buf (Elt Ideal) ℓ) (c : Dev nD)

theorem e35 : V m c main_v35 = transpose S2x36x192x1024 [0, 2, 3, 1] (bitcastToFloat (F := Ideal) .fp8e4m3 (m ((c : Thread nD τ).loc main_arg0))) transposes_S2x1024x36x192_S2x36x192x1024_0_2_3_1 := by
  simp only [V, List.flatten_cons, List.flatten_nil, List.append_nil, StableHlo.after_append]
  after_results_simp
theorem e36 : V m c main_v36 = transpose S2x36x192x1024 [0, 2, 3, 1] (bitcastToFloat (F := Ideal) .fp8e4m3 (m ((c : Thread nD τ).loc main_arg2))) transposes_S2x1024x36x192_S2x36x192x1024_0_2_3_1 := by
  simp only [V, List.flatten_cons, List.flatten_nil, List.append_nil, StableHlo.after_append]
  after_results_simp
theorem e37 : V m c main_v37 = transpose S2x36x192x1024 [0, 2, 3, 1] (m ((c : Thread nD τ).loc main_arg5)) transposes_S2x1024x36x192_S2x36x192x1024_0_2_3_1 := by
  simp only [V, List.flatten_cons, List.flatten_nil, List.append_nil, StableHlo.after_append]
  after_results_simp
theorem e38 : V m c main_v38 = transpose S2x36x1024x128 [0, 2, 1, 3] (m ((c : Thread nD τ).loc main_arg4)) transposes_S2x1024x36x128_S2x36x1024x128_0_2_1_3 := by
  simp only [V, List.flatten_cons, List.flatten_nil, List.append_nil, StableHlo.after_append]
  after_results_simp

/-- Scale codes as the exponents of single precision numbers, by head. -/
def scales (x : S2x1024x36x6.Idx → BitVec 8) : S2x36x6x1024.Idx → EReal :=
  bitcastToFloat (F := Ideal) .f32 (Host.shli (extui 32 (transpose S2x36x6x1024 [0, 2, 3, 1] x transposes_S2x1024x36x6_S2x36x6x1024_0_2_3_1) natLt_8_32)
    (broadcastInDim S2x36x6x1024 ![] bcast_S_S2x36x6x1024 (constantI S_ 32 23#32)))

theorem e15 : V m c main_v15 = concatenate S2x36x16x1024 2 [⟨S2x36x6x1024, scales (m ((c : Thread nD τ).loc main_arg1))⟩,
    ⟨S2x36x6x1024, scales (m ((c : Thread nD τ).loc main_arg3))⟩,
    ⟨S2x36x1x1024, broadcastInDim S2x36x1x1024 ![0, 1, 3] bcast_S2x36x1024_S2x36x1x1024_0_1_3
      (transpose S2x36x1024 [0, 2, 1] (m ((c : Thread nD τ).loc main_arg6)) transposes_S2x1024x36_S2x36x1024_0_2_1)⟩,
    ⟨S2x36x3x1024, broadcastInDim S2x36x3x1024 ![] bcast_S_S2x36x3x1024 (constant (F := Ideal) S_ .f32 0x00000000#32)⟩]
    concatenates_S2x36x6x1024_S2x36x6x1024_S2x36x1x1024_S2x36x3x1024_S2x36x16x1024_d2 := by
  simp only [V, List.flatten_cons, List.flatten_nil, List.append_nil, StableHlo.after_append]
  after_results_simp
  rfl

/-- Token numbers down and across. -/
def down : S128x1.Idx → BitVec 32 := broadcastInDim S128x1 ![0] bcast_S128_S128x1_0 (iotaInDim S128 32 0)
def across : S1x128.Idx → BitVec 32 := broadcastInDim S1x128 ![1] bcast_S128_S1x128_1 (iotaInDim S128 32 0)

theorem e17 : V m c main_v17 = down := by
  simp only [V, List.flatten_cons, List.flatten_nil, List.append_nil, StableHlo.after_append]
  after_results_simp
  rfl
theorem e19 : V m c main_v19 = across := by
  simp only [V, List.flatten_cons, List.flatten_nil, List.append_nil, StableHlo.after_append]
  after_results_simp
  rfl
/-- The sign of a word. -/
def sign (x : BitVec 32) : BitVec 32 := if x = 0 then 0 else if x.msb then -1 else 1
/-- The quotient by 64, rounded down, of a word. -/
def quot (x : BitVec 32) : BitVec 32 :=
  Scalar.select (IntOp.andi (IntOp.cmpi .ne (sign x) (sign 64#32)) (IntOp.cmpi .ne (IntOp.remsi .host x 64#32) 0#32))
    (IntOp.subi (IntOp.divsi .host x 64#32) 1#32) (IntOp.divsi .host x 64#32)

theorem e20 : V m c main_v20 = fun ix => quot (down ix) := by
  simp only [V, List.flatten_cons, List.flatten_nil, List.append_nil, StableHlo.after_append]
  after_results_simp
  simp only [StableHlo.TRef.ofBuf, StableHlo.TRef.toBuf, eqRec_eq_cast, cast_eq, cast_cast, id]
  rfl
theorem e21 : V m c main_v21 = fun ix => quot (across ix) := by
  simp only [V, List.flatten_cons, List.flatten_nil, List.append_nil, StableHlo.after_append]
  after_results_simp
  simp only [StableHlo.TRef.ofBuf, StableHlo.TRef.toBuf, eqRec_eq_cast, cast_eq, cast_cast, id]
  rfl
theorem e24 : V m c main_v24 = cmpi .eq (broadcastInDim S128x128 ![0, 1] bcast_S128x1_S128x128_0_1 fun ix => quot (down ix))
    (broadcastInDim S128x128 ![0, 1] bcast_S1x128_S128x128_0_1 fun ix => quot (across ix)) := by
  have h : V m c main_v24 = cmpi .eq (broadcastInDim S128x128 ![0, 1] bcast_S128x1_S128x128_0_1 (V m c main_v20))
    (broadcastInDim S128x128 ![0, 1] bcast_S1x128_S128x128_0_1 (V m c main_v21)) := by
    simp only [V, List.flatten_cons, List.flatten_nil, List.append_nil, StableHlo.after_append]
    after_results_simp
  rw [h, e20, e21]

end Cert.KernelIdeal.KHost

end
-- ==== Proof.KMask.lean ====
/-  The triangle the kernel's host builds: ones where a token comes no later in the same 64 tokens, and where it comes later. -/
module

public import proofs.«01_k».proof.Proof.KHost

@[expose] public section

set_option maxRecDepth 16384

noncomputable section

namespace Cert.KernelIdeal.KHost

open Idealize.ShloMosaic Idealize.ShloMosaic.TcCoe Idealize.ShloMosaic.ValueIdx Cert.KernelIdeal Cert.KernelIdeal.Gen
open Cert.KernelIdeal.RealMat Cert.KernelIdeal.HeadValue

variable (m : (ℓ : Loc nD τ sig) → Buf (Elt Ideal) ℓ) (c : Dev nD)

theorem e28 : V m c main_v28 = andi (V m c main_v24) (cmpi .sle (broadcastInDim S128x128 ![0, 1] bcast_S128x1_S128x128_0_1 (V m c main_v17))
    (broadcastInDim S128x128 ![0, 1] bcast_S1x128_S128x128_0_1 (V m c main_v19))) := by
  simp only [V, List.flatten_cons, List.flatten_nil, List.append_nil, StableHlo.after_append]
  after_results_simp
theorem e32 : V m c main_v32 = andi (V m c main_v24) (cmpi .sgt (broadcastInDim S128x128 ![0, 1] bcast_S128x1_S128x128_0_1 (V m c main_v17))
    (broadcastInDim S128x128 ![0, 1] bcast_S1x128_S128x128_0_1 (V m c main_v19))) := by
  simp only [V, List.flatten_cons, List.flatten_nil, List.append_nil, StableHlo.after_append]
  after_results_simp
theorem e34 : V m c main_v34 = uitofp (F := Ideal) .bf16 (concatenate S128x256 1 [⟨S128x128, V m c main_v28⟩, ⟨S128x128, V m c main_v32⟩]
    concatenates_S128x128_S128x128_S128x256_d1) := by
  simp only [V, List.flatten_cons, List.flatten_nil, List.append_nil, StableHlo.after_append]
  after_results_simp
  refine congrArg₂ (fun a b : S128x128.Idx → BitVec 1 => uitofp (F := Ideal) .bf16 (concatenate S128x256 1 [⟨S128x128, a⟩, ⟨S128x128, b⟩]
    concatenates_S128x128_S128x128_S128x256_d1)) ?_ ?_
  · simp only [StableHlo.after_append]
    after_results_simp
  · simp only [StableHlo.after_append]
    after_results_simp

theorem word_le : ∀ x j : Fin 128, IntOp.andi (IntOp.cmpi .eq (quot (BitVec.ofNat 32 x.val)) (quot (BitVec.ofNat 32 j.val)))
    (IntOp.cmpi .sle (BitVec.ofNat 32 x.val) (BitVec.ofNat 32 j.val)) = if x.val / 64 = j.val / 64 ∧ x.val ≤ j.val then 1#1 else 0#1 := by
  decide +kernel
theorem word_gt : ∀ x j : Fin 128, IntOp.andi (IntOp.cmpi .eq (quot (BitVec.ofNat 32 x.val)) (quot (BitVec.ofNat 32 j.val)))
    (IntOp.cmpi .sgt (BitVec.ofNat 32 x.val) (BitVec.ofNat 32 j.val)) = if x.val / 64 = j.val / 64 ∧ j.val < x.val then 1#1 else 0#1 := by
  decide +kernel

theorem v28 : V m c main_v28 = fun ix => if (ix 0).val / 64 = (ix 1).val / 64 ∧ (ix 0).val ≤ (ix 1).val then 1#1 else 0#1 := by
  rw [e28, e24, e17, e19]
  funext ix
  exact word_le (ix 0) (ix 1)
theorem v32 : V m c main_v32 = fun ix => if (ix 0).val / 64 = (ix 1).val / 64 ∧ (ix 1).val < (ix 0).val then 1#1 else 0#1 := by
  rw [e32, e24, e17, e19]
  funext ix
  exact word_gt (ix 0) (ix 1)

theorem tri : V m c main_v34 = cm 128 256 triR := by
  rw [e34, v28, v32]
  funext ix
  have h1 : (ix 1).val < 256 := (ix 1).isLt
  unfold cm triR
  show (((concatenate _ _ _ _ ix : BitVec 1).toNat : ℝ) : EReal) = _
  by_cases hj : (ix 1).val < 128
  · rw [concatenate_pair_apply_left (t := S128x256) (s₁ := S128x128) (s₂ := S128x128) 1 _ _ _ ix rfl (ix2 (ix 0) ⟨(ix 1).val, hj⟩ : S128x128.Idx) (fun b => by fin_cases b <;> rfl)]
    rw [if_pos hj]
    show (((if (ix 0).val / 64 = (ix 1).val / 64 ∧ (ix 0).val ≤ (ix 1).val then 1#1 else 0#1 : BitVec 1).toNat : ℝ) : EReal) = _
    split_ifs <;> simp
  · rw [concatenate_pair_apply_right (t := S128x256) (s₁ := S128x128) (s₂ := S128x128) 1 _ _ _ ix rfl rfl (ix2 (ix 0) ⟨(ix 1).val - 128, by omega⟩ : S128x128.Idx)
      (fun b hb => by fin_cases b <;> first | rfl | exact absurd rfl hb) (by show (ix 1).val - 128 + 128 = (ix 1).val; omega)]
    rw [if_neg hj]
    show (((if (ix 0).val / 64 = ((ix 1).val - 128) / 64 ∧ ((ix 1).val - 128) < (ix 0).val then 1#1 else 0#1 : BitVec 1).toNat : ℝ) : EReal) = _
    split_ifs <;> simp

end Cert.KernelIdeal.KHost

end
-- ==== Proof.KHolds.lean ====
/-  The arrays at the entry of the kernel's grid, as reals. -/
module

public import proofs.«01_k».proof.Proof.KMask
public import proofs.«01_k».proof.Proof.Inputs

@[expose] public section

set_option maxRecDepth 16384

noncomputable section

namespace Cert.KernelIdeal.KHolds

open Idealize.ShloMosaic Idealize.ShloMosaic.TcCoe Idealize.ShloMosaic.ValueIdx Cert.KernelIdeal Cert.KernelIdeal.Gen Cert.KernelIdeal.Chain Cert.KernelIdeal.KHost
open Cert.Inputs Cert.Spec

theorem scales_real (x : S2x1024x36x6.Idx → BitVec 8) (hx : ∀ i, 1 ≤ (x i).toNat ∧ (x i).toNat ≤ 254) (B : Fin 2) (H : Fin 36) (r : Fin 6) (t : Fin 1024) :
    scales x (ix4 B H r t) = ((rd4 (fun i => scale (x i)) B.val t.val H.val r.val : ℝ) : EReal) := by
  rw [rd4_fin]
  refine Eq.trans ?_ (scale_bits (x (ix4 B t H r)) (hx _).1 (hx _).2)
  show Ideal.ofBits .f32 (IntOp.shli .host ((x _).setWidth 32) 23#32) = _
  congr 4
  funext b
  fin_cases b <;> rfl

theorem perm (X : S2x1024x36x192.Idx → EReal) (Y : S2x1024x36x192.Idx → ℝ) (h : ∀ i, X i = ((Y i : ℝ) : EReal)) :
    transpose S2x36x192x1024 [0, 2, 3, 1] X transposes_S2x1024x36x192_S2x36x192x1024_0_2_3_1 = arr 2 36 192 1024 fun B H d t => rd4 Y B t H d := by
  funext ix
  show X _ = ((rd4 Y (ix 0).val (ix 3).val (ix 1).val (ix 2).val : ℝ) : EReal)
  refine Eq.trans ?_ ((h (ix4 (ix 0) (ix 3) (ix 1) (ix 2))).trans (congrArg _ (rd4_fin Y (ix 0) (ix 3) (ix 1) (ix 2)).symm))
  congr 1
  funext b
  fin_cases b <;> rfl

theorem permv (X : S2x1024x36x128.Idx → EReal) (Y : S2x1024x36x128.Idx → ℝ) (h : ∀ i, X i = ((Y i : ℝ) : EReal)) :
    transpose S2x36x1024x128 [0, 2, 1, 3] X transposes_S2x1024x36x128_S2x36x1024x128_0_2_1_3 = arr 2 36 1024 128 fun B H t e => rd4 Y B t H e := by
  funext ix
  show X _ = ((rd4 Y (ix 0).val (ix 2).val (ix 1).val (ix 3).val : ℝ) : EReal)
  refine Eq.trans ?_ ((h (ix4 (ix 0) (ix 2) (ix 1) (ix 3))).trans (congrArg _ (rd4_fin Y (ix 0) (ix 2) (ix 1) (ix 3)).symm))
  congr 1
  funext b
  fin_cases b <;> rfl

variable {m : (ℓ : Loc nD τ sig) → Buf (Elt Ideal) ℓ} {c : Dev nD}

/-- The arguments of the program as reals. -/
abbrev args (m : (ℓ : Loc nD τ sig) → Buf (Elt Ideal) ℓ) (c : Dev nD) : Args :=
  argsOf (m ((c.tc : Thread nD τ).loc main_arg0)) (m ((c.tc : Thread nD τ).loc main_arg2)) (m ((c.tc : Thread nD τ).loc main_arg1))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7))
abbrev FineAt (m : (ℓ : Loc nD τ sig) → Buf (Elt Ideal) ℓ) (c : Dev nD) : Prop :=
  Fine (m ((c.tc : Thread nD τ).loc main_arg0)) (m ((c.tc : Thread nD τ).loc main_arg2)) (m ((c.tc : Thread nD τ).loc main_arg1))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7))

/-- The array of scales, learning rates and zeros. -/
theorem aux_of (x1 x3 : S2x1024x36x6.Idx → BitVec 8) (x6 : S2x1024x36.Idx → EReal) (a : Args)
    (h1 : ∀ i, 1 ≤ (x1 i).toNat ∧ (x1 i).toNat ≤ 254) (h3 : ∀ i, 1 ≤ (x3 i).toNat ∧ (x3 i).toNat ≤ 254)
    (h6 : ∀ i, x6 i = (((x6 i).toReal : ℝ) : EReal)) (e1 : a.qs = rd4 fun i => scale (x1 i)) (e3 : a.ks = rd4 fun i => scale (x3 i))
    (e6 : a.b = rd3 fun i => (x6 i).toReal) :
    concatenate S2x36x16x1024 2 [⟨S2x36x6x1024, scales x1⟩, ⟨S2x36x6x1024, scales x3⟩,
      ⟨S2x36x1x1024, broadcastInDim S2x36x1x1024 ![0, 1, 3] bcast_S2x36x1024_S2x36x1x1024_0_1_3
        (transpose S2x36x1024 [0, 2, 1] x6 transposes_S2x1024x36_S2x36x1024_0_2_1)⟩,
      ⟨S2x36x3x1024, broadcastInDim S2x36x3x1024 ![] bcast_S_S2x36x3x1024 (constant (F := Ideal) S_ .f32 0x00000000#32)⟩]
      concatenates_S2x36x6x1024_S2x36x6x1024_S2x36x1x1024_S2x36x3x1024_S2x36x16x1024_d2
      = arr 2 36 16 1024 fun B H r t => auxA a B H r t := by
  funext ix
  have hr : (ix 2).val < 16 := (ix 2).isLt
  by_cases c1 : (ix 2).val < 6
  · refine (concatenate_apply_piece (t := S2x36x16x1024) 2 _ _ ix 0 (by simp) S2x36x6x1024 (scales x1) rfl rfl 0 rfl
      (ix4 (ix 0) (ix 1) ⟨(ix 2).val, c1⟩ (ix 3)) ?_ ?_).trans ?_
    · intro b hb
      fin_cases b <;> first | rfl | exact absurd rfl hb
    · show 0 + (ix 2).val = (ix 2).val
      omega
    · refine (scales_real x1 h1 (ix 0) (ix 1) ⟨(ix 2).val, c1⟩ (ix 3)).trans ?_
      show _ = ((auxA a (ix 0).val (ix 1).val (ix 2).val (ix 3).val : ℝ) : EReal)
      unfold auxA
      rw [if_pos c1, e1]
  by_cases c2 : (ix 2).val < 12
  · refine (concatenate_apply_piece (t := S2x36x16x1024) 2 _ _ ix 1 (by simp) S2x36x6x1024 (scales x3) rfl rfl 6 rfl
      (ix4 (ix 0) (ix 1) ⟨(ix 2).val - 6, by omega⟩ (ix 3)) ?_ ?_).trans ?_
    · intro b hb
      fin_cases b <;> first | rfl | exact absurd rfl hb
    · show 6 + ((ix 2).val - 6) = (ix 2).val
      omega
    · refine (scales_real x3 h3 (ix 0) (ix 1) ⟨(ix 2).val - 6, by omega⟩ (ix 3)).trans ?_
      show _ = ((auxA a (ix 0).val (ix 1).val (ix 2).val (ix 3).val : ℝ) : EReal)
      unfold auxA
      rw [if_neg c1, if_pos c2, e3]
  by_cases c3 : (ix 2).val = 12
  · refine (concatenate_apply_piece (t := S2x36x16x1024) 2 _ _ ix 2 (by simp) S2x36x1x1024 _ rfl rfl 12 rfl
      (ix4 (ix 0) (ix 1) 0 (ix 3)) ?_ ?_).trans ?_
    · intro b hb
      fin_cases b <;> first | rfl | exact absurd rfl hb
    · show 12 + 0 = (ix 2).val
      omega
    · show x6 _ = ((auxA a (ix 0).val (ix 1).val (ix 2).val (ix 3).val : ℝ) : EReal)
      unfold auxA
      rw [if_neg c1, if_neg c2, if_pos c3, e6]
      refine Eq.trans ?_ ((h6 (ix3 (ix 0) (ix 3) (ix 1))).trans (congrArg _ (rd3_fin (fun i => (x6 i).toReal) (ix 0) (ix 3) (ix 1)).symm))
      congr 1
      funext b
      fin_cases b <;> rfl
  · refine (concatenate_apply_piece (t := S2x36x16x1024) 2 _ _ ix 3 (by simp) S2x36x3x1024 _ rfl rfl 13 rfl
      (ix4 (ix 0) (ix 1) ⟨(ix 2).val - 13, by omega⟩ (ix 3)) ?_ ?_).trans ?_
    · intro b hb
      fin_cases b <;> first | rfl | exact absurd rfl hb
    · show 13 + ((ix 2).val - 13) = (ix 2).val
      omega
    · show Ideal.ofBits .f32 0x00000000#32 = ((auxA a (ix 0).val (ix 1).val (ix 2).val (ix 3).val : ℝ) : EReal)
      unfold auxA
      rw [if_neg c1, if_neg c2, if_neg c3]
      exact Cert.KernelIdeal.RealMat.ofBits_zero_f32

theorem holds (h : FineAt m c) : Holds m c (args m c) where
  q := (e35 m c).trans (perm _ _ fun i => code_real _ (h.q i).1 (h.q i).2)
  k := (e36 m c).trans (perm _ _ fun i => code_real _ (h.k i).1 (h.k i).2)
  g := (e37 m c).trans (perm _ _ h.g)
  v := (e38 m c).trans (permv _ _ h.v)
  aux := (e15 m c).trans (aux_of _ _ _ _ h.qs h.ks h.b rfl rfl rfl)
  tri := Cert.KernelIdeal.KHost.tri m c
  h0 := by
    refine (V_main_arg7 m c).trans ?_
    funext ix
    refine (h.h0 ix).trans ?_
    exact congrFun (a4_rd4 fun i => ((m ((c.tc : Thread nD τ).loc main_arg7) : S2x36x192x128.Idx → EReal) i).toReal) ix

end Cert.KernelIdeal.KHolds

end
-- ==== Proof.RefEntry.lean ====
/-  What the reference's loop starts from: its arguments, and the codes as numbers. -/
module

public import proofs.«01_k».proof.Proof.Gen.ReferenceIdeal.Frame
public import Idealize.ShloMosaic.Lib.Pipeline.Value
public import Idealize.ShloMosaic.Lib.ValueIdx
public import Idealize.ShloMosaic.Lib.MatmulPlain
public import Idealize.ShloMosaic.Lib.Pipeline.ValueKit
public import Idealize.ShloMosaic.Lib.Claim

@[expose] public section

set_option maxRecDepth 16384

noncomputable section

namespace Cert.ReferenceIdeal.Entry

open Idealize.ShloMosaic Idealize.ShloMosaic.TcCoe Idealize.ShloMosaic.ValueIdx Cert.ReferenceIdeal Cert.ReferenceIdeal.Gen

variable (V : (c : Dev nD) → (b : Ref sig .tc) → Buf (Elt Ideal) ((c : Thread nD τ).loc b)) (c : Dev nD)

theorem zero4 : (![0, 0, 0, 0] : Fin 4 → ℕ) = fun _ => 0 := funext fun a => by fin_cases a <;> rfl

theorem out2 (x0 x1 : Vec Ideal S2x1024x36x192 .fp8e4m3) : out0_2 x0 x1 = (x0 : S2x1024x36x192.Idx → EReal) := by
  unfold out0_2 k0_pay1
  rw [View.canon_cons_unit_zero zero4]
  rw [shapeCast_self, View.ld_unit_zero zero4]
  rfl
theorem arr2 : (dat0 V c).arrAt 2 cfg0.N = (V c main_v0 : S2x1024x36x192.Idx → EReal) := by
  refine (dat0 V c).arrAt_eq_of_covers 2 _ (by decide +kernel) fun t hf y => ?_
  rw [after0_2, out2]
  unfold iblk0
  blk_simp
  rfl
theorem v2_0 (m : (ℓ : Loc nD τ sig) → Buf (Elt Ideal) ℓ) (ρ : Dev nD → PrngReg) :
   (Went m ρ c (Proc.devRef .tc main_v2_0) : S2x1024x36x192.Idx → EReal) = fun i => Ideal.ofBits .fp8e4m3 (m ((c : Thread nD τ).loc main_arg0) i : BitVec 8) := by
  have h := W2_arr m ρ c 2
  rw [arr2] at h
  rw [Went_eq]
  refine ((W9_of m ρ c main_v2_0 (by decide)).trans ((W8_of m ρ c main_v2_0 (by decide)).trans ((W7_of m ρ c main_v2_0 (by decide)).trans
    ((W6_of m ρ c main_v2_0 (by decide)).trans ((W5_of m ρ c main_v2_0 (by decide)).trans ((W4_of m ρ c main_v2_0 (by decide)).trans
    ((W3_of m ρ c main_v2_0 (by decide)).trans h))))))).trans ?_
  rfl

theorem out3 (x0 x1 : Vec Ideal S2x1024x36x192 .fp8e4m3) : out0_3 x0 x1 = (x1 : S2x1024x36x192.Idx → EReal) := by
  unfold out0_3 k0_pay2
  rw [View.canon_cons_unit_zero zero4]
  rw [shapeCast_self, View.ld_unit_zero zero4]
  rfl
theorem arr3 : (dat0 V c).arrAt 3 cfg0.N = (V c main_v1 : S2x1024x36x192.Idx → EReal) := by
  refine (dat0 V c).arrAt_eq_of_covers 3 _ (by decide +kernel) fun t hf y => ?_
  rw [after0_3, out3]
  unfold iblk0
  blk_simp
  rfl
theorem v2_1 (m : (ℓ : Loc nD τ sig) → Buf (Elt Ideal) ℓ) (ρ : Dev nD → PrngReg) :
   (Went m ρ c (Proc.devRef .tc main_v2_1) : S2x1024x36x192.Idx → EReal) = fun i => Ideal.ofBits .fp8e4m3 (m ((c : Thread nD τ).loc main_arg2) i : BitVec 8) := by
  have h := W2_arr m ρ c 3
  rw [arr3] at h
  rw [Went_eq]
  refine ((W9_of m ρ c main_v2_1 (by decide)).trans ((W8_of m ρ c main_v2_1 (by decide)).trans ((W7_of m ρ c main_v2_1 (by decide)).trans
    ((W6_of m ρ c main_v2_1 (by decide)).trans ((W5_of m ρ c main_v2_1 (by decide)).trans ((W4_of m ρ c main_v2_1 (by decide)).trans
    ((W3_of m ρ c main_v2_1 (by decide)).trans h))))))).trans ?_
  rfl

end Cert.ReferenceIdeal.Entry

end
-- ==== Proof.Nilpotent.lean ====
/-  The product (I - A)(I + A²)(I + A⁴)…(I + A³²) is a right inverse of I + A when A is strictly lower triangular of size 64. -/
module

public import proofs.«01_k».proof.Proof.Spec

@[expose] public section

noncomputable section

namespace Cert.Spec

open Finset

/-- The product of two matrices of size 64. -/
def mm (X Y : ℕ → ℕ → ℝ) (t s : ℕ) : ℝ := ∑ x ∈ range 64, X t x * Y x s
/-- The unit matrix. -/
def one (t s : ℕ) : ℝ := if t = s then 1 else 0
/-- The unit matrix and another one. -/
def onePlus (X : ℕ → ℕ → ℝ) (t s : ℕ) : ℝ := one t s + X t s

/-- A's powers by squaring, and the product of the sums so far. -/
def pows (A : ℕ → ℕ → ℝ) : ℕ → ℕ → ℕ → ℝ
  | 0 => A
  | n + 1 => mm (pows A n) (pows A n)
def prods (A : ℕ → ℕ → ℝ) : ℕ → ℕ → ℕ → ℝ
  | 0 => fun t s => one t s - A t s
  | n + 1 => mm (prods A n) (onePlus (pows A (n + 1)))

/-- The 64 × 64 entries. -/
def toM (X : ℕ → ℕ → ℝ) : Matrix (Fin 64) (Fin 64) ℝ := fun i j => X i.val j.val

theorem toM_mm (X Y : ℕ → ℕ → ℝ) : toM (mm X Y) = toM X * toM Y := by
  ext i j
  rw [Matrix.mul_apply]
  unfold toM mm
  rw [Finset.sum_range]

theorem toM_one : toM one = 1 := by
  ext i j
  unfold toM one
  rw [Matrix.one_apply]
  simp only [Fin.ext_iff]

theorem toM_onePlus (X : ℕ → ℕ → ℝ) : toM (onePlus X) = 1 + toM X := by
  rw [← toM_one]
  rfl

theorem toM_pows (A : ℕ → ℕ → ℝ) (n : ℕ) : toM (pows A n) = toM A ^ (2 ^ n) := by
  induction n with
  | zero => simp [pows]
  | succ n ih => rw [pows, toM_mm, ih, ← pow_add, pow_succ]; congr 1; ring

theorem toM_prods (A : ℕ → ℕ → ℝ) (n : ℕ) : (1 + toM A) * toM (prods A n) = 1 - toM A ^ (2 ^ (n + 1)) := by
  induction n with
  | zero =>
    have e : toM (prods A 0) = 1 - toM A := by rw [← toM_one]; rfl
    rw [e, zero_add, pow_one, pow_two]
    noncomm_ring
  | succ n ih =>
    have e : toM (prods A (n + 1)) = toM (prods A n) * (1 + toM A ^ (2 ^ (n + 1))) := by
      rw [prods, toM_mm, toM_onePlus, toM_pows]
    rw [e, ← mul_assoc, ih, pow_succ 2 (n + 1), pow_mul, pow_two]
    noncomm_ring

theorem pow_entry (A : Matrix (Fin 64) (Fin 64) ℝ) (hA : ∀ i j : Fin 64, i.val ≤ j.val → A i j = 0) (n : ℕ) (i j : Fin 64) (h : i.val < j.val + n) :
    (A ^ n) i j = 0 := by
  induction n generalizing i j with
  | zero => rw [pow_zero, Matrix.one_apply_ne (fun e => by rw [e] at h; omega)]
  | succ n ih =>
    rw [pow_succ, Matrix.mul_apply]
    refine Finset.sum_eq_zero fun x _ => ?_
    by_cases hx : x.val ≤ j.val
    · rw [hA x j hx, mul_zero]
    · rw [ih i x (by omega), zero_mul]

theorem prods_inv (A : ℕ → ℕ → ℝ) (hA : ∀ i j, i ≤ j → A i j = 0) (t s : ℕ) (ht : t < 64) (hs : s < 64) :
    prods A 5 t s + ∑ x ∈ range 64, A t x * prods A 5 x s = if t = s then 1 else 0 := by
  have h := toM_prods A 5
  have h0 : toM A ^ (2 ^ (5 + 1)) = 0 := by
    ext i j
    exact pow_entry _ (fun i j h => hA _ _ h) _ i j (by have := i.isLt; omega)
  rw [h0, sub_zero, add_mul, one_mul, ← toM_mm, ← toM_one] at h
  exact congrFun (congrFun h ⟨t, ht⟩) ⟨s, hs⟩

namespace Chunk
variable (h : Chunk)

/-- The inverse applied to the system's right hand side is the solution. -/
theorem prods_solve (S : ℕ → ℕ → ℝ) (e t : ℕ) (ht : t < 64) : ∑ s ∈ range 64, prods h.A 5 t s * h.r S s e = h.u S t e := by
  refine h.u_unique S e (fun t => ∑ s ∈ range 64, prods h.A 5 t s * h.r S s e) (fun t ht => ?_) t ht
  have h2 : ∑ x ∈ range 64, h.A t x * ∑ s ∈ range 64, prods h.A 5 x s * h.r S s e
      = ∑ s ∈ range 64, (∑ x ∈ range 64, h.A t x * prods h.A 5 x s) * h.r S s e := by
    simp only [Finset.mul_sum, Finset.sum_mul]
    rw [Finset.sum_comm]
    exact Finset.sum_congr rfl fun _ _ => Finset.sum_congr rfl fun _ _ => by ring
  rw [h2, ← Finset.sum_add_distrib]
  have h3 : ∀ s ∈ range 64, prods h.A 5 t s * h.r S s e + (∑ x ∈ range 64, h.A t x * prods h.A 5 x s) * h.r S s e
      = if t = s then h.r S s e else 0 := fun s hs => by
    rw [← add_mul, prods_inv h.A h.A_upper t s ht (Finset.mem_range.mp hs)]
    split_ifs <;> simp
  rw [Finset.sum_congr rfl h3, Finset.sum_ite_eq (range 64) t, if_pos (Finset.mem_range.mpr ht)]

/-- The reference's two parts of the solution. -/
theorem parts_solve (S : ℕ → ℕ → ℝ) (e t : ℕ) (ht : t < 64) :
    (∑ s ∈ range 64, prods h.A 5 t s * (h.b s * h.v s e))
      - ∑ d ∈ range 192, (∑ s ∈ range 64, prods h.A 5 t s * (h.b s * h.kpos s d)) * S d e = h.u S t e := by
  rw [← prods_solve h S e t ht]
  simp only [Finset.sum_mul]
  rw [Finset.sum_comm, ← Finset.sum_sub_distrib]
  refine Finset.sum_congr rfl fun s _ => ?_
  unfold r
  rw [mul_sub, mul_sub, Finset.mul_sum, Finset.mul_sum]
  congr 1
  exact Finset.sum_congr rfl fun d _ => by ring

end Chunk

end Cert.Spec

end
-- ==== Proof.RefSetup.lean ====
/-  What the reference computes before its loop, on arrays of reals: for every chunk of every head the decayed queries and keys,
    the system's matrix and its inverse, and the two parts of the system's solution. -/
module

public import proofs.«01_k».proof.Proof.Args
public import proofs.«01_k».proof.Proof.Nilpotent
public import proofs.«01_k».proof.Proof.RefArr
public import proofs.«01_k».proof.Proof.Gen.ReferenceIdeal.Step

@[expose] public section

set_option maxRecDepth 16384

noncomputable section

namespace Cert.ReferenceIdeal.Setup

open Idealize.ShloMosaic Idealize.ShloMosaic.ValueIdx Cert.ReferenceIdeal Cert.ReferenceIdeal.Gen Cert.ReferenceIdeal.Step
open Cert.ReferenceIdeal.Arr Cert.Spec Finset

/-- An array of chunk rows. -/
abbrev c5 (m : ℕ) (X : ℕ → ℕ → ℕ → ℕ → ℕ → ℝ) := a5 16 2 36 64 m X

/-- Codes times the scale of their group of 32. -/
theorem scaled (X S : ℕ → ℕ → ℕ → ℕ → ℝ) :
    shapeCast S2x1024x36x192 (mulf (F := Ideal) (φ := .bf16) (shapeCast S2x1024x36x6x32 (a4 2 1024 36 192 X) shapeCasts_S2x1024x36x192_S2x1024x36x6x32)
      (broadcastInDim S2x1024x36x6x32 ![0, 1, 2, 3, 4] bcast_S2x1024x36x6x1_S2x1024x36x6x32_0_1_2_3_4
        (broadcastInDim S2x1024x36x6x1 ![0, 1, 2, 3] bcast_S2x1024x36x6_S2x1024x36x6x1_0_1_2_3 (a4 2 1024 36 6 S))))
      shapeCasts_S2x1024x36x6x32_S2x1024x36x192
      = a4 2 1024 36 192 fun B t H d => X B t H d * S B t H (d / 32) := by
  have e1 : shapeCast S2x1024x36x6x32 (a4 2 1024 36 192 X) shapeCasts_S2x1024x36x192_S2x1024x36x6x32
      = a5 2 1024 36 6 32 fun B t H i x => X B t H (32 * i + x) :=
    shapeCast_up _ _ (fun j => ix4 (j 0) (j 1) (j 2) ⟨32 * (j 3).val + (j 4).val, by
      have h3 : (j 3).val < 6 := (j 3).isLt
      have h4 : (j 4).val < 32 := (j 4).isLt
      omega⟩) fun j => by
      rw [Shape.rowMajor_val_four, Shape.rowMajor_val_five]
      show (((j 0).val * 1024 + (j 1).val) * 36 + (j 2).val) * 192 + (32 * (j 3).val + (j 4).val)
        = ((((j 0).val * 1024 + (j 1).val) * 36 + (j 2).val) * 6 + (j 3).val) * 32 + (j 4).val
      ring
  rw [e1]
  have e2 : broadcastInDim S2x1024x36x6x32 ![0, 1, 2, 3, 4] bcast_S2x1024x36x6x1_S2x1024x36x6x32_0_1_2_3_4
      (broadcastInDim S2x1024x36x6x1 ![0, 1, 2, 3] bcast_S2x1024x36x6_S2x1024x36x6x1_0_1_2_3 (a4 2 1024 36 6 S))
      = a5 2 1024 36 6 32 fun B t H i _ => S B t H i := rfl
  rw [e2, mulf_up]
  refine (shapeCast_up _ _ (fun j : S2x1024x36x192.Idx => (ix5 (j 0) (j 1) (j 2) ⟨(j 3).val / 32, by
      have h3 : (j 3).val < 192 := (j 3).isLt
      omega⟩ ⟨(j 3).val % 32, by omega⟩ : S2x1024x36x6x32.Idx)) fun j => by
      rw [Shape.rowMajor_val_four, Shape.rowMajor_val_five]
      show ((((j 0).val * 1024 + (j 1).val) * 36 + (j 2).val) * 6 + (j 3).val / 32) * 32 + (j 3).val % 32
        = (((j 0).val * 1024 + (j 1).val) * 36 + (j 2).val) * 192 + (j 3).val
      omega).trans ?_
  funext j
  show ((X _ _ _ (32 * ((j 3).val / 32) + (j 3).val % 32) * S _ _ _ ((j 3).val / 32) : ℝ) : EReal) = _
  rw [Nat.div_add_mod]
  rfl

/-- Tokens in chunks of 64, the chunk first. -/
theorem chunked (m : ℕ) (X : ℕ → ℕ → ℕ → ℕ → ℝ) (h : (⟨4, ![2, 1024, 36, m]⟩ : Shape).ShapeCasts ⟨5, ![2, 16, 64, 36, m]⟩)
    (h' : (⟨5, ![2, 16, 64, 36, m]⟩ : Shape).Transposes [1, 0, 3, 2, 4] ⟨5, ![16, 2, 36, 64, m]⟩) :
    transpose (⟨5, ![16, 2, 36, 64, m]⟩ : Shape) [1, 0, 3, 2, 4] (shapeCast (⟨5, ![2, 16, 64, 36, m]⟩ : Shape) (a4 2 1024 36 m X) h) h'
      = c5 m fun n B H t d => X B (64 * n + t) H d := by
  have e1 : shapeCast (⟨5, ![2, 16, 64, 36, m]⟩ : Shape) (a4 2 1024 36 m X) h = a5 2 16 64 36 m fun B n t H d => X B (64 * n + t) H d :=
    shapeCast_up _ _ (fun j => ix4 (j 0) ⟨64 * (j 1).val + (j 2).val, by
      have h1 : (j 1).val < 16 := (j 1).isLt
      have h2 : (j 2).val < 64 := (j 2).isLt
      omega⟩ (j 3) (j 4)) fun j => by
      rw [Shape.rowMajor_val_four, Shape.rowMajor_val_five]
      show (((j 0).val * 1024 + (64 * (j 1).val + (j 2).val)) * 36 + (j 3).val) * m + (j 4).val
        = ((((j 0).val * 16 + (j 1).val) * 64 + (j 2).val) * 36 + (j 3).val) * m + (j 4).val
      ring
  rw [e1]
  rfl

theorem chunked1 (X : ℕ → ℕ → ℕ → ℝ) :
    transpose S16x2x36x64 [1, 0, 3, 2] (shapeCast S2x16x64x36 (a3 2 1024 36 X) shapeCasts_S2x1024x36_S2x16x64x36) transposes_S2x16x64x36_S16x2x36x64_1_0_3_2
      = a4 16 2 36 64 fun n B H t => X B (64 * n + t) H := by
  have e1 : shapeCast S2x16x64x36 (a3 2 1024 36 X) shapeCasts_S2x1024x36_S2x16x64x36 = a4 2 16 64 36 fun B n t H => X B (64 * n + t) H :=
    shapeCast_up _ _ (fun j => ix3 (j 0) ⟨64 * (j 1).val + (j 2).val, by
      have h1 : (j 1).val < 16 := (j 1).isLt
      have h2 : (j 2).val < 64 := (j 2).isLt
      omega⟩ (j 3)) fun j => by
      rw [Shape.rowMajor_val_four, Shape.rowMajor_val_three]
      show ((j 0).val * 1024 + (64 * (j 1).val + (j 2).val)) * 36 + (j 3).val
        = (((j 0).val * 16 + (j 1).val) * 64 + (j 2).val) * 36 + (j 3).val
      ring
  rw [e1]
  rfl

/-- Rows against rows. -/
theorem dotRows (φ φ' : FTy) (p : Option ContractPrecision) (X Y : ℕ → ℕ → ℕ → ℕ → ℕ → ℝ) :
    Host.dotGeneral (F := Ideal) (φ₁ := φ) (φ₂ := φ') dot_S16x2x36x64x192_S16x2x36x64x192_S16x2x36x64x64_4_4_3_3_012_012 p (c5 192 X) (c5 192 Y)
      = c5 64 fun n B H t s => ∑ d ∈ range 192, X n B H t d * Y n B H s d :=
  dot_up _ φ φ' p 192 rfl rfl _ _ (fun j x => X (j 0).val (j 1).val (j 2).val (j 3).val x) (fun j x => Y (j 0).val (j 1).val (j 2).val (j 4).val x)
    (fun _ _ => rfl) (fun _ _ => rfl)
/-- Square matrices. -/
theorem dotSq (φ φ' : FTy) (p : Option ContractPrecision) (X Y : ℕ → ℕ → ℕ → ℕ → ℕ → ℝ) :
    Host.dotGeneral (F := Ideal) (φ₁ := φ) (φ₂ := φ') dot_S16x2x36x64x64_S16x2x36x64x64_S16x2x36x64x64_4_3_3_4_012_012 p (c5 64 X) (c5 64 Y)
      = c5 64 fun n B H => mm (X n B H) (Y n B H) :=
  dot_up _ φ φ' p 64 rfl rfl _ _ (fun j x => X (j 0).val (j 1).val (j 2).val (j 3).val x) (fun j x => Y (j 0).val (j 1).val (j 2).val x (j 4).val)
    (fun _ _ => rfl) (fun _ _ => rfl)
theorem dot192 (φ φ' : FTy) (p : Option ContractPrecision) (X Y : ℕ → ℕ → ℕ → ℕ → ℕ → ℝ) :
    Host.dotGeneral (F := Ideal) (φ₁ := φ) (φ₂ := φ') dot_S16x2x36x64x64_S16x2x36x64x192_S16x2x36x64x192_4_3_3_4_012_012 p (c5 64 X) (c5 192 Y)
      = c5 192 fun n B H => mm (X n B H) (Y n B H) :=
  dot_up _ φ φ' p 64 rfl rfl _ _ (fun j x => X (j 0).val (j 1).val (j 2).val (j 3).val x) (fun j x => Y (j 0).val (j 1).val (j 2).val x (j 4).val)
    (fun _ _ => rfl) (fun _ _ => rfl)
theorem dot128 (φ φ' : FTy) (p : Option ContractPrecision) (X Y : ℕ → ℕ → ℕ → ℕ → ℕ → ℝ) :
    Host.dotGeneral (F := Ideal) (φ₁ := φ) (φ₂ := φ') dot_S16x2x36x64x64_S16x2x36x64x128_S16x2x36x64x128_4_3_3_4_012_012 p (c5 64 X) (c5 128 Y)
      = c5 128 fun n B H => mm (X n B H) (Y n B H) :=
  dot_up _ φ φ' p 64 rfl rfl _ _ (fun j x => X (j 0).val (j 1).val (j 2).val (j 3).val x) (fun j x => Y (j 0).val (j 1).val (j 2).val x (j 4).val)
    (fun _ _ => rfl) (fun _ _ => rfl)

/-! ## Masks and the unit matrix -/

theorem zero_f32 : FloatOps.ofBits (F := Ideal) .f32 (0x00000000#32) = ((0 : ℝ) : EReal) := by
  show Ideal.ofBits .f32 0#32 = _
  simp [Ideal.ofBits, Ideal.ieee]

theorem lt_all : ∀ t s : Fin 64, Scalar.cmpi .slt (BitVec.ofNat 32 s.val) (BitVec.ofNat 32 t.val) = if s.val < t.val then 1#1 else 0#1 := by decide +kernel
theorem le_all : ∀ t s : Fin 64, Scalar.cmpi .sle (BitVec.ofNat 32 s.val) (BitVec.ofNat 32 t.val) = if s.val ≤ t.val then 1#1 else 0#1 := by decide +kernel
theorem eq_all : ∀ t s : Fin 64, Scalar.cmpi .eq (BitVec.ofNat 32 t.val + 0#32) (BitVec.ofNat 32 s.val) = if t.val = s.val then 1#1 else 0#1 := by decide +kernel

theorem mask1 (ix : S16x2x36x64x64.Idx) : K_main_call1_v1 (F := Ideal) ix = if (ix 4).val < (ix 3).val then 1#1 else 0#1 := lt_all (ix 3) (ix 4)
theorem mask2 (ix : S16x2x36x64x64.Idx) : K_main_call2_v1 (F := Ideal) ix = if (ix 4).val ≤ (ix 3).val then 1#1 else 0#1 := le_all (ix 3) (ix 4)
theorem zeros1 : K_main_call1_v2 (F := Ideal) = c5 64 fun _ _ _ _ _ => 0 := funext fun _ => zero_f32
theorem zeros2 : K_main_call2_v2 (F := Ideal) = c5 64 fun _ _ _ _ _ => 0 := funext fun _ => zero_f32

theorem eye : K_main_v80 (F := Ideal) = c5 64 fun _ _ _ => one := by
  funext ix
  have h := eq_all (ix 3) (ix 4)
  show (((Scalar.cmpi .eq (BitVec.ofNat 32 (ix 3).val + 0#32) (BitVec.ofNat 32 (ix 4).val)).toNat : ℝ) : EReal) = ((one (ix 3).val (ix 4).val : ℝ) : EReal)
  rw [h]
  unfold one
  split_ifs <;> simp

theorem eyePlus (X : ℕ → ℕ → ℕ → ℕ → ℕ → ℝ) :
    addf (F := Ideal) (φ := .f32) (K_main_v80 (F := Ideal)) (c5 64 X) = c5 64 fun n B H => onePlus (X n B H) := by
  rw [eye, addf_up]
  rfl

variable (x1 x3 : (⟨S2x1024x36x6, .i8⟩ : BufTy).Contents (Elt Ideal)) (x4 : (⟨S2x1024x36x128, .bf16⟩ : BufTy).Contents (Elt Ideal))
  (x5 : (⟨S2x1024x36x192, .f32⟩ : BufTy).Contents (Elt Ideal)) (x6 : (⟨S2x1024x36, .f32⟩ : BufTy).Contents (Elt Ideal))
  (y0 y1 : (⟨S2x1024x36x192, .bf16⟩ : BufTy).Contents (Elt Ideal)) (a : Args)

/-- What the computation before the loop reads, as reals. -/
structure In : Prop where
  qs : A_main_v9 (F := Ideal) x1 x3 x4 x5 x6 y0 y1 = a4 2 1024 36 6 a.qs
  ks : A_main_v23 (F := Ideal) x1 x3 x4 x5 x6 y0 y1 = a4 2 1024 36 6 a.ks
  q : y0 = a4 2 1024 36 192 a.q
  k : y1 = a4 2 1024 36 192 a.k
  v : x4 = a4 2 1024 36 128 a.v
  g : x5 = a4 2 1024 36 192 a.g
  b : x6 = a3 2 1024 36 a.b

variable {x1 x3 x4 x5 x6 y0 y1 a} (h : In x1 x3 x4 x5 x6 y0 y1 a)
include h

theorem v14 : A_main_v14 (F := Ideal) x1 x3 x4 x5 x6 y0 y1 = a4 2 1024 36 192 fun B t H d => a.q B t H d * a.qs B t H (d / 32) := by
  unfold A_main_v14 A_main_v13 A_main_v12 A_main_v11 A_main_v10
  rw [h.qs, h.q]
  exact scaled a.q a.qs
theorem v28 : A_main_v28 (F := Ideal) x1 x3 x4 x5 x6 y0 y1 = a4 2 1024 36 192 fun B t H d => a.k B t H d * a.ks B t H (d / 32) := by
  unfold A_main_v28 A_main_v27 A_main_v26 A_main_v25 A_main_v24
  rw [h.ks, h.k]
  exact scaled a.k a.ks
theorem v16 : A_main_v16 (F := Ideal) x1 x3 x4 x5 x6 y0 y1 = c5 192 fun n B H => (a.chunk B H n).q := by
  unfold A_main_v16 A_main_v15
  rw [v14 h]
  refine (chunked 192 _ _ _).trans (a5_congr fun n B H t d _ _ _ _ hd => ?_)
  unfold Args.chunk
  simp only [hd, if_true]
theorem v30 : A_main_v30 (F := Ideal) x1 x3 x4 x5 x6 y0 y1 = c5 192 fun n B H => (a.chunk B H n).k := by
  unfold A_main_v30 A_main_v29
  rw [v28 h]
  exact chunked 192 _ _ _
theorem v32 : A_main_v32 (F := Ideal) x1 x3 x4 x5 x6 y0 y1 = c5 128 fun n B H => (a.chunk B H n).v := by
  unfold A_main_v32 A_main_v31
  rw [h.v]
  exact chunked 128 _ _ _
theorem v34 : A_main_v34 (F := Ideal) x1 x3 x4 x5 x6 y0 y1 = c5 192 fun n B H => (a.chunk B H n).g := by
  unfold A_main_v34 A_main_v33
  rw [h.g]
  exact chunked 192 _ _ _
theorem v36 : A_main_v36 (F := Ideal) x1 x3 x4 x5 x6 y0 y1 = a4 16 2 36 64 fun n B H => (a.chunk B H n).b := by
  unfold A_main_v36 A_main_v35
  rw [h.b]
  exact chunked1 _
/-- The gate sums. -/
theorem v37 : A_main_v37 (F := Ideal) x1 x3 x4 x5 x6 y0 y1 = c5 192 fun n B H => (a.chunk B H n).gc := by
  unfold A_main_v37
  rw [v34 h]
  exact cumsum_up _ _ _ (zero_f32.trans EReal.coe_zero) _
theorem v39 : A_main_v39 (F := Ideal) x1 x3 x4 x5 x6 y0 y1 = a4 16 2 36 192 fun n B H d => (a.chunk B H n).gc 63 d := by
  unfold A_main_v39 A_main_v38
  rw [v37 h]
  have e : extractStridedSlice S16x2x36x1x192 ![0, 0, 0, 63, 0] (c5 192 fun n B H => (a.chunk B H n).gc) slices_S16x2x36x64x192_S16x2x36x1x192_0_0_0_63_0
      = a5 16 2 36 1 192 fun n B H _ d => (a.chunk B H n).gc 63 d := by
    funext j
    have h3 : (j 3).val < 1 := (j 3).isLt
    show (((a.chunk (0 + (j 1).val) (0 + (j 2).val) (0 + (j 0).val)).gc (63 + (j 3).val) (0 + (j 4).val) : ℝ) : EReal) = _
    simp only [Nat.zero_add, show (j 3).val = 0 by omega, Nat.add_zero]
    rfl
  rw [e]
  exact shapeCast_up _ _ (fun j : S16x2x36x192.Idx => (ix5 (j 0) (j 1) (j 2) 0 (j 3) : S16x2x36x1x192.Idx)) fun j => by
    rw [Shape.rowMajor_val_four, Shape.rowMajor_val_five]
    show ((((j 0).val * 2 + (j 1).val) * 36 + (j 2).val) * 1 + 0) * 192 + (j 3).val = (((j 0).val * 2 + (j 1).val) * 36 + (j 2).val) * 192 + (j 3).val
    ring
theorem v42 : A_main_v42 (F := Ideal) x1 x3 x4 x5 x6 y0 y1 = c5 192 fun n B H => (a.chunk B H n).qpos := by
  unfold A_main_v42 A_main_v41 A_main_v40
  rw [v16 h, v37 h, exp_up, truncf_up, mulf_up]
  rfl
theorem v45 : A_main_v45 (F := Ideal) x1 x3 x4 x5 x6 y0 y1 = c5 192 fun n B H => (a.chunk B H n).kpos := by
  unfold A_main_v45 A_main_v44 A_main_v43
  rw [v30 h, v37 h, exp_up, truncf_up, mulf_up]
  rfl
theorem v49 : A_main_v49 (F := Ideal) x1 x3 x4 x5 x6 y0 y1 = c5 192 fun n B H => (a.chunk B H n).kneg := by
  unfold A_main_v49 A_main_v48 A_main_v47 A_main_v46
  rw [v30 h, v37 h, negf_up, exp_up, truncf_up, mulf_up]
  rfl
theorem v55 : A_main_v55 (F := Ideal) x1 x3 x4 x5 x6 y0 y1 = c5 192 fun n B H => (a.chunk B H n).kdec := by
  unfold A_main_v55 A_main_v54 A_main_v53 A_main_v52 A_main_v51 A_main_v50
  rw [v30 h, v37 h, v39 h]
  have e : broadcastInDim S16x2x36x64x192 ![0, 1, 2, 3, 4] bcast_S16x2x36x1x192_S16x2x36x64x192_0_1_2_3_4
      (broadcastInDim S16x2x36x1x192 ![0, 1, 2, 4] bcast_S16x2x36x192_S16x2x36x1x192_0_1_2_4 (a4 16 2 36 192 fun n B H d => (a.chunk B H n).gc 63 d))
      = c5 192 fun n B H _ d => (a.chunk B H n).gc 63 d := rfl
  rw [e, subf_up, exp_up, truncf_up, mulf_up]
  rfl
/-- The system's matrix. -/
theorem v67 : A_main_v67 (F := Ideal) x1 x3 x4 x5 x6 y0 y1 = c5 64 fun n B H => (a.chunk B H n).A := by
  unfold A_main_v67 A_main_v66 A_main_v65 A_main_v64 A_main_v60
  rw [v45 h, v49 h, v36 h, dotRows]
  have e : broadcastInDim S16x2x36x64x64 ![0, 1, 2, 3, 4] bcast_S16x2x36x64x1_S16x2x36x64x64_0_1_2_3_4
      (broadcastInDim S16x2x36x64x1 ![0, 1, 2, 3] bcast_S16x2x36x64_S16x2x36x64x1_0_1_2_3 (a4 16 2 36 64 fun n B H => (a.chunk B H n).b))
      = c5 64 fun n B H t _ => (a.chunk B H n).b t := rfl
  rw [e, mulf_up, zeros1]
  exact select_up _ _ _ (fun ix : S16x2x36x64x64.Idx => (ix 4).val < (ix 3).val) mask1
/-- The queries against the keys. -/
theorem v72 : A_main_v72 (F := Ideal) x1 x3 x4 x5 x6 y0 y1 = c5 64 fun n B H => (a.chunk B H n).Q := by
  unfold A_main_v72 A_main_v68
  rw [v42 h, v49 h, dotRows, zeros2]
  exact select_up _ _ _ (fun ix : S16x2x36x64x64.Idx => (ix 4).val ≤ (ix 3).val) mask2

/-! ## The inverse -/

theorem p0 : A_main_v81 (F := Ideal) x1 x3 x4 x5 x6 y0 y1 = c5 64 fun n B H => prods (a.chunk B H n).A 0 := by
  unfold A_main_v81
  rw [v67 h, eye, subf_up]
  rfl
theorem w1 : A_main_v82 (F := Ideal) x1 x3 x4 x5 x6 y0 y1 = c5 64 fun n B H => pows (a.chunk B H n).A 1 := by
  unfold A_main_v82
  rw [v67 h, dotSq]
  rfl
theorem p1 : A_main_v86 (F := Ideal) x1 x3 x4 x5 x6 y0 y1 = c5 64 fun n B H => prods (a.chunk B H n).A 1 := by
  unfold A_main_v86 A_main_v85
  rw [w1 h, p0 h]
  exact (congrArg _ (eyePlus _)).trans (dotSq _ _ _ _ _)
theorem w2 : A_main_v87 (F := Ideal) x1 x3 x4 x5 x6 y0 y1 = c5 64 fun n B H => pows (a.chunk B H n).A 2 := by
  unfold A_main_v87
  rw [w1 h, dotSq]
  rfl
theorem p2 : A_main_v91 (F := Ideal) x1 x3 x4 x5 x6 y0 y1 = c5 64 fun n B H => prods (a.chunk B H n).A 2 := by
  unfold A_main_v91 A_main_v90
  rw [w2 h, p1 h]
  exact (congrArg _ (eyePlus _)).trans (dotSq _ _ _ _ _)
theorem w3 : A_main_v92 (F := Ideal) x1 x3 x4 x5 x6 y0 y1 = c5 64 fun n B H => pows (a.chunk B H n).A 3 := by
  unfold A_main_v92
  rw [w2 h, dotSq]
  rfl
theorem p3 : A_main_v96 (F := Ideal) x1 x3 x4 x5 x6 y0 y1 = c5 64 fun n B H => prods (a.chunk B H n).A 3 := by
  unfold A_main_v96 A_main_v95
  rw [w3 h, p2 h]
  exact (congrArg _ (eyePlus _)).trans (dotSq _ _ _ _ _)
theorem w4 : A_main_v97 (F := Ideal) x1 x3 x4 x5 x6 y0 y1 = c5 64 fun n B H => pows (a.chunk B H n).A 4 := by
  unfold A_main_v97
  rw [w3 h, dotSq]
  rfl
theorem p4 : A_main_v101 (F := Ideal) x1 x3 x4 x5 x6 y0 y1 = c5 64 fun n B H => prods (a.chunk B H n).A 4 := by
  unfold A_main_v101 A_main_v100
  rw [w4 h, p3 h]
  exact (congrArg _ (eyePlus _)).trans (dotSq _ _ _ _ _)
theorem w5 : A_main_v102 (F := Ideal) x1 x3 x4 x5 x6 y0 y1 = c5 64 fun n B H => pows (a.chunk B H n).A 5 := by
  unfold A_main_v102
  rw [w4 h, dotSq]
  rfl
theorem p5 : A_main_v106 (F := Ideal) x1 x3 x4 x5 x6 y0 y1 = c5 64 fun n B H => prods (a.chunk B H n).A 5 := by
  unfold A_main_v106 A_main_v105
  rw [w5 h, p4 h]
  exact (congrArg _ (eyePlus _)).trans (dotSq _ _ _ _ _)

/-- The two parts of the system's solution. -/
theorem v111 : A_main_v111 (F := Ideal) x1 x3 x4 x5 x6 y0 y1 = c5 192 fun n B H t d => ∑ s ∈ range 64, prods (a.chunk B H n).A 5 t s * ((a.chunk B H n).b s * (a.chunk B H n).kpos s d) := by
  unfold A_main_v111 A_main_v110 A_main_v109 A_main_v108 A_main_v107
  rw [v45 h, v36 h, p5 h]
  have e : broadcastInDim S16x2x36x64x192 ![0, 1, 2, 3, 4] bcast_S16x2x36x64x1_S16x2x36x64x192_0_1_2_3_4
      (broadcastInDim S16x2x36x64x1 ![0, 1, 2, 3] bcast_S16x2x36x64_S16x2x36x64x1_0_1_2_3 (a4 16 2 36 64 fun n B H => (a.chunk B H n).b))
      = c5 192 fun n B H t _ => (a.chunk B H n).b t := rfl
  rw [e, extf_up, mulf_up]
  exact dot192 _ _ _ _ (fun n B H t d => (a.chunk B H n).b t * (a.chunk B H n).kpos t d)
theorem v116 : A_main_v116 (F := Ideal) x1 x3 x4 x5 x6 y0 y1 = c5 128 fun n B H t e => ∑ s ∈ range 64, prods (a.chunk B H n).A 5 t s * ((a.chunk B H n).b s * (a.chunk B H n).v s e) := by
  unfold A_main_v116 A_main_v115 A_main_v114 A_main_v113 A_main_v112
  rw [v32 h, v36 h, p5 h]
  have e : broadcastInDim S16x2x36x64x128 ![0, 1, 2, 3, 4] bcast_S16x2x36x64x1_S16x2x36x64x128_0_1_2_3_4
      (broadcastInDim S16x2x36x64x1 ![0, 1, 2, 3] bcast_S16x2x36x64_S16x2x36x64x1_0_1_2_3 (a4 16 2 36 64 fun n B H => (a.chunk B H n).b))
      = c5 128 fun n B H t _ => (a.chunk B H n).b t := rfl
  rw [e, extf_up, mulf_up]
  exact dot128 _ _ _ _ (fun n B H t e => (a.chunk B H n).b t * (a.chunk B H n).v t e)
theorem v117 : A_main_v117 (F := Ideal) x1 x3 x4 x5 x6 y0 y1 = c5 192 fun n B H => (a.chunk B H n).qpos := by
  unfold A_main_v117
  rw [v42 h, extf_up]
theorem v118 : A_main_v118 (F := Ideal) x1 x3 x4 x5 x6 y0 y1 = c5 192 fun n B H => (a.chunk B H n).kdec := by
  unfold A_main_v118
  rw [v55 h, extf_up]
theorem v119 : A_main_v119 (F := Ideal) x1 x3 x4 x5 x6 y0 y1 = a4 16 2 36 192 fun n B H d => Real.exp ((a.chunk B H n).gc 63 d) := by
  unfold A_main_v119
  rw [v39 h, exp_up]

end Cert.ReferenceIdeal.Setup

end
-- ==== Proof.RefStep.lean ====
/-  The reference's loop on arrays of reals: one trip is one chunk of every head. -/
module

public import proofs.«01_k».proof.Proof.RefSetup
public import Idealize.ShloMosaic.Lib.DynamicIndex
public import Idealize.ShloMosaic.Lib.Pointwise.ShapeOpsCore

@[expose] public section

set_option maxRecDepth 16384

noncomputable section

namespace Cert.ReferenceIdeal.Trip

open Idealize.ShloMosaic Idealize.ShloMosaic.ValueIdx Cert.ReferenceIdeal Cert.ReferenceIdeal.Gen Cert.ReferenceIdeal.Step
open Cert.ReferenceIdeal.Arr Cert.ReferenceIdeal.Setup Cert.Spec Finset

/-- The start of a trip's slice. -/
theorem start5 (j : ℕ) (hj : j < 16) (k : Fin 5) :
    ((![(constantI S_ 32 (BitVec.ofNat 32 j) : S_.Idx → BitVec 32), constantI S_ 32 0#32, constantI S_ 32 0#32, constantI S_ 32 0#32,
      constantI S_ 32 0#32] : Fin 5 → S_.Idx → BitVec 32) k (Shape.Idx.first h_S_)).toInt = (((![j, 0, 0, 0, 0] : Fin 5 → ℕ) k : ℕ) : ℤ) := by
  match k with
  | ⟨0, _⟩ => exact toInt_ofNat_of_lt (by omega)
  | ⟨1, _⟩ => rfl
  | ⟨2, _⟩ => rfl
  | ⟨3, _⟩ => rfl
  | ⟨4, _⟩ => rfl

theorem start4 (j : ℕ) (hj : j < 16) (k : Fin 4) :
    ((![(constantI S_ 32 (BitVec.ofNat 32 j) : S_.Idx → BitVec 32), constantI S_ 32 0#32, constantI S_ 32 0#32, constantI S_ 32 0#32]
      : Fin 4 → S_.Idx → BitVec 32) k (Shape.Idx.first h_S_)).toInt = (((![j, 0, 0, 0] : Fin 4 → ℕ) k : ℕ) : ℤ) := by
  match k with
  | ⟨0, _⟩ => exact toInt_ofNat_of_lt (by omega)
  | ⟨1, _⟩ => rfl
  | ⟨2, _⟩ => rfl
  | ⟨3, _⟩ => rfl

/-- Chunk `j` of an array of chunks. -/
theorem slice5 (j : ℕ) (hj : j < 16) (m : ℕ) (X : ℕ → ℕ → ℕ → ℕ → ℕ → ℝ) (start : Fin 5 → ℤ) (hs : ∀ k, start k = (((![j, 0, 0, 0, 0] : Fin 5 → ℕ) k : ℕ) : ℤ))
    (h : (⟨5, ![16, 2, 36, 64, m]⟩ : Shape).Slices (fun _ => 0) ⟨5, ![1, 2, 36, 64, m]⟩)
    (h' : (⟨5, ![1, 2, 36, 64, m]⟩ : Shape).ShapeCasts ⟨4, ![2, 36, 64, m]⟩) :
    shapeCast (⟨4, ![2, 36, 64, m]⟩ : Shape) (Host.dynamicSlice (⟨5, ![1, 2, 36, 64, m]⟩ : Shape) (c5 m X) start h) h' = a4 2 36 64 m (X j) := by
  have e : Host.dynamicSlice (⟨5, ![1, 2, 36, 64, m]⟩ : Shape) (c5 m X) start h = a5 1 2 36 64 m fun _ => X j := by
    funext i
    rw [Host.dynamicSlice_apply]
    have hc : ∀ a, Host.clampedStart (⟨5, ![16, 2, 36, 64, m]⟩ : Shape) (⟨5, ![1, 2, 36, 64, m]⟩ : Shape) h.1 start a = (![j, 0, 0, 0, 0] : Fin 5 → ℕ) a := fun a =>
      Host.clampedStart_of_le h.1 start a _ (hs a) (by
        match a with
        | ⟨0, _⟩ => show j + 1 ≤ 16; omega
        | ⟨1, _⟩ => show 0 + 2 ≤ 2; omega
        | ⟨2, _⟩ => show 0 + 36 ≤ 36; omega
        | ⟨3, _⟩ => show 0 + 64 ≤ 64; omega
        | ⟨4, _⟩ => show 0 + m ≤ m; omega)
    have h0 : (i 0).val < 1 := (i 0).isLt
    show ((X (Host.clampedStart _ _ h.1 start 0 + (i 0).val) (Host.clampedStart _ _ h.1 start 1 + (i 1).val) (Host.clampedStart _ _ h.1 start 2 + (i 2).val)
      (Host.clampedStart _ _ h.1 start 3 + (i 3).val) (Host.clampedStart _ _ h.1 start 4 + (i 4).val) : ℝ) : EReal)
      = ((X j (i 1).val (i 2).val (i 3).val (i 4).val : ℝ) : EReal)
    rw [hc 0, hc 1, hc 2, hc 3, hc 4]
    show ((X (j + (i 0).val) (0 + (i 1).val) (0 + (i 2).val) (0 + (i 3).val) (0 + (i 4).val) : ℝ) : EReal) = _
    simp only [Nat.zero_add, show (i 0).val = 0 by omega, Nat.add_zero]
  rw [e]
  exact shapeCast_up _ _ (fun j : (⟨4, ![2, 36, 64, m]⟩ : Shape).Idx => (ValueIdx.ix5 0 (j 0) (j 1) (j 2) (j 3) : (⟨5, ![1, 2, 36, 64, m]⟩ : Shape).Idx)) fun j => by
    rw [Shape.rowMajor_val_four, Shape.rowMajor_val_five]
    show (((0 * 2 + (j 0).val) * 36 + (j 1).val) * 64 + (j 2).val) * m + (j 3).val = (((j 0).val * 36 + (j 1).val) * 64 + (j 2).val) * m + (j 3).val
    ring

/-- Row `j` of an array with one row for a chunk. -/
theorem slice4 (j : ℕ) (hj : j < 16) (X : ℕ → ℕ → ℕ → ℕ → ℝ) (start : Fin 4 → ℤ) (hs : ∀ k, start k = (((![j, 0, 0, 0] : Fin 4 → ℕ) k : ℕ) : ℤ))
    (h : S16x2x36x192.Slices (fun _ => 0) S1x2x36x192) (h' : S1x2x36x192.ShapeCasts S2x36x192) :
    shapeCast S2x36x192 (Host.dynamicSlice S1x2x36x192 (a4 16 2 36 192 X) start h) h' = a3 2 36 192 (X j) := by
  have e : Host.dynamicSlice S1x2x36x192 (a4 16 2 36 192 X) start h = a4 1 2 36 192 fun _ => X j := by
    funext i
    rw [Host.dynamicSlice_apply]
    have hc : ∀ a, Host.clampedStart S16x2x36x192 S1x2x36x192 h.1 start a = (![j, 0, 0, 0] : Fin 4 → ℕ) a := fun a =>
      Host.clampedStart_of_le h.1 start a _ (hs a) (by
        match a with
        | ⟨0, _⟩ => show j + 1 ≤ 16; omega
        | ⟨1, _⟩ => show 0 + 2 ≤ 2; omega
        | ⟨2, _⟩ => show 0 + 36 ≤ 36; omega
        | ⟨3, _⟩ => show 0 + 192 ≤ 192; omega)
    have h0 : (i 0).val < 1 := (i 0).isLt
    show ((X (Host.clampedStart _ _ h.1 start 0 + (i 0).val) (Host.clampedStart _ _ h.1 start 1 + (i 1).val) (Host.clampedStart _ _ h.1 start 2 + (i 2).val)
      (Host.clampedStart _ _ h.1 start 3 + (i 3).val) : ℝ) : EReal) = ((X j (i 1).val (i 2).val (i 3).val : ℝ) : EReal)
    rw [hc 0, hc 1, hc 2, hc 3]
    show ((X (j + (i 0).val) (0 + (i 1).val) (0 + (i 2).val) (0 + (i 3).val) : ℝ) : EReal) = _
    simp only [Nat.zero_add, show (i 0).val = 0 by omega, Nat.add_zero]
  rw [e]
  exact shapeCast_up _ _ (fun j : S2x36x192.Idx => (ValueIdx.ix4 0 (j 0) (j 1) (j 2) : S1x2x36x192.Idx)) fun j => by
    rw [Shape.rowMajor_val_four, Shape.rowMajor_val_three]
    show ((0 * 2 + (j 0).val) * 36 + (j 1).val) * 192 + (j 2).val = ((j 0).val * 36 + (j 1).val) * 192 + (j 2).val
    ring

/-- Chunk `j` of an array of chunks replaced. -/
theorem update5 (j : ℕ) (hj : j < 16) (X : ℕ → ℕ → ℕ → ℕ → ℕ → ℝ) (Y : ℕ → ℕ → ℕ → ℕ → ℝ) (start : Fin 5 → ℤ)
    (hs : ∀ k, start k = (((![j, 0, 0, 0, 0] : Fin 5 → ℕ) k : ℕ) : ℤ)) (h : S16x2x36x64x128.Slices (fun _ => 0) S1x2x36x64x128) :
    Host.dynamicUpdateSlice (c5 128 X) (a5 1 2 36 64 128 fun _ => Y) start h = c5 128 fun n B H t e => if n = j then Y B H t e else X n B H t e := by
  funext i
  rw [Host.dynamicUpdateSlice_apply]
  have hc : ∀ a, Host.clampedStart S16x2x36x64x128 S1x2x36x64x128 h.1 start a = (![j, 0, 0, 0, 0] : Fin 5 → ℕ) a := fun a =>
    Host.clampedStart_of_le h.1 start a _ (hs a) (by
      match a with
      | ⟨0, _⟩ => show j + 1 ≤ 16; omega
      | ⟨1, _⟩ => show 0 + 2 ≤ 2; omega
      | ⟨2, _⟩ => show 0 + 36 ≤ 36; omega
      | ⟨3, _⟩ => show 0 + 64 ≤ 64; omega
      | ⟨4, _⟩ => show 0 + 128 ≤ 128; omega)
  have hin : (∀ a : Fin S16x2x36x64x128.rank, Host.clampedStart S16x2x36x64x128 S1x2x36x64x128 h.1 start a ≤ (i a).val
      ∧ (i a).val < Host.clampedStart S16x2x36x64x128 S1x2x36x64x128 h.1 start a + S1x2x36x64x128.size (a.cast h.1.symm)) ↔ (i 0).val = j := by
    constructor
    · intro H
      have h0 := H 0
      rw [hc 0] at h0
      have h1 : j ≤ (i 0).val := h0.1
      have h2 : (i 0).val < j + 1 := h0.2
      omega
    · intro H a
      rw [hc a]
      match a with
      | ⟨0, _⟩ => show j ≤ (i 0).val ∧ (i 0).val < j + 1; omega
      | ⟨1, _⟩ => exact ⟨Nat.zero_le _, by have := (i 1).isLt; show (i 1).val < 0 + 2; rw [Nat.zero_add]; exact this⟩
      | ⟨2, _⟩ => exact ⟨Nat.zero_le _, by have := (i 2).isLt; show (i 2).val < 0 + 36; rw [Nat.zero_add]; exact this⟩
      | ⟨3, _⟩ => exact ⟨Nat.zero_le _, by have := (i 3).isLt; show (i 3).val < 0 + 64; rw [Nat.zero_add]; exact this⟩
      | ⟨4, _⟩ => exact ⟨Nat.zero_le _, by have := (i 4).isLt; show (i 4).val < 0 + 128; rw [Nat.zero_add]; exact this⟩
  by_cases H : (i 0).val = j
  · rw [dif_pos (hin.mpr H)]
    show ((Y ((i 1).val - Host.clampedStart _ _ h.1 start 1) ((i 2).val - Host.clampedStart _ _ h.1 start 2) ((i 3).val - Host.clampedStart _ _ h.1 start 3)
      ((i 4).val - Host.clampedStart _ _ h.1 start 4) : ℝ) : EReal) = ((if (i 0).val = j then Y (i 1).val (i 2).val (i 3).val (i 4).val else _ : ℝ) : EReal)
    rw [hc 1, hc 2, hc 3, hc 4, if_pos H]
    rfl
  · rw [dif_neg (fun x => H (hin.mp x))]
    show _ = ((if (i 0).val = j then _ else X (i 0).val (i 1).val (i 2).val (i 3).val (i 4).val : ℝ) : EReal)
    rw [if_neg H]
    rfl

/-- Rows of 192 features against the state. -/
theorem dotState (X Y : ℕ → ℕ → ℕ → ℕ → ℝ) :
    Host.dotGeneral (F := Ideal) (φ₁ := .f32) (φ₂ := .f32) dot_S2x36x64x192_S2x36x192x128_S2x36x64x128_3_2_2_3_01_01 (some .fp32) (a4 2 36 64 192 X) (a4 2 36 192 128 Y)
      = a4 2 36 64 128 fun B H t e => ∑ d ∈ range 192, X B H t d * Y B H d e :=
  dot_up _ .f32 .f32 _ 192 rfl rfl _ _ (fun j x => X (j 0).val (j 1).val (j 2).val x) (fun j x => Y (j 0).val (j 1).val x (j 3).val) (fun _ _ => rfl) (fun _ _ => rfl)
theorem dotTokens (X Y : ℕ → ℕ → ℕ → ℕ → ℝ) :
    Host.dotGeneral (F := Ideal) (φ₁ := .f32) (φ₂ := .f32) dot_S2x36x64x64_S2x36x64x128_S2x36x64x128_3_2_2_3_01_01 (some .fp32) (a4 2 36 64 64 X) (a4 2 36 64 128 Y)
      = a4 2 36 64 128 fun B H t e => ∑ s ∈ range 64, X B H t s * Y B H s e :=
  dot_up _ .f32 .f32 _ 64 rfl rfl _ _ (fun j x => X (j 0).val (j 1).val (j 2).val x) (fun j x => Y (j 0).val (j 1).val x (j 3).val) (fun _ _ => rfl) (fun _ _ => rfl)
theorem dotOuter (X Y : ℕ → ℕ → ℕ → ℕ → ℝ) :
    Host.dotGeneral (F := Ideal) (φ₁ := .f32) (φ₂ := .f32) dot_S2x36x64x192_S2x36x64x128_S2x36x192x128_2_2_3_3_01_01 (some .fp32) (a4 2 36 64 192 X) (a4 2 36 64 128 Y)
      = a4 2 36 192 128 fun B H d e => ∑ s ∈ range 64, X B H s d * Y B H s e :=
  dot_up _ .f32 .f32 _ 64 rfl rfl _ _ (fun j x => X (j 0).val (j 1).val x (j 2).val) (fun j x => Y (j 0).val (j 1).val x (j 3).val) (fun _ _ => rfl) (fun _ _ => rfl)

/-- The loop's state before trip `j`. -/
structure At (a : Args) (c : ℝ) (j : ℕ) (s : State Ideal) : Prop where
  st : s.main_v121_7 = a4 2 36 192 128 fun B H => a.st B H j
  o : s.main_v121_8 = c5 128 fun n B H t e => if n < j then (a.chunk B H n).out c (a.st B H n) t e else 0
  qpos : s.main_v121_0 = c5 192 fun n B H => (a.chunk B H n).qpos
  Q : s.main_v121_1 = c5 64 fun n B H => (a.chunk B H n).Q
  uk : s.main_v121_2 = c5 192 fun n B H t d => ∑ s ∈ range 64, prods (a.chunk B H n).A 5 t s * ((a.chunk B H n).b s * (a.chunk B H n).kpos s d)
  uv : s.main_v121_3 = c5 128 fun n B H t e => ∑ s ∈ range 64, prods (a.chunk B H n).A 5 t s * ((a.chunk B H n).b s * (a.chunk B H n).v s e)
  kdec : s.main_v121_4 = c5 192 fun n B H => (a.chunk B H n).kdec
  dec : s.main_v121_5 = a4 16 2 36 192 fun n B H d => Real.exp ((a.chunk B H n).gc 63 d)

section
variable {a : Args} {c : ℝ} {j : ℕ} {s : State Ideal} (h : At a c j s) (hj : j < 16)
include h hj

theorem t5 : b5 (F := Ideal) j s = a4 2 36 64 192 fun B H => (a.chunk B H j).qpos := by
  unfold b5 b4 b0 b1 b2 b3
  rw [h.qpos]
  exact slice5 j hj 192 _ _ (start5 j hj) _ _
theorem t11 : b11 (F := Ideal) j s = a4 2 36 64 64 fun B H => (a.chunk B H j).Q := by
  unfold b11 b10 b6 b7 b8 b9
  rw [h.Q]
  exact slice5 j hj 64 _ _ (start5 j hj) _ _
theorem t29 : b29 (F := Ideal) j s = a4 2 36 64 192 fun B H => (a.chunk B H j).kdec := by
  unfold b29 b28 b24 b25 b26 b27
  rw [h.kdec]
  exact slice5 j hj 192 _ _ (start5 j hj) _ _
theorem t34 : b34 (F := Ideal) j s = a3 2 36 192 fun B H d => Real.exp ((a.chunk B H j).gc 63 d) := by
  unfold b34 b33 b30 b31 b32
  rw [h.dec]
  exact slice4 j hj _ _ (start4 j hj) _ _
/-- The system's solution. -/
theorem t36 : b36 (F := Ideal) j s = a4 2 36 64 128 fun B H => (a.chunk B H j).u (a.st B H j) := by
  have e23 : b23 (F := Ideal) j s = a4 2 36 64 128 fun B H t e => ∑ s ∈ range 64, prods (a.chunk B H j).A 5 t s * ((a.chunk B H j).b s * (a.chunk B H j).v s e) := by
    unfold b23 b22 b18 b19 b20 b21
    rw [h.uv]
    exact slice5 j hj 128 _ _ (start5 j hj) _ _
  have e17 : b17 (F := Ideal) j s = a4 2 36 64 192 fun B H t d => ∑ s ∈ range 64, prods (a.chunk B H j).A 5 t s * ((a.chunk B H j).b s * (a.chunk B H j).kpos s d) := by
    unfold b17 b16 b12 b13 b14 b15
    rw [h.uk]
    exact slice5 j hj 192 _ _ (start5 j hj) _ _
  unfold b36 b35
  rw [e23, e17, h.st, dotState, subf_up]
  exact a4_congr fun B H t e _ _ ht _ => Chunk.parts_solve (a.chunk B H j) (a.st B H j) e t ht
theorem t47 : b47 (F := Ideal) j s = a4 2 36 192 128 fun B H => a.st B H (j + 1) := by
  unfold b47 b46 b45 b44 b43
  rw [t36 h hj, t29 h hj, t34 h hj, h.st, dotOuter]
  have e : broadcastInDim S2x36x192x128 ![0, 1, 2, 3] bcast_S2x36x192x1_S2x36x192x128_0_1_2_3
      (broadcastInDim S2x36x192x1 ![0, 1, 2] bcast_S2x36x192_S2x36x192x1_0_1_2 (a3 2 36 192 fun B H d => Real.exp ((a.chunk B H j).gc 63 d)))
      = a4 2 36 192 128 fun B H d _ => Real.exp ((a.chunk B H j).gc 63 d) := rfl
  rw [e, mulf_up, addf_up]
  rfl
theorem t42 (hc : FloatOps.ofBits (F := Ideal) .f32 (0x3D93CD3A#32) = ((c : ℝ) : EReal)) :
    b42 (F := Ideal) j s = a4 2 36 64 128 fun B H => (a.chunk B H j).out c (a.st B H j) := by
  have e41 : b41 (F := Ideal) j s = a4 2 36 64 128 fun _ _ _ _ => c := funext fun _ => hc
  unfold b42 b39 b38 b37
  rw [e41, t36 h hj, t5 h hj, t11 h hj, h.st, dotState, dotTokens, addf_up, mulf_up]
  rfl
theorem t53 (hc : FloatOps.ofBits (F := Ideal) .f32 (0x3D93CD3A#32) = ((c : ℝ) : EReal)) :
    b53 (F := Ideal) j s = c5 128 fun n B H t e => if n < j + 1 then (a.chunk B H n).out c (a.st B H n) t e else 0 := by
  unfold b53 b52 b51 b50 b49 b48
  rw [t42 h hj hc, h.o]
  have e : broadcastInDim S1x2x36x64x128 ![1, 2, 3, 4] bcast_S2x36x64x128_S1x2x36x64x128_1_2_3_4 (a4 2 36 64 128 fun B H => (a.chunk B H j).out c (a.st B H j))
      = a5 1 2 36 64 128 fun _ B H => (a.chunk B H j).out c (a.st B H j) := rfl
  rw [e]
  refine (update5 j hj _ _ _ (start5 j hj) _).trans (a5_congr fun n B H t e _ _ _ _ _ => ?_)
  by_cases h1 : n = j
  · subst h1
    rw [if_pos rfl, if_pos (Nat.lt_succ_self n)]
  · rw [if_neg h1]
    by_cases h2 : n < j
    · rw [if_pos h2, if_pos (by omega)]
    · rw [if_neg h2, if_neg (by omega)]
/-- One trip. -/
theorem next (hc : FloatOps.ofBits (F := Ideal) .f32 (0x3D93CD3A#32) = ((c : ℝ) : EReal)) : At a c (j + 1) (step j s) :=
  ⟨(step_main_v121_7 j s).trans (t47 h hj), (step_main_v121_8 j s).trans (t53 h hj hc), h.qpos, h.Q, h.uk, h.uv, h.kdec, h.dec⟩
end

/-- The state the loop starts from. -/
theorem start {x1 x3 x4 x5 x6 y0 y1 a} (h : In x1 x3 x4 x5 x6 y0 y1 a) (c : ℝ) :
    At a c 0 (init (F := Ideal) (a4 2 36 192 128 a.h0) x1 x3 x4 x5 x6 y0 y1) where
  st := rfl
  o := funext fun _ => zero_f32
  qpos := v117 h
  Q := v72 h
  uk := v111 h
  uv := v116 h
  kdec := v118 h
  dec := v119 h

/-- After sixteen trips. -/
theorem all {a : Args} {c : ℝ} (hc : FloatOps.ofBits (F := Ideal) .f32 (0x3D93CD3A#32) = ((c : ℝ) : EReal)) (it : ℕ → State Ideal) (h0 : At a c 0 (it 0))
    (hs : ∀ n, it (n + 1) = step n (it n)) : ∀ j ≤ 16, At a c j (it j)
  | 0, _ => h0
  | j + 1, hj => hs j ▸ next (all hc it h0 hs j (by omega)) (by omega) hc

/-- The output in the reference's layout. -/
theorem out_arr {a : Args} {c : ℝ} {s : State Ideal} (h : At a c 16 s) :
    R_main_v124 s = (fun ix => ((a.o c (ix 0).val (ix 1).val ((ix 2).val / 128) ((ix 2).val % 128) : ℝ) : EReal) : S2x1024x4608.Idx → EReal) := by
  unfold R_main_v124
  rw [h.o]
  have e : transpose S2x16x64x36x128 [1, 0, 3, 2, 4] (c5 128 fun n B H t e => if n < 16 then (a.chunk B H n).out c (a.st B H n) t e else 0) transposes_S16x2x36x64x128_S2x16x64x36x128_1_0_3_2_4
      = a5 2 16 64 36 128 fun B n t H e => if n < 16 then (a.chunk B H n).out c (a.st B H n) t e else 0 := rfl
  rw [e, shapeCast_up _ _ (fun j : S2x1024x4608.Idx => (ValueIdx.ix5 (j 0) ⟨(j 1).val / 64, by
      have h1 : (j 1).val < 1024 := (j 1).isLt
      omega⟩ ⟨(j 1).val % 64, by omega⟩ ⟨(j 2).val / 128, by
      have h2 : (j 2).val < 4608 := (j 2).isLt
      omega⟩ ⟨(j 2).val % 128, by omega⟩ : S2x16x64x36x128.Idx)) fun j => by
    rw [Shape.rowMajor_val_five, Shape.rowMajor_val_three]
    show ((((j 0).val * 16 + (j 1).val / 64) * 64 + (j 1).val % 64) * 36 + (j 2).val / 128) * 128 + (j 2).val % 128 = ((j 0).val * 1024 + (j 1).val) * 4608 + (j 2).val
    omega]
  funext ix
  have h1 : (ix 1).val < 1024 := (ix 1).isLt
  show ((if (ix 1).val / 64 < 16 then _ else _ : ℝ) : EReal) = _
  rw [if_pos (by omega)]
  rfl

end Cert.ReferenceIdeal.Trip

end
-- ==== Proof.RefRun.lean ====
/-  The reference's run over the step of its loop: at a valuation that holds a state, one trip holds the next state, so the
    results are the fields of the step iterated from what the loop starts with. -/
module

public import proofs.«01_k».proof.Proof.Gen.ReferenceIdeal.Run
public import proofs.«01_k».proof.Proof.Gen.ReferenceIdeal.Step

@[expose] public section

noncomputable section

namespace Cert.ReferenceIdeal.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v121_7) = s.main_v121_7
  f_8 : V0 (Proc.devRef .tc main_v121_8) = s.main_v121_8
  f_0 : V0 (Proc.devRef .tc main_v121_0) = s.main_v121_0
  f_1 : V0 (Proc.devRef .tc main_v121_1) = s.main_v121_1
  f_2 : V0 (Proc.devRef .tc main_v121_2) = s.main_v121_2
  f_3 : V0 (Proc.devRef .tc main_v121_3) = s.main_v121_3
  f_4 : V0 (Proc.devRef .tc main_v121_4) = s.main_v121_4
  f_5 : V0 (Proc.devRef .tc main_v121_5) = s.main_v121_5
  n_6 : V0 (Proc.devRef .tc main_v121_6) = constantI S_ 32 (BitVec.ofNat 32 j)

variable {V0 s j}

set_option maxRecDepth 8192 in
theorem al_0 (h : Holds V0 s j) : (constantI S_ 32 0#32 : (Proc.devRef .tc main_while0b_call3_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call3_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call3_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call3_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x2x36x64x192 (V0 (Proc.devRef .tc main_v121_0)) (fun k => (((![V0 (Proc.devRef .tc main_v121_6), constantI S_ 32 0#32, constantI S_ 32 0#32, constantI S_ 32 0#32, constantI S_ 32 0#32] : Fin 5 → (⟨S_, .i32⟩ : BufTy).Contents (Elt F))) k (Shape.Idx.first h_S_)).toInt) sliceFits_S16x2x36x64x192_S1x2x36x64x192 : (Proc.devRef .tc main_while0b_call3_v0 : DevRef τ sig).ty.Contents (Elt F)) = Cert.ReferenceIdeal.Step.b4 j s := by
  unfold Cert.ReferenceIdeal.Step.b4
  rw [← al_0 h, ← al_1 h, ← al_2 h, ← al_3 h, h.f_0, h.n_6]
  try rfl
set_option maxRecDepth 8192 in
theorem al_5 (h : Holds V0 s j) : (shapeCast S2x36x64x192 (Host.dynamicSlice S1x2x36x64x192 (V0 (Proc.devRef .tc main_v121_0)) (fun k => (((![V0 (Proc.devRef .tc main_v121_6), constantI S_ 32 0#32, constantI S_ 32 0#32, constantI S_ 32 0#32, constantI S_ 32 0#32] : Fin 5 → (⟨S_, .i32⟩ : BufTy).Contents (Elt F))) k (Shape.Idx.first h_S_)).toInt) sliceFits_S16x2x36x64x192_S1x2x36x64x192) shapeCasts_S1x2x36x64x192_S2x36x64x192 : (Proc.devRef .tc main_while0b_v125 : DevRef τ sig).ty.Contents (Elt F)) = Cert.ReferenceIdeal.Step.b5 j s := by
  unfold Cert.ReferenceIdeal.Step.b5
  rw [← al_4 h]
  try rfl
set_option maxRecDepth 8192 in
theorem al_6 (h : Holds V0 s j) : (constantI S_ 32 0#32 : (Proc.devRef .tc main_while0b_call4_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call4_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call4_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call4_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x2x36x64x64 (V0 (Proc.devRef .tc main_v121_1)) (fun k => (((![V0 (Proc.devRef .tc main_v121_6), constantI S_ 32 0#32, constantI S_ 32 0#32, constantI S_ 32 0#32, constantI S_ 32 0#32] : Fin 5 → (⟨S_, .i32⟩ : BufTy).Contents (Elt F))) k (Shape.Idx.first h_S_)).toInt) sliceFits_S16x2x36x64x64_S1x2x36x64x64 : (Proc.devRef .tc main_while0b_call4_v0 : DevRef τ sig).ty.Contents (Elt F)) = Cert.ReferenceIdeal.Step.b10 j s := by
  unfold Cert.ReferenceIdeal.Step.b10
  rw [← al_6 h, ← al_7 h, ← al_8 h, ← al_9 h, h.f_1, h.n_6]
  try rfl
set_option maxRecDepth 8192 in
theorem al_11 (h : Holds V0 s j) : (shapeCast S2x36x64x64 (Host.dynamicSlice S1x2x36x64x64 (V0 (Proc.devRef .tc main_v121_1)) (fun k => (((![V0 (Proc.devRef .tc main_v121_6), constantI S_ 32 0#32, constantI S_ 32 0#32, constantI S_ 32 0#32, constantI S_ 32 0#32] : Fin 5 → (⟨S_, .i32⟩ : BufTy).Contents (Elt F))) k (Shape.Idx.first h_S_)).toInt) sliceFits_S16x2x36x64x64_S1x2x36x64x64) shapeCasts_S1x2x36x64x64_S2x36x64x64 : (Proc.devRef .tc main_while0b_v126 : DevRef τ sig).ty.Contents (Elt F)) = Cert.ReferenceIdeal.Step.b11 j s := by
  unfold Cert.ReferenceIdeal.Step.b11
  rw [← al_10 h]
  try rfl
set_option maxRecDepth 8192 in
theorem al_12 (h : Holds V0 s j) : (constantI S_ 32 0#32 : (Proc.devRef .tc main_while0b_call5_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call5_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call5_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call5_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x2x36x64x192 (V0 (Proc.devRef .tc main_v121_2)) (fun k => (((![V0 (Proc.devRef .tc main_v121_6), constantI S_ 32 0#32, constantI S_ 32 0#32, constantI S_ 32 0#32, constantI S_ 32 0#32] : Fin 5 → (⟨S_, .i32⟩ : BufTy).Contents (Elt F))) k (Shape.Idx.first h_S_)).toInt) sliceFits_S16x2x36x64x192_S1x2x36x64x192 : (Proc.devRef .tc main_while0b_call5_v0 : DevRef τ sig).ty.Contents (Elt F)) = Cert.ReferenceIdeal.Step.b16 j s := by
  unfold Cert.ReferenceIdeal.Step.b16
  rw [← al_12 h, ← al_13 h, ← al_14 h, ← al_15 h, h.f_2, h.n_6]
  try rfl
set_option maxRecDepth 8192 in
theorem al_17 (h : Holds V0 s j) : (shapeCast S2x36x64x192 (Host.dynamicSlice S1x2x36x64x192 (V0 (Proc.devRef .tc main_v121_2)) (fun k => (((![V0 (Proc.devRef .tc main_v121_6), constantI S_ 32 0#32, constantI S_ 32 0#32, constantI S_ 32 0#32, constantI S_ 32 0#32] : Fin 5 → (⟨S_, .i32⟩ : BufTy).Contents (Elt F))) k (Shape.Idx.first h_S_)).toInt) sliceFits_S16x2x36x64x192_S1x2x36x64x192) shapeCasts_S1x2x36x64x192_S2x36x64x192 : (Proc.devRef .tc main_while0b_v127 : DevRef τ sig).ty.Contents (Elt F)) = Cert.ReferenceIdeal.Step.b17 j s := by
  unfold Cert.ReferenceIdeal.Step.b17
  rw [← al_16 h]
  try rfl
set_option maxRecDepth 8192 in
theorem al_18 (h : Holds V0 s j) : (constantI S_ 32 0#32 : (Proc.devRef .tc main_while0b_call6_c : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call6_c_0 : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call6_c_1 : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call6_c_2 : DevRef τ sig).ty.Contents (Elt F)) = Cert.ReferenceIdeal.Step.b21 j s := by
  unfold Cert.ReferenceIdeal.Step.b21
  rfl
set_option maxRecDepth 8192 in
theorem al_22 (h : Holds V0 s j) : (Host.dynamicSlice S1x2x36x64x128 (V0 (Proc.devRef .tc main_v121_3)) (fun k => (((![V0 (Proc.devRef .tc main_v121_6), constantI S_ 32 0#32, constantI S_ 32 0#32, constantI S_ 32 0#32, constantI S_ 32 0#32] : Fin 5 → (⟨S_, .i32⟩ : BufTy).Contents (Elt F))) k (Shape.Idx.first h_S_)).toInt) sliceFits_S16x2x36x64x128_S1x2x36x64x128 : (Proc.devRef .tc main_while0b_call6_v0 : DevRef τ sig).ty.Contents (Elt F)) = Cert.ReferenceIdeal.Step.b22 j s := by
  unfold Cert.ReferenceIdeal.Step.b22
  rw [← al_18 h, ← al_19 h, ← al_20 h, ← al_21 h, h.f_3, h.n_6]
  try rfl
set_option maxRecDepth 8192 in
theorem al_23 (h : Holds V0 s j) : (shapeCast S2x36x64x128 (Host.dynamicSlice S1x2x36x64x128 (V0 (Proc.devRef .tc main_v121_3)) (fun k => (((![V0 (Proc.devRef .tc main_v121_6), constantI S_ 32 0#32, constantI S_ 32 0#32, constantI S_ 32 0#32, constantI S_ 32 0#32] : Fin 5 → (⟨S_, .i32⟩ : BufTy).Contents (Elt F))) k (Shape.Idx.first h_S_)).toInt) sliceFits_S16x2x36x64x128_S1x2x36x64x128) shapeCasts_S1x2x36x64x128_S2x36x64x128 : (Proc.devRef .tc main_while0b_v128 : DevRef τ sig).ty.Contents (Elt F)) = Cert.ReferenceIdeal.Step.b23 j s := by
  unfold Cert.ReferenceIdeal.Step.b23
  rw [← al_22 h]
  try rfl
set_option maxRecDepth 8192 in
theorem al_24 (h : Holds V0 s j) : (constantI S_ 32 0#32 : (Proc.devRef .tc main_while0b_call7_c : DevRef τ sig).ty.Contents (Elt F)) = Cert.ReferenceIdeal.Step.b24 j s := by
  unfold Cert.ReferenceIdeal.Step.b24
  rfl
set_option maxRecDepth 8192 in
theorem al_25 (h : Holds V0 s j) : (constantI S_ 32 0#32 : (Proc.devRef .tc main_while0b_call7_c_0 : DevRef τ sig).ty.Contents (Elt F)) = Cert.ReferenceIdeal.Step.b25 j s := by
  unfold Cert.ReferenceIdeal.Step.b25
  rfl
set_option maxRecDepth 8192 in
theorem al_26 (h : Holds V0 s j) : (constantI S_ 32 0#32 : (Proc.devRef .tc main_while0b_call7_c_1 : DevRef τ sig).ty.Contents (Elt F)) = Cert.ReferenceIdeal.Step.b26 j s := by
  unfold Cert.ReferenceIdeal.Step.b26
  rfl
set_option maxRecDepth 8192 in
theorem al_27 (h : Holds V0 s j) : (constantI S_ 32 0#32 : (Proc.devRef .tc main_while0b_call7_c_2 : DevRef τ sig).ty.Contents (Elt F)) = Cert.ReferenceIdeal.Step.b27 j s := by
  unfold Cert.ReferenceIdeal.Step.b27
  rfl
set_option maxRecDepth 8192 in
theorem al_28 (h : Holds V0 s j) : (Host.dynamicSlice S1x2x36x64x192 (V0 (Proc.devRef .tc main_v121_4)) (fun k => (((![V0 (Proc.devRef .tc main_v121_6), constantI S_ 32 0#32, constantI S_ 32 0#32, constantI S_ 32 0#32, constantI S_ 32 0#32] : Fin 5 → (⟨S_, .i32⟩ : BufTy).Contents (Elt F))) k (Shape.Idx.first h_S_)).toInt) sliceFits_S16x2x36x64x192_S1x2x36x64x192 : (Proc.devRef .tc main_while0b_call7_v0 : DevRef τ sig).ty.Contents (Elt F)) = Cert.ReferenceIdeal.Step.b28 j s := by
  unfold Cert.ReferenceIdeal.Step.b28
  rw [← al_24 h, ← al_25 h, ← al_26 h, ← al_27 h, h.f_4, h.n_6]
  try rfl
set_option maxRecDepth 8192 in
theorem al_29 (h : Holds V0 s j) : (shapeCast S2x36x64x192 (Host.dynamicSlice S1x2x36x64x192 (V0 (Proc.devRef .tc main_v121_4)) (fun k => (((![V0 (Proc.devRef .tc main_v121_6), constantI S_ 32 0#32, constantI S_ 32 0#32, constantI S_ 32 0#32, constantI S_ 32 0#32] : Fin 5 → (⟨S_, .i32⟩ : BufTy).Contents (Elt F))) k (Shape.Idx.first h_S_)).toInt) sliceFits_S16x2x36x64x192_S1x2x36x64x192) shapeCasts_S1x2x36x64x192_S2x36x64x192 : (Proc.devRef .tc main_while0b_v129 : DevRef τ sig).ty.Contents (Elt F)) = Cert.ReferenceIdeal.Step.b29 j s := by
  unfold Cert.ReferenceIdeal.Step.b29
  rw [← al_28 h]
  try rfl
set_option maxRecDepth 8192 in
theorem al_30 (h : Holds V0 s j) : (constantI S_ 32 0#32 : (Proc.devRef .tc main_while0b_call8_c : DevRef τ sig).ty.Contents (Elt F)) = Cert.ReferenceIdeal.Step.b30 j s := by
  unfold Cert.ReferenceIdeal.Step.b30
  rfl
set_option maxRecDepth 8192 in
theorem al_31 (h : Holds V0 s j) : (constantI S_ 32 0#32 : (Proc.devRef .tc main_while0b_call8_c_0 : DevRef τ sig).ty.Contents (Elt F)) = Cert.ReferenceIdeal.Step.b31 j s := by
  unfold Cert.ReferenceIdeal.Step.b31
  rfl
set_option maxRecDepth 8192 in
theorem al_32 (h : Holds V0 s j) : (constantI S_ 32 0#32 : (Proc.devRef .tc main_while0b_call8_c_1 : DevRef τ sig).ty.Contents (Elt F)) = Cert.ReferenceIdeal.Step.b32 j s := by
  unfold Cert.ReferenceIdeal.Step.b32
  rfl
set_option maxRecDepth 8192 in
theorem al_33 (h : Holds V0 s j) : (Host.dynamicSlice S1x2x36x192 (V0 (Proc.devRef .tc main_v121_5)) (fun k => (((![V0 (Proc.devRef .tc main_v121_6), constantI S_ 32 0#32, constantI S_ 32 0#32, constantI S_ 32 0#32] : Fin 4 → (⟨S_, .i32⟩ : BufTy).Contents (Elt F))) k (Shape.Idx.first h_S_)).toInt) sliceFits_S16x2x36x192_S1x2x36x192 : (Proc.devRef .tc main_while0b_call8_v0 : DevRef τ sig).ty.Contents (Elt F)) = Cert.ReferenceIdeal.Step.b33 j s := by
  unfold Cert.ReferenceIdeal.Step.b33
  rw [← al_30 h, ← al_31 h, ← al_32 h, h.f_5, h.n_6]
  try rfl
set_option maxRecDepth 8192 in
theorem al_34 (h : Holds V0 s j) : (shapeCast S2x36x192 (Host.dynamicSlice S1x2x36x192 (V0 (Proc.devRef .tc main_v121_5)) (fun k => (((![V0 (Proc.devRef .tc main_v121_6), constantI S_ 32 0#32, constantI S_ 32 0#32, constantI S_ 32 0#32] : Fin 4 → (⟨S_, .i32⟩ : BufTy).Contents (Elt F))) k (Shape.Idx.first h_S_)).toInt) sliceFits_S16x2x36x192_S1x2x36x192) shapeCasts_S1x2x36x192_S2x36x192 : (Proc.devRef .tc main_while0b_v130 : DevRef τ sig).ty.Contents (Elt F)) = Cert.ReferenceIdeal.Step.b34 j s := by
  unfold Cert.ReferenceIdeal.Step.b34
  rw [← al_33 h]
  try rfl
set_option maxRecDepth 8192 in
theorem al_35 (h : Holds V0 s j) : (Host.dotGeneral dot_S2x36x64x192_S2x36x192x128_S2x36x64x128_3_2_2_3_01_01 (some .fp32) (shapeCast S2x36x64x192 (Host.dynamicSlice S1x2x36x64x192 (V0 (Proc.devRef .tc main_v121_2)) (fun k => (((![V0 (Proc.devRef .tc main_v121_6), constantI S_ 32 0#32, constantI S_ 32 0#32, constantI S_ 32 0#32, constantI S_ 32 0#32] : Fin 5 → (⟨S_, .i32⟩ : BufTy).Contents (Elt F))) k (Shape.Idx.first h_S_)).toInt) sliceFits_S16x2x36x64x192_S1x2x36x64x192) shapeCasts_S1x2x36x64x192_S2x36x64x192) (V0 (Proc.devRef .tc main_v121_7)) : (Proc.devRef .tc main_while0b_v131 : DevRef τ sig).ty.Contents (Elt F)) = Cert.ReferenceIdeal.Step.b35 j s := by
  unfold Cert.ReferenceIdeal.Step.b35
  rw [← al_17 h, h.f_7]
  try rfl
set_option maxRecDepth 8192 in
theorem al_36 (h : Holds V0 s j) : (res_main_while0b_v132 V0 : (Proc.devRef .tc main_while0b_v132 : DevRef τ sig).ty.Contents (Elt F)) = Cert.ReferenceIdeal.Step.b36 j s := by
  unfold res_main_while0b_v132 Cert.ReferenceIdeal.Step.b36
  rw [← al_23 h, ← al_35 h]
  try rfl
set_option maxRecDepth 8192 in
theorem al_37 (h : Holds V0 s j) : (Host.dotGeneral dot_S2x36x64x192_S2x36x192x128_S2x36x64x128_3_2_2_3_01_01 (some .fp32) (shapeCast S2x36x64x192 (Host.dynamicSlice S1x2x36x64x192 (V0 (Proc.devRef .tc main_v121_0)) (fun k => (((![V0 (Proc.devRef .tc main_v121_6), constantI S_ 32 0#32, constantI S_ 32 0#32, constantI S_ 32 0#32, constantI S_ 32 0#32] : Fin 5 → (⟨S_, .i32⟩ : BufTy).Contents (Elt F))) k (Shape.Idx.first h_S_)).toInt) sliceFits_S16x2x36x64x192_S1x2x36x64x192) shapeCasts_S1x2x36x64x192_S2x36x64x192) (V0 (Proc.devRef .tc main_v121_7)) : (Proc.devRef .tc main_while0b_v133 : DevRef τ sig).ty.Contents (Elt F)) = Cert.ReferenceIdeal.Step.b37 j s := by
  unfold Cert.ReferenceIdeal.Step.b37
  rw [← al_5 h, h.f_7]
  try rfl
set_option maxRecDepth 8192 in
theorem al_38 (h : Holds V0 s j) : (Host.dotGeneral dot_S2x36x64x64_S2x36x64x128_S2x36x64x128_3_2_2_3_01_01 (some .fp32) (shapeCast S2x36x64x64 (Host.dynamicSlice S1x2x36x64x64 (V0 (Proc.devRef .tc main_v121_1)) (fun k => (((![V0 (Proc.devRef .tc main_v121_6), constantI S_ 32 0#32, constantI S_ 32 0#32, constantI S_ 32 0#32, constantI S_ 32 0#32] : Fin 5 → (⟨S_, .i32⟩ : BufTy).Contents (Elt F))) k (Shape.Idx.first h_S_)).toInt) sliceFits_S16x2x36x64x64_S1x2x36x64x64) shapeCasts_S1x2x36x64x64_S2x36x64x64) (res_main_while0b_v132 V0) : (Proc.devRef .tc main_while0b_v134 : DevRef τ sig).ty.Contents (Elt F)) = Cert.ReferenceIdeal.Step.b38 j s := by
  unfold Cert.ReferenceIdeal.Step.b38
  rw [← al_11 h, ← al_36 h]
  try rfl
set_option maxRecDepth 8192 in
theorem al_39 (h : Holds V0 s j) : (addf (Host.dotGeneral dot_S2x36x64x192_S2x36x192x128_S2x36x64x128_3_2_2_3_01_01 (some .fp32) (shapeCast S2x36x64x192 (Host.dynamicSlice S1x2x36x64x192 (V0 (Proc.devRef .tc main_v121_0)) (fun k => (((![V0 (Proc.devRef .tc main_v121_6), constantI S_ 32 0#32, constantI S_ 32 0#32, constantI S_ 32 0#32, constantI S_ 32 0#32] : Fin 5 → (⟨S_, .i32⟩ : BufTy).Contents (Elt F))) k (Shape.Idx.first h_S_)).toInt) sliceFits_S16x2x36x64x192_S1x2x36x64x192) shapeCasts_S1x2x36x64x192_S2x36x64x192) (V0 (Proc.devRef .tc main_v121_7))) (Host.dotGeneral dot_S2x36x64x64_S2x36x64x128_S2x36x64x128_3_2_2_3_01_01 (some .fp32) (shapeCast S2x36x64x64 (Host.dynamicSlice S1x2x36x64x64 (V0 (Proc.devRef .tc main_v121_1)) (fun k => (((![V0 (Proc.devRef .tc main_v121_6), constantI S_ 32 0#32, constantI S_ 32 0#32, constantI S_ 32 0#32, constantI S_ 32 0#32] : Fin 5 → (⟨S_, .i32⟩ : BufTy).Contents (Elt F))) k (Shape.Idx.first h_S_)).toInt) sliceFits_S16x2x36x64x64_S1x2x36x64x64) shapeCasts_S1x2x36x64x64_S2x36x64x64) (res_main_while0b_v132 V0)) : (Proc.devRef .tc main_while0b_v135 : DevRef τ sig).ty.Contents (Elt F)) = Cert.ReferenceIdeal.Step.b39 j s := by
  unfold Cert.ReferenceIdeal.Step.b39
  rw [← al_37 h, ← al_38 h]
  try rfl
set_option maxRecDepth 8192 in
theorem al_40 (h : Holds V0 s j) : (constant S_ .f32 0x3D93CD3A#32 : (Proc.devRef .tc main_while0b_cst_15 : DevRef τ sig).ty.Contents (Elt F)) = Cert.ReferenceIdeal.Step.b40 j s := by
  unfold Cert.ReferenceIdeal.Step.b40
  rfl
set_option maxRecDepth 8192 in
theorem al_41 (h : Holds V0 s j) : (broadcastInDim S2x36x64x128 ![] bcast_S_S2x36x64x128 (constant S_ .f32 0x3D93CD3A#32) : (Proc.devRef .tc main_while0b_v136 : DevRef τ sig).ty.Contents (Elt F)) = Cert.ReferenceIdeal.Step.b41 j s := by
  unfold Cert.ReferenceIdeal.Step.b41
  rw [← al_40 h]
  try rfl
set_option maxRecDepth 8192 in
theorem al_42 (h : Holds V0 s j) : (mulf (broadcastInDim S2x36x64x128 ![] bcast_S_S2x36x64x128 (constant S_ .f32 0x3D93CD3A#32)) (addf (Host.dotGeneral dot_S2x36x64x192_S2x36x192x128_S2x36x64x128_3_2_2_3_01_01 (some .fp32) (shapeCast S2x36x64x192 (Host.dynamicSlice S1x2x36x64x192 (V0 (Proc.devRef .tc main_v121_0)) (fun k => (((![V0 (Proc.devRef .tc main_v121_6), constantI S_ 32 0#32, constantI S_ 32 0#32, constantI S_ 32 0#32, constantI S_ 32 0#32] : Fin 5 → (⟨S_, .i32⟩ : BufTy).Contents (Elt F))) k (Shape.Idx.first h_S_)).toInt) sliceFits_S16x2x36x64x192_S1x2x36x64x192) shapeCasts_S1x2x36x64x192_S2x36x64x192) (V0 (Proc.devRef .tc main_v121_7))) (Host.dotGeneral dot_S2x36x64x64_S2x36x64x128_S2x36x64x128_3_2_2_3_01_01 (some .fp32) (shapeCast S2x36x64x64 (Host.dynamicSlice S1x2x36x64x64 (V0 (Proc.devRef .tc main_v121_1)) (fun k => (((![V0 (Proc.devRef .tc main_v121_6), constantI S_ 32 0#32, constantI S_ 32 0#32, constantI S_ 32 0#32, constantI S_ 32 0#32] : Fin 5 → (⟨S_, .i32⟩ : BufTy).Contents (Elt F))) k (Shape.Idx.first h_S_)).toInt) sliceFits_S16x2x36x64x64_S1x2x36x64x64) shapeCasts_S1x2x36x64x64_S2x36x64x64) (res_main_while0b_v132 V0))) : (Proc.devRef .tc main_while0b_v137 : DevRef τ sig).ty.Contents (Elt F)) = Cert.ReferenceIdeal.Step.b42 j s := by
  unfold Cert.ReferenceIdeal.Step.b42
  rw [← al_41 h, ← al_39 h]
  try rfl
set_option maxRecDepth 8192 in
theorem al_43 (h : Holds V0 s j) : (broadcastInDim S2x36x192x1 ![0, 1, 2] bcast_S2x36x192_S2x36x192x1_0_1_2 (shapeCast S2x36x192 (Host.dynamicSlice S1x2x36x192 (V0 (Proc.devRef .tc main_v121_5)) (fun k => (((![V0 (Proc.devRef .tc main_v121_6), constantI S_ 32 0#32, constantI S_ 32 0#32, constantI S_ 32 0#32] : Fin 4 → (⟨S_, .i32⟩ : BufTy).Contents (Elt F))) k (Shape.Idx.first h_S_)).toInt) sliceFits_S16x2x36x192_S1x2x36x192) shapeCasts_S1x2x36x192_S2x36x192) : (Proc.devRef .tc main_while0b_v138 : DevRef τ sig).ty.Contents (Elt F)) = Cert.ReferenceIdeal.Step.b43 j s := by
  unfold Cert.ReferenceIdeal.Step.b43
  rw [← al_34 h]
  try rfl
set_option maxRecDepth 8192 in
theorem al_44 (h : Holds V0 s j) : (broadcastInDim S2x36x192x128 ![0, 1, 2, 3] bcast_S2x36x192x1_S2x36x192x128_0_1_2_3 (broadcastInDim S2x36x192x1 ![0, 1, 2] bcast_S2x36x192_S2x36x192x1_0_1_2 (shapeCast S2x36x192 (Host.dynamicSlice S1x2x36x192 (V0 (Proc.devRef .tc main_v121_5)) (fun k => (((![V0 (Proc.devRef .tc main_v121_6), constantI S_ 32 0#32, constantI S_ 32 0#32, constantI S_ 32 0#32] : Fin 4 → (⟨S_, .i32⟩ : BufTy).Contents (Elt F))) k (Shape.Idx.first h_S_)).toInt) sliceFits_S16x2x36x192_S1x2x36x192) shapeCasts_S1x2x36x192_S2x36x192)) : (Proc.devRef .tc main_while0b_v139 : DevRef τ sig).ty.Contents (Elt F)) = Cert.ReferenceIdeal.Step.b44 j s := by
  unfold Cert.ReferenceIdeal.Step.b44
  rw [← al_43 h]
  try rfl
set_option maxRecDepth 8192 in
theorem al_45 (h : Holds V0 s j) : (mulf (broadcastInDim S2x36x192x128 ![0, 1, 2, 3] bcast_S2x36x192x1_S2x36x192x128_0_1_2_3 (broadcastInDim S2x36x192x1 ![0, 1, 2] bcast_S2x36x192_S2x36x192x1_0_1_2 (shapeCast S2x36x192 (Host.dynamicSlice S1x2x36x192 (V0 (Proc.devRef .tc main_v121_5)) (fun k => (((![V0 (Proc.devRef .tc main_v121_6), constantI S_ 32 0#32, constantI S_ 32 0#32, constantI S_ 32 0#32] : Fin 4 → (⟨S_, .i32⟩ : BufTy).Contents (Elt F))) k (Shape.Idx.first h_S_)).toInt) sliceFits_S16x2x36x192_S1x2x36x192) shapeCasts_S1x2x36x192_S2x36x192))) (V0 (Proc.devRef .tc main_v121_7)) : (Proc.devRef .tc main_while0b_v140 : DevRef τ sig).ty.Contents (Elt F)) = Cert.ReferenceIdeal.Step.b45 j s := by
  unfold Cert.ReferenceIdeal.Step.b45
  rw [← al_44 h, h.f_7]
  try rfl
set_option maxRecDepth 8192 in
theorem al_46 (h : Holds V0 s j) : (Host.dotGeneral dot_S2x36x64x192_S2x36x64x128_S2x36x192x128_2_2_3_3_01_01 (some .fp32) (shapeCast S2x36x64x192 (Host.dynamicSlice S1x2x36x64x192 (V0 (Proc.devRef .tc main_v121_4)) (fun k => (((![V0 (Proc.devRef .tc main_v121_6), constantI S_ 32 0#32, constantI S_ 32 0#32, constantI S_ 32 0#32, constantI S_ 32 0#32] : Fin 5 → (⟨S_, .i32⟩ : BufTy).Contents (Elt F))) k (Shape.Idx.first h_S_)).toInt) sliceFits_S16x2x36x64x192_S1x2x36x64x192) shapeCasts_S1x2x36x64x192_S2x36x64x192) (res_main_while0b_v132 V0) : (Proc.devRef .tc main_while0b_v141 : DevRef τ sig).ty.Contents (Elt F)) = Cert.ReferenceIdeal.Step.b46 j s := by
  unfold Cert.ReferenceIdeal.Step.b46
  rw [← al_29 h, ← al_36 h]
  try rfl
set_option maxRecDepth 8192 in
theorem al_47 (h : Holds V0 s j) : (addf (mulf (broadcastInDim S2x36x192x128 ![0, 1, 2, 3] bcast_S2x36x192x1_S2x36x192x128_0_1_2_3 (broadcastInDim S2x36x192x1 ![0, 1, 2] bcast_S2x36x192_S2x36x192x1_0_1_2 (shapeCast S2x36x192 (Host.dynamicSlice S1x2x36x192 (V0 (Proc.devRef .tc main_v121_5)) (fun k => (((![V0 (Proc.devRef .tc main_v121_6), constantI S_ 32 0#32, constantI S_ 32 0#32, constantI S_ 32 0#32] : Fin 4 → (⟨S_, .i32⟩ : BufTy).Contents (Elt F))) k (Shape.Idx.first h_S_)).toInt) sliceFits_S16x2x36x192_S1x2x36x192) shapeCasts_S1x2x36x192_S2x36x192))) (V0 (Proc.devRef .tc main_v121_7))) (Host.dotGeneral dot_S2x36x64x192_S2x36x64x128_S2x36x192x128_2_2_3_3_01_01 (some .fp32) (shapeCast S2x36x64x192 (Host.dynamicSlice S1x2x36x64x192 (V0 (Proc.devRef .tc main_v121_4)) (fun k => (((![V0 (Proc.devRef .tc main_v121_6), constantI S_ 32 0#32, constantI S_ 32 0#32, constantI S_ 32 0#32, constantI S_ 32 0#32] : Fin 5 → (⟨S_, .i32⟩ : BufTy).Contents (Elt F))) k (Shape.Idx.first h_S_)).toInt) sliceFits_S16x2x36x64x192_S1x2x36x64x192) shapeCasts_S1x2x36x64x192_S2x36x64x192) (res_main_while0b_v132 V0)) : (Proc.devRef .tc main_while0b_v142 : DevRef τ sig).ty.Contents (Elt F)) = Cert.ReferenceIdeal.Step.b47 j s := by
  unfold Cert.ReferenceIdeal.Step.b47
  rw [← al_45 h, ← al_46 h]
  try rfl
set_option maxRecDepth 8192 in
theorem al_48 (h : Holds V0 s j) : (broadcastInDim S1x2x36x64x128 ![1, 2, 3, 4] bcast_S2x36x64x128_S1x2x36x64x128_1_2_3_4 (mulf (broadcastInDim S2x36x64x128 ![] bcast_S_S2x36x64x128 (constant S_ .f32 0x3D93CD3A#32)) (addf (Host.dotGeneral dot_S2x36x64x192_S2x36x192x128_S2x36x64x128_3_2_2_3_01_01 (some .fp32) (shapeCast S2x36x64x192 (Host.dynamicSlice S1x2x36x64x192 (V0 (Proc.devRef .tc main_v121_0)) (fun k => (((![V0 (Proc.devRef .tc main_v121_6), constantI S_ 32 0#32, constantI S_ 32 0#32, constantI S_ 32 0#32, constantI S_ 32 0#32] : Fin 5 → (⟨S_, .i32⟩ : BufTy).Contents (Elt F))) k (Shape.Idx.first h_S_)).toInt) sliceFits_S16x2x36x64x192_S1x2x36x64x192) shapeCasts_S1x2x36x64x192_S2x36x64x192) (V0 (Proc.devRef .tc main_v121_7))) (Host.dotGeneral dot_S2x36x64x64_S2x36x64x128_S2x36x64x128_3_2_2_3_01_01 (some .fp32) (shapeCast S2x36x64x64 (Host.dynamicSlice S1x2x36x64x64 (V0 (Proc.devRef .tc main_v121_1)) (fun k => (((![V0 (Proc.devRef .tc main_v121_6), constantI S_ 32 0#32, constantI S_ 32 0#32, constantI S_ 32 0#32, constantI S_ 32 0#32] : Fin 5 → (⟨S_, .i32⟩ : BufTy).Contents (Elt F))) k (Shape.Idx.first h_S_)).toInt) sliceFits_S16x2x36x64x64_S1x2x36x64x64) shapeCasts_S1x2x36x64x64_S2x36x64x64) (res_main_while0b_v132 V0)))) : (Proc.devRef .tc main_while0b_call9_v0 : DevRef τ sig).ty.Contents (Elt F)) = Cert.ReferenceIdeal.Step.b48 j s := by
  unfold Cert.ReferenceIdeal.Step.b48
  rw [← al_42 h]
  try rfl
set_option maxRecDepth 8192 in
theorem al_49 (h : Holds V0 s j) : (constantI S_ 32 0#32 : (Proc.devRef .tc main_while0b_call9_c : DevRef τ sig).ty.Contents (Elt F)) = Cert.ReferenceIdeal.Step.b49 j s := by
  unfold Cert.ReferenceIdeal.Step.b49
  rfl
set_option maxRecDepth 8192 in
theorem al_50 (h : Holds V0 s j) : (constantI S_ 32 0#32 : (Proc.devRef .tc main_while0b_call9_c_0 : DevRef τ sig).ty.Contents (Elt F)) = Cert.ReferenceIdeal.Step.b50 j s := by
  unfold Cert.ReferenceIdeal.Step.b50
  rfl
set_option maxRecDepth 8192 in
theorem al_51 (h : Holds V0 s j) : (constantI S_ 32 0#32 : (Proc.devRef .tc main_while0b_call9_c_1 : DevRef τ sig).ty.Contents (Elt F)) = Cert.ReferenceIdeal.Step.b51 j s := by
  unfold Cert.ReferenceIdeal.Step.b51
  rfl
set_option maxRecDepth 8192 in
theorem al_52 (h : Holds V0 s j) : (constantI S_ 32 0#32 : (Proc.devRef .tc main_while0b_call9_c_2 : DevRef τ sig).ty.Contents (Elt F)) = Cert.ReferenceIdeal.Step.b52 j s := by
  unfold Cert.ReferenceIdeal.Step.b52
  rfl
set_option maxRecDepth 8192 in
theorem al_53 (h : Holds V0 s j) : (Host.dynamicUpdateSlice (V0 (Proc.devRef .tc main_v121_8)) (broadcastInDim S1x2x36x64x128 ![1, 2, 3, 4] bcast_S2x36x64x128_S1x2x36x64x128_1_2_3_4 (mulf (broadcastInDim S2x36x64x128 ![] bcast_S_S2x36x64x128 (constant S_ .f32 0x3D93CD3A#32)) (addf (Host.dotGeneral dot_S2x36x64x192_S2x36x192x128_S2x36x64x128_3_2_2_3_01_01 (some .fp32) (shapeCast S2x36x64x192 (Host.dynamicSlice S1x2x36x64x192 (V0 (Proc.devRef .tc main_v121_0)) (fun k => (((![V0 (Proc.devRef .tc main_v121_6), constantI S_ 32 0#32, constantI S_ 32 0#32, constantI S_ 32 0#32, constantI S_ 32 0#32] : Fin 5 → (⟨S_, .i32⟩ : BufTy).Contents (Elt F))) k (Shape.Idx.first h_S_)).toInt) sliceFits_S16x2x36x64x192_S1x2x36x64x192) shapeCasts_S1x2x36x64x192_S2x36x64x192) (V0 (Proc.devRef .tc main_v121_7))) (Host.dotGeneral dot_S2x36x64x64_S2x36x64x128_S2x36x64x128_3_2_2_3_01_01 (some .fp32) (shapeCast S2x36x64x64 (Host.dynamicSlice S1x2x36x64x64 (V0 (Proc.devRef .tc main_v121_1)) (fun k => (((![V0 (Proc.devRef .tc main_v121_6), constantI S_ 32 0#32, constantI S_ 32 0#32, constantI S_ 32 0#32, constantI S_ 32 0#32] : Fin 5 → (⟨S_, .i32⟩ : BufTy).Contents (Elt F))) k (Shape.Idx.first h_S_)).toInt) sliceFits_S16x2x36x64x64_S1x2x36x64x64) shapeCasts_S1x2x36x64x64_S2x36x64x64) (res_main_while0b_v132 V0))))) (fun k => (((![V0 (Proc.devRef .tc main_v121_6), constantI S_ 32 0#32, constantI S_ 32 0#32, constantI S_ 32 0#32, constantI S_ 32 0#32] : Fin 5 → (⟨S_, .i32⟩ : BufTy).Contents (Elt F))) k (Shape.Idx.first h_S_)).toInt) updateFits_S16x2x36x64x128_S1x2x36x64x128 : (Proc.devRef .tc main_while0b_v143 : DevRef τ sig).ty.Contents (Elt F)) = Cert.ReferenceIdeal.Step.b53 j s := by
  unfold Cert.ReferenceIdeal.Step.b53
  rw [← al_48 h, ← al_49 h, ← al_50 h, ← al_51 h, ← al_52 h, h.f_8, h.n_6]
  try rfl

/-! One trip's step of the carried values is `step`, field by field; a counter steps to the next number. -/

theorem step_7 (h : Holds V0 s j) : step_main_v121_7 V0 = (step j s).main_v121_7 := by
  unfold step_main_v121_7 Cert.ReferenceIdeal.Step.step
  show id (addf (mulf (broadcastInDim S2x36x192x128 ![0, 1, 2, 3] bcast_S2x36x192x1_S2x36x192x128_0_1_2_3 (broadcastInDim S2x36x192x1 ![0, 1, 2] bcast_S2x36x192_S2x36x192x1_0_1_2 (shapeCast S2x36x192 (Host.dynamicSlice S1x2x36x192 (V0 (Proc.devRef .tc main_v121_5)) (fun k => (((![V0 (Proc.devRef .tc main_v121_6), constantI S_ 32 0#32, constantI S_ 32 0#32, constantI S_ 32 0#32] : Fin 4 → (⟨S_, .i32⟩ : BufTy).Contents (Elt F))) k (Shape.Idx.first h_S_)).toInt) sliceFits_S16x2x36x192_S1x2x36x192) shapeCasts_S1x2x36x192_S2x36x192))) (V0 (Proc.devRef .tc main_v121_7))) (Host.dotGeneral dot_S2x36x64x192_S2x36x64x128_S2x36x192x128_2_2_3_3_01_01 (some .fp32) (shapeCast S2x36x64x192 (Host.dynamicSlice S1x2x36x64x192 (V0 (Proc.devRef .tc main_v121_4)) (fun k => (((![V0 (Proc.devRef .tc main_v121_6), constantI S_ 32 0#32, constantI S_ 32 0#32, constantI S_ 32 0#32, constantI S_ 32 0#32] : Fin 5 → (⟨S_, .i32⟩ : BufTy).Contents (Elt F))) k (Shape.Idx.first h_S_)).toInt) sliceFits_S16x2x36x64x192_S1x2x36x64x192) shapeCasts_S1x2x36x64x192_S2x36x64x192) (res_main_while0b_v132 V0))) = _
  exact al_47 h
theorem step_8 (h : Holds V0 s j) : step_main_v121_8 V0 = (step j s).main_v121_8 := by
  unfold step_main_v121_8 Cert.ReferenceIdeal.Step.step
  show id (Host.dynamicUpdateSlice (V0 (Proc.devRef .tc main_v121_8)) (broadcastInDim S1x2x36x64x128 ![1, 2, 3, 4] bcast_S2x36x64x128_S1x2x36x64x128_1_2_3_4 (mulf (broadcastInDim S2x36x64x128 ![] bcast_S_S2x36x64x128 (constant S_ .f32 0x3D93CD3A#32)) (addf (Host.dotGeneral dot_S2x36x64x192_S2x36x192x128_S2x36x64x128_3_2_2_3_01_01 (some .fp32) (shapeCast S2x36x64x192 (Host.dynamicSlice S1x2x36x64x192 (V0 (Proc.devRef .tc main_v121_0)) (fun k => (((![V0 (Proc.devRef .tc main_v121_6), constantI S_ 32 0#32, constantI S_ 32 0#32, constantI S_ 32 0#32, constantI S_ 32 0#32] : Fin 5 → (⟨S_, .i32⟩ : BufTy).Contents (Elt F))) k (Shape.Idx.first h_S_)).toInt) sliceFits_S16x2x36x64x192_S1x2x36x64x192) shapeCasts_S1x2x36x64x192_S2x36x64x192) (V0 (Proc.devRef .tc main_v121_7))) (Host.dotGeneral dot_S2x36x64x64_S2x36x64x128_S2x36x64x128_3_2_2_3_01_01 (some .fp32) (shapeCast S2x36x64x64 (Host.dynamicSlice S1x2x36x64x64 (V0 (Proc.devRef .tc main_v121_1)) (fun k => (((![V0 (Proc.devRef .tc main_v121_6), constantI S_ 32 0#32, constantI S_ 32 0#32, constantI S_ 32 0#32, constantI S_ 32 0#32] : Fin 5 → (⟨S_, .i32⟩ : BufTy).Contents (Elt F))) k (Shape.Idx.first h_S_)).toInt) sliceFits_S16x2x36x64x64_S1x2x36x64x64) shapeCasts_S1x2x36x64x64_S2x36x64x64) (res_main_while0b_v132 V0))))) (fun k => (((![V0 (Proc.devRef .tc main_v121_6), constantI S_ 32 0#32, constantI S_ 32 0#32, constantI S_ 32 0#32, constantI S_ 32 0#32] : Fin 5 → (⟨S_, .i32⟩ : BufTy).Contents (Elt F))) k (Shape.Idx.first h_S_)).toInt) updateFits_S16x2x36x64x128_S1x2x36x64x128) = _
  exact al_53 h
theorem step_6 (h : Holds V0 s j) : step_main_v121_6 V0 = constantI S_ 32 (BitVec.ofNat 32 (j + 1)) := by
  unfold step_main_v121_6
  rw [h.n_6]
  funext i
  show BitVec.ofNat 32 j + 1#32 = BitVec.ofNat 32 (j + 1)
  simp only [BitVec.ofNat_add]

set_option maxRecDepth 8192 in
theorem out_main_v124_holds (h : Holds V0 s j) : out_main_v124 V0 = Cert.ReferenceIdeal.Step.R_main_v124 s := by
  unfold out_main_v124 Cert.ReferenceIdeal.Step.R_main_v124
  rw [h.f_8]
  try rfl

/-- One trip keeps the valuation holding: `step` of the state, the same set-up values, the next number. -/
theorem holds_step (h : Holds V0 s j) : Holds (STEP V0) (step j s) (j + 1) where
  f_7 := (STEP_main_v121_7 V0).trans (step_7 h)
  f_8 := (STEP_main_v121_8 V0).trans (step_8 h)
  n_6 := (STEP_main_v121_6 V0).trans (step_6 h)
  f_0 := (STEP_main_v121_0 V0).trans h.f_0
  f_1 := (STEP_main_v121_1 V0).trans h.f_1
  f_2 := (STEP_main_v121_2 V0).trans h.f_2
  f_3 := (STEP_main_v121_3 V0).trans h.f_3
  f_4 := (STEP_main_v121_4 V0).trans h.f_4
  f_5 := (STEP_main_v121_5 V0).trans h.f_5

/-- The state the first trip starts from, of what the loop's entry contents (the frame's `Gen.Went`) holds at `init`'s parameters. -/
abbrev initState (m : (ℓ : Loc nD τ sig) → Buf (Elt F) ℓ) (ρ : Dev nD → PrngReg) (c : Dev nD) : State F :=
  init (Gen.Went m ρ c (Proc.devRef .tc main_arg7)) (Gen.Went m ρ c (Proc.devRef .tc main_arg1)) (Gen.Went m ρ c (Proc.devRef .tc main_arg3)) (Gen.Went m ρ c (Proc.devRef .tc main_arg4)) (Gen.Went m ρ c (Proc.devRef .tc main_arg5)) (Gen.Went m ρ c (Proc.devRef .tc main_arg6)) (Gen.Went m ρ c (Proc.devRef .tc main_v2_0)) (Gen.Went m ρ c (Proc.devRef .tc main_v2_1))

variable (m : (ℓ : Loc nD τ sig) → Buf (Elt F) ℓ) (ρ : Dev nD → PrngReg) (c : Dev nD)

set_option maxRecDepth 65536 in
set_option maxHeartbeats 2000000 in
/-- What @main's operations before the loop leave: the set-up values, number 0, the initial state. -/
theorem entry_holds : Holds (Gen.Went m ρ c) (initState m ρ c) 0 := by
  constructor <;> (simp only [Gen.Went, afterL_cons, afterL_nil]; after_results_simp) <;> rfl

/-- Before the `k`-th condition the loop's valuation holds the `k`-th state of any sequence that starts at `initState` and goes
    on by `step`. -/
theorem holds_iter (it : ℕ → State F) (h0 : it 0 = initState m ρ c) (hs : ∀ n, it (n + 1) = step n (it n)) :
    ∀ k, Holds (STEP^[k] (Gen.Went m ρ c)) (it k) k
  | 0 => h0 ▸ entry_holds m ρ c
  | k + 1 => by
    rw [Function.iterate_succ_apply', hs k]
    exact holds_step (holds_iter it h0 hs k)

/-- THE RESULTS as `step` iterated: every weakly fair execution of `ReferenceIdeal` terminates with each result at its field of state
    number 16 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m ρ c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v124) = Cert.ReferenceIdeal.Step.R_main_v124 (it c Gen.nT)
      ∧ r.2.mem ((c.tc : Thread nD τ).loc main_v121_7) = (it c Gen.nT).main_v121_7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    have hk := holds_iter m ρ c (it c) (h0 c) (hs c) Gen.nT
    ⟨((h c _ (Gen.mem_uc main_v124 (by decide))).trans (final_main_v124 m ρ c)).trans (out_main_v124_holds hk), ((h c _ (Gen.mem_uc main_v121_7 (by decide))).trans (final_main_v121_7 m ρ c)).trans hk.f_7, (h c _ (Gen.mem_uc main_arg0 (by decide))).trans (Gen.WN_main_arg0 m ρ c), (h c _ (Gen.mem_uc main_arg1 (by decide))).trans (Gen.WN_main_arg1 m ρ c), (h c _ (Gen.mem_uc main_arg2 (by decide))).trans (Gen.WN_main_arg2 m ρ c), (h c _ (Gen.mem_uc main_arg3 (by decide))).trans (Gen.WN_main_arg3 m ρ c), (h c _ (Gen.mem_uc main_arg4 (by decide))).trans (Gen.WN_main_arg4 m ρ c), (h c _ (Gen.mem_uc main_arg5 (by decide))).trans (Gen.WN_main_arg5 m ρ c), (h c _ (Gen.mem_uc main_arg6 (by decide))).trans (Gen.WN_main_arg6 m ρ c), (h c _ (Gen.mem_uc main_arg7 (by decide))).trans (Gen.WN_main_arg7 m ρ c)⟩) (Gen.run_main m ρ)

end Cert.ReferenceIdeal.RefRun

end
-- ==== Proof.RefFinal.lean ====
/-  The reference's results, from finite arguments, as reals. -/
module

public import proofs.«01_k».proof.Proof.RefEntry
public import proofs.«01_k».proof.Proof.RefStep
public import proofs.«01_k».proof.Proof.Inputs
public import proofs.«01_k».proof.Proof.Stages2
public import proofs.«01_k».proof.Proof.RefRun

@[expose] public section

set_option maxRecDepth 16384

noncomputable section

namespace Cert.ReferenceIdeal.RefFinal

open Idealize.ShloMosaic Idealize.ShloMosaic.TcCoe Idealize.ShloMosaic.ValueIdx Cert.ReferenceIdeal Cert.ReferenceIdeal.Gen
open Cert.KernelIdeal.Stages (scaleR scale_eq)
open Cert.ReferenceIdeal.Step Cert.ReferenceIdeal.RefRun Cert.ReferenceIdeal.Arr Cert.ReferenceIdeal.Setup Cert.ReferenceIdeal.Trip Cert.Inputs Cert.Spec

/-- The scales of the queries. -/
theorem scale9 (x1 x3 : S2x1024x36x6.Idx → BitVec 8) (x4 : S2x1024x36x128.Idx → EReal) (x5 : S2x1024x36x192.Idx → EReal) (x6 : S2x1024x36.Idx → EReal)
    (y0 y1 : S2x1024x36x192.Idx → EReal) :
    A_main_v9 (F := Ideal) x1 x3 x4 x5 x6 y0 y1 = a4 2 1024 36 6 (rd4 fun i => scale (x1 i)) := by
  rw [← a4_rd4]
  exact funext fun i => scale_pow (x1 i)
/-- The scales of the keys. -/
theorem scale23 (x1 x3 : S2x1024x36x6.Idx → BitVec 8) (x4 : S2x1024x36x128.Idx → EReal) (x5 : S2x1024x36x192.Idx → EReal) (x6 : S2x1024x36.Idx → EReal)
    (y0 y1 : S2x1024x36x192.Idx → EReal) :
    A_main_v23 (F := Ideal) x1 x3 x4 x5 x6 y0 y1 = a4 2 1024 36 6 (rd4 fun i => scale (x3 i)) := by
  rw [← a4_rd4]
  exact funext fun i => scale_pow (x3 i)

/-- Finite arguments are the arrays of their reals. -/
theorem in_of {x0 x2 : S2x1024x36x192.Idx → BitVec 8} {x1 x3 : S2x1024x36x6.Idx → BitVec 8} {x4 : S2x1024x36x128.Idx → EReal} {x5 : S2x1024x36x192.Idx → EReal}
    {x6 : S2x1024x36.Idx → EReal} {x7 : S2x36x192x128.Idx → EReal} (h : Fine x0 x2 x1 x3 x4 x5 x6 x7) :
    In x1 x3 x4 x5 x6 (fun i => Ideal.ofBits .fp8e4m3 (x0 i)) (fun i => Ideal.ofBits .fp8e4m3 (x2 i)) (argsOf x0 x2 x1 x3 x4 x5 x6 x7) where
  qs := scale9 _ _ _ _ _ _ _
  ks := scale23 _ _ _ _ _ _ _
  q := (funext fun i => code_real _ (h.q i).1 (h.q i).2 : _ = up fun i => code (x0 i)).trans (a4_rd4 _)
  k := (funext fun i => code_real _ (h.k i).1 (h.k i).2 : _ = up fun i => code (x2 i)).trans (a4_rd4 _)
  v := (funext h.v : _ = up fun i => (x4 i).toReal).trans (a4_rd4 _)
  g := (funext h.g : _ = up fun i => (x5 i).toReal).trans (a4_rd4 _)
  b := (funext h.b : _ = up fun i => (x6 i).toReal).trans (a3_rd3 _)

variable (m : (ℓ : Loc nD τ sig) → Buf (Elt Ideal) ℓ) (ρ : Dev nD → PrngReg)

/-- The loop's states. -/
def it (c : Dev nD) (n : ℕ) : State Ideal := Nat.rec (initState m ρ c) (fun n s => step n s) n

/-- The arguments as reals. -/
abbrev args (c : Dev nD) : Args :=
  argsOf (m ((c.tc : Thread nD τ).loc main_arg0)) (m ((c.tc : Thread nD τ).loc main_arg2)) (m ((c.tc : Thread nD τ).loc main_arg1))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7))
abbrev FineAt (c : Dev nD) : Prop :=
  Fine (m ((c.tc : Thread nD τ).loc main_arg0)) (m ((c.tc : Thread nD τ).loc main_arg2)) (m ((c.tc : Thread nD τ).loc main_arg1))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7))

theorem first {c : Dev nD} (h : FineAt m c) : At (args m c) scaleR 0 (it m ρ c 0) := by
  have h0 : (m ((c.tc : Thread nD τ).loc main_arg7) : S2x36x192x128.Idx → EReal) = a4 2 36 192 128 (args m c).h0 :=
    (funext h.h0 : _ = up fun i => ((m ((c.tc : Thread nD τ).loc main_arg7) : S2x36x192x128.Idx → EReal) i).toReal).trans (a4_rd4 _)
  have hs := start (in_of h) scaleR
  show At (args m c) scaleR 0 (initState m ρ c)
  unfold initState
  rw [Went_args m ρ c main_arg7 (by decide), Went_args m ρ c main_arg1 (by decide), Went_args m ρ c main_arg3 (by decide),
    Went_args m ρ c main_arg4 (by decide), Went_args m ρ c main_arg5 (by decide), Went_args m ρ c main_arg6 (by decide)]
  have e0 := Entry.v2_0 c m ρ
  have e1 := Entry.v2_1 c m ρ
  rw [show Went m ρ c (Proc.devRef .tc main_v2_0) = _ from e0, show Went m ρ c (Proc.devRef .tc main_v2_1) = _ from e1,
    show m ((c.tc : Thread nD τ).loc main_arg7) = _ from h0]
  exact hs

theorem last {c : Dev nD} (h : FineAt m c) : At (args m c) scaleR 16 (it m ρ c 16) :=
  all scale_eq (it m ρ c) (first m ρ h) (fun _ => rfl) 16 le_rfl

theorem out {c : Dev nD} (h : FineAt m c) : (R_main_v124 (it m ρ c 16) : S2x1024x4608.Idx → EReal)
    = fun ix => (((args m c).o scaleR (ix 0).val (ix 1).val ((ix 2).val / 128) ((ix 2).val % 128) : ℝ) : EReal) := out_arr (last m ρ h)
theorem state {c : Dev nD} (h : FineAt m c) : ((it m ρ c 16).main_v121_7 : S2x36x192x128.Idx → EReal)
    = fun ix => (((args m c).st (ix 0).val (ix 1).val 16 (ix 2).val (ix 3).val : ℝ) : EReal) := (last m ρ h).st

end Cert.ReferenceIdeal.RefFinal

end
-- ==== Proof.lean ====
/-  Every claim about the kernel: the three programs run, keep their arguments and end quiescent; the kernel's
    idealization is the kernel; and on numbers the kernel and the reference end with equal results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Frame
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.Pre_normal
public import proofs.«01_k».proof.Proof.PreFine
public import proofs.«01_k».proof.Proof.KHolds
public import proofs.«01_k».proof.Proof.RefFinal
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

/-- The kernel and the reference end with equal results, and the arguments are kept. -/
theorem equal : Cert.algebraic_KernelIdeal_ReferenceIdeal_pre_normal (hKernelIdeal := Cert.KernelIdeal.Gen.facts)
    (hReferenceIdeal := Cert.ReferenceIdeal.Gen.facts) (hPre_normal := Cert.Pre_normal.Gen.facts) := by
  intro m g m' g' hp hargs
  have hf : ∀ c, Cert.KernelIdeal.KHolds.FineAt m c := fun c => Cert.PreFine.fine hp c
  have hf' : ∀ c, Cert.ReferenceIdeal.RefFinal.FineAt m' c := fun c => by
    obtain ⟨h0, h1, h2, h3, h4, h5, h6, h7⟩ := hargs c
    unfold Cert.ReferenceIdeal.RefFinal.FineAt
    rw [h0, h1, h2, h3, h4, h5, h6, h7]
    exact hf c
  have ha : ∀ c, Cert.ReferenceIdeal.RefFinal.args m' c = Cert.KernelIdeal.KHolds.args m c := fun c => by
    obtain ⟨h0, h1, h2, h3, h4, h5, h6, h7⟩ := hargs c
    unfold Cert.ReferenceIdeal.RefFinal.args
    rw [h0, h1, h2, h3, h4, h5, h6, h7]
  refine ⟨fun c ix => (((Cert.KernelIdeal.KHolds.args m c).o Cert.KernelIdeal.Stages.scaleR (ix 0).val (ix 1).val ((ix 2).val / 128) ((ix 2).val % 128) : ℝ) : EReal),
    fun c ix => (((Cert.KernelIdeal.KHolds.args m c).st (ix 0).val (ix 1).val 16 (ix 2).val (ix 3).val : ℝ) : EReal), ?_, ?_⟩
  · refine (θ_run _ _ _).mono (fun r h c => ?_) (Cert.KernelIdeal.Value.run_blocks m g)
    obtain ⟨h0, h1, hk⟩ := h c
    exact ⟨h0.trans (Cert.KernelIdeal.Chain.out_arr m c _ (Cert.KernelIdeal.KHolds.holds (hf c))),
      h1.trans (Cert.KernelIdeal.Chain.state_arr m c _ (Cert.KernelIdeal.KHolds.holds (hf c))), hk⟩
  · refine (θ_run _ _ _).mono (fun r h c => ?_)
      (Cert.ReferenceIdeal.RefRun.run_iter m' g' (Cert.ReferenceIdeal.RefFinal.it m' g') (fun _ => rfl) (fun _ _ => rfl))
    obtain ⟨h0, h1, hk⟩ := h c
    refine ⟨h0.trans ?_, h1.trans ?_, hk⟩
    · refine (Cert.ReferenceIdeal.RefFinal.out m' g' (hf' c)).trans ?_
      rw [ha c]
      rfl
    · refine (Cert.ReferenceIdeal.RefFinal.state m' g' (hf' c)).trans ?_
      rw [ha c]
      rfl

/-- The three programs' frames, the kernel's idealization, and the equality of the results. -/
theorem claim : Cert.Claim := ⟨Cert.Kernel.Gen.facts, Cert.KernelIdeal.Gen.facts, Cert.ReferenceIdeal.Gen.facts, Cert.Pre_normal.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  ⟨IdealRules.bf16_pair.statement Cert.KernelIdeal.S192x128 Cert.KernelIdeal.S96x128,
    IdealRules.bf16_pair.selectZeroStatement Cert.KernelIdeal.S96x128,
    IdealRules.bf16_pair.statement Cert.KernelIdeal.S64x128 Cert.KernelIdeal.S32x128⟩,
  equal⟩

end Cert.Proof

end
